-- ==== Defs.lean ====
def Pre_Kernel [hPre_segments_in_range : Cert.Pre_segments_in_range.Facts] (m : (ℓ : Loc Cert.Kernel.nD Cert.Kernel.τ Cert.Kernel.sig) → Buf (Elt Bits) ℓ) : Prop :=
  ∀ c : Dev Cert.Kernel.nD,
    (Cert.Pre_segments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_in_range [hPre_segments_in_range : Cert.Pre_segments_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_segments_in_range : Cert.Pre_segments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_segments_in_range [hReferenceIdeal : Cert.ReferenceIdeal.Facts] [hPre_segments_in_range : Cert.Pre_segments_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_segments_in_range : Cert.Pre_segments_in_range.Facts),
    quiescent_Kernel (hKernel := hKernel) (hPre_segments_in_range := hPre_segments_in_range)
    ∧ quiescent_KernelIdeal (hKernelIdeal := hKernelIdeal) (hPre_segments_in_range := hPre_segments_in_range)
    ∧ quiescent_ReferenceIdeal (hReferenceIdeal := hReferenceIdeal)
    ∧ quiescent_ReferenceIdeal_pre_segments_in_range (hReferenceIdeal := hReferenceIdeal) (hPre_segments_in_range := hPre_segments_in_range)
    ∧ preserves_Kernel_KernelIdeal
    ∧ algebraic_KernelIdeal_ReferenceIdeal (hKernelIdeal := hKernelIdeal) (hReferenceIdeal := hReferenceIdeal) (hPre_segments_in_range := hPre_segments_in_range)
-- ==== Pre_segments_in_range.lean ====
abbrev S50000x256 : Shape := ⟨2, ![50000, 256]⟩
abbrev S50000 : Shape := ⟨1, ![50000]⟩
abbrev S128x256 : Shape := ⟨2, ![128, 256]⟩
abbrev S128 : Shape := ⟨1, ![128]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) (main_arg2 : FVec F S128x256 .f32) (main_arg3 : FVec F S128 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 512#32
  let main_v3 : IVec S50000 32 := broadcastInDim S50000 ![] bcast_S_S50000 main_c_1
  let main_v4 : IVec S50000 1 := cmpi .slt main_arg1 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  main_v6
-- ==== Kernel.lean ====
abbrev S50000x256 : Shape := ⟨2, ![50000, 256]⟩
abbrev S50000 : Shape := ⟨1, ![50000]⟩
abbrev S128x256 : Shape := ⟨2, ![128, 256]⟩
abbrev S128 : Shape := ⟨1, ![128]⟩
abbrev S16x2x65536 : Shape := ⟨3, ![16, 2, 65536]⟩
abbrev S16x2x8192 : Shape := ⟨3, ![16, 2, 8192]⟩
abbrev S65536 : Shape := ⟨1, ![65536]⟩
abbrev S8192 : Shape := ⟨1, ![8192]⟩
abbrev S80x128 : Shape := ⟨2, ![80, 128]⟩
abbrev S80 : Shape := ⟨1, ![80]⟩
abbrev S16 : Shape := ⟨1, ![16]⟩
abbrev S_ : Shape := ⟨0, ![]⟩
abbrev S1 : Shape := ⟨1, ![1]⟩
abbrev S1x16 : Shape := ⟨2, ![1, 16]⟩
abbrev S1x1x65536 : Shape := ⟨3, ![1, 1, 65536]⟩
abbrev S1x1x8192 : Shape := ⟨3, ![1, 1, 8192]⟩
abbrev S16x2x512x128 : Shape := ⟨4, ![16, 2, 512, 128]⟩
abbrev S16x2x512x16 : Shape := ⟨4, ![16, 2, 512, 16]⟩
abbrev S1x128 : Shape := ⟨2, ![1, 128]⟩
abbrev S512x128 : Shape := ⟨2, ![512, 128]⟩
abbrev S2x512x128 : Shape := ⟨3, ![2, 512, 128]⟩
abbrev S2x512x16 : Shape := ⟨3, ![2, 512, 16]⟩
abbrev S1x512x16 : Shape := ⟨3, ![1, 512, 16]⟩
abbrev S512x16 : Shape := ⟨2, ![512, 16]⟩
abbrev S512x1 : Shape := ⟨2, ![512, 1]⟩
abbrev S1x512x128 : Shape := ⟨3, ![1, 512, 128]⟩
abbrev S128x128 : Shape := ⟨2, ![128, 128]⟩

abbrev nBuf : Table → Nat
  | .hbm => 10
  | .local .tc .vmem => 5
  | .local .scVector .vmem => 4
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S128x256, .f32⟩
  | .hbm, ⟨3, _⟩ => ⟨S128, .f32⟩
  | .hbm, ⟨4, _⟩ => ⟨S16x2x65536, .f32⟩
  | .hbm, ⟨5, _⟩ => ⟨S16x2x8192, .f32⟩
  | .hbm, ⟨6, _⟩ => ⟨S16x2x512x128, .f32⟩
  | .hbm, ⟨7, _⟩ => ⟨S16x2x512x16, .f32⟩
  | .hbm, ⟨8, _⟩ => ⟨S1x128, .f32⟩
  | .hbm, ⟨9, _⟩ => ⟨S512x128, .f32⟩
  | .local .tc .vmem, ⟨0, _⟩ => ⟨S16x2x512x128, .f32⟩
  | .local .tc .vmem, ⟨1, _⟩ => ⟨S16x2x512x16, .f32⟩
  | .local .tc .vmem, ⟨2, _⟩ => ⟨S128x256, .f32⟩
  | .local .tc .vmem, ⟨3, _⟩ => ⟨S1x128, .f32⟩
  | .local .tc .vmem, ⟨4, _⟩ => ⟨S512x128, .f32⟩
  | .local .scVector .vmem, ⟨0, _⟩ => ⟨S65536, .f32⟩
  | .local .scVector .vmem, ⟨1, _⟩ => ⟨S8192, .f32⟩
  | .local .scVector .vmem, ⟨2, _⟩ => ⟨S80x128, .f32⟩
  | .local .scVector .vmem, ⟨3, _⟩ => ⟨S80, .i32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4096_i32 : BitVec 32 := 4096#32
  let v1 : BitVec 32 := Scalar.addi c0_i32_0 c4096_i32
  let c1_i32 : BitVec 32 := 1#32
  ⟨c0_i32_0, v1, c1_i32⟩
def k0_off1 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32_26 : BitVec 32 := 16#32
  let v47 : BitVec 32 := Scalar.muli arg10 c16_i32_26
  let v48 : Index := Scalar.indexCast v47
  ![v48.toNat]
@[reducible] def k0_t2_loop : Scf.Loop 32 :=
  let c0_i32_3 : BitVec 32 := 0#32
  let c512_i32 : BitVec 32 := 512#32
  let v2 : BitVec 32 := Scalar.addi c0_i32_3 c512_i32
  let c1_i32_4 : BitVec 32 := 1#32
  ⟨c0_i32_3, v2, c1_i32_4⟩
def k0_off2 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c16_i32_26 : BitVec 32 := 16#32
  let v47 : BitVec 32 := Scalar.muli arg10 c16_i32_26
  let v48 : Index := Scalar.indexCast v47
  ![v48.toNat]
@[reducible] def k0_t3_loop (i : grid0.Coords) : Scf.Loop 32 :=
  let arg1 : BitVec 32 := BitVec.ofNat 32 (i 1).val
  let c625_i32 : BitVec 32 := 625#32
  let v3 : BitVec 32 := Scalar.muli arg1 c625_i32
  let c0_i32_6 : BitVec 32 := 0#32
  let v5 : BitVec 1 := Scalar.cmpi .sgt v3 c0_i32_6
  let v6 : BitVec 32 := Scalar.extui v5
  let c0_i32_7 : BitVec 32 := 0#32
  let v7 : BitVec 1 := Scalar.cmpi .slt v3 c0_i32_7
  let v8 : BitVec 32 := Scalar.extui v7
  let v9 : BitVec 32 := Scalar.subi v6 v8
  let c16_i32 : BitVec 32 := 16#32
  let c0_i32_8 : BitVec 32 := 0#32
  let v10 : BitVec 1 := Scalar.cmpi .sgt c16_i32 c0_i32_8
  let v11 : BitVec 32 := Scalar.extui v10
  let c0_i32_9 : BitVec 32 := 0#32
  let v12 : BitVec 1 := Scalar.cmpi .slt c16_i32 c0_i32_9
  let v13 : BitVec 32 := Scalar.extui v12
  let v14 : BitVec 32 := Scalar.subi v11 v13
  let v15 : BitVec 1 := Scalar.cmpi .ne v9 v14
  let v16 : BitVec 32 := Scalar.remsi v3 c16_i32
  let c0_i32_10 : BitVec 32 := 0#32
  let v17 : BitVec 1 := Scalar.cmpi .ne v16 c0_i32_10
  let v18 : BitVec 1 := Scalar.andi v15 v17
  let v4 : BitVec 32 := Scalar.divsi v3 c16_i32
  let c1_i32_11 : BitVec 32 := 1#32
  let v19 : BitVec 32 := Scalar.subi v4 c1_i32_11
  let v20 : BitVec 32 := Scalar.select v18 v19 v4
  let c1_i32_12 : BitVec 32 := 1#32
  let v21 : BitVec 32 := Scalar.addi arg1 c1_i32_12
  let c625_i32_13 : BitVec 32 := 625#32
  let v22 : BitVec 32 := Scalar.muli v21 c625_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c16_i32_14 : BitVec 32 := 16#32
  let c0_i32_17 : BitVec 32 := 0#32
  let v29 : BitVec 1 := Scalar.cmpi .sgt c16_i32_14 c0_i32_17
  let v30 : BitVec 32 := Scalar.extui v29
  let c0_i32_18 : BitVec 32 := 0#32
  let v31 : BitVec 1 := Scalar.cmpi .slt c16_i32_14 c0_i32_18
  let v32 : BitVec 32 := Scalar.extui v31
  let v33 : BitVec 32 := Scalar.subi v30 v32
  let v34 : BitVec 1 := Scalar.cmpi .ne v28 v33
  let v35 : BitVec 32 := Scalar.remsi v22 c16_i32_14
  let c0_i32_19 : BitVec 32 := 0#32
  let v36 : BitVec 1 := Scalar.cmpi .ne v35 c0_i32_19
  let v37 : BitVec 1 := Scalar.andi v34 v36
  let v23 : BitVec 32 := Scalar.divsi v22 c16_i32_14
  let c1_i32_20 : BitVec 32 := 1#32
  let v38 : BitVec 32 := Scalar.subi v23 c1_i32_20
  let v39 : BitVec 32 := Scalar.select v37 v38 v23
  let v41 : BitVec 32 := Scalar.subi v39 v20
  let c1_i32_22 : BitVec 32 := 1#32
  let v43 : BitVec 32 := Scalar.divsi v41 c1_i32_22
  let v44 : BitVec 32 := Scalar.muli v43 c1_i32_22
  let v45 : BitVec 32 := Scalar.addi v20 v44
  let c1_i32_23 : BitVec 32 := 1#32
  ⟨v20, v45, c1_i32_23⟩
def k0_off3 (i : grid0.Coords) (k0_t3 : Fin (k0_t3_loop i).trips) : Fin 1 → Nat :=
  let arg1 : BitVec 32 := BitVec.ofNat 32 (i 1).val
  let c625_i32 : BitVec 32 := 625#32
  let v3 : BitVec 32 := Scalar.muli arg1 c625_i32
  let c0_i32_6 : BitVec 32 := 0#32
  let v5 : BitVec 1 := Scalar.cmpi .sgt v3 c0_i32_6
  let v6 : BitVec 32 := Scalar.extui v5
  let c0_i32_7 : BitVec 32 := 0#32
  let v7 : BitVec 1 := Scalar.cmpi .slt v3 c0_i32_7
  let v8 : BitVec 32 := Scalar.extui v7
  let v9 : BitVec 32 := Scalar.subi v6 v8
  let c16_i32 : BitVec 32 := 16#32
  let c0_i32_8 : BitVec 32 := 0#32
  let v10 : BitVec 1 := Scalar.cmpi .sgt c16_i32 c0_i32_8
  let v11 : BitVec 32 := Scalar.extui v10
  let c0_i32_9 : BitVec 32 := 0#32
  let v12 : BitVec 1 := Scalar.cmpi .slt c16_i32 c0_i32_9
  let v13 : BitVec 32 := Scalar.extui v12
  let v14 : BitVec 32 := Scalar.subi v11 v13
  let v15 : BitVec 1 := Scalar.cmpi .ne v9 v14
  let v16 : BitVec 32 := Scalar.remsi v3 c16_i32
  let c0_i32_10 : BitVec 32 := 0#32
  let v17 : BitVec 1 := Scalar.cmpi .ne v16 c0_i32_10
  let v18 : BitVec 1 := Scalar.andi v15 v17
  let v4 : BitVec 32 := Scalar.divsi v3 c16_i32
  let c1_i32_11 : BitVec 32 := 1#32
  let v19 : BitVec 32 := Scalar.subi v4 c1_i32_11
  let v20 : BitVec 32 := Scalar.select v18 v19 v4
  let c1_i32_23 : BitVec 32 := 1#32
  let arg10 : BitVec 32 := Scf.iv v20 c1_i32_23 k0_t3
  let c80_i32 : BitVec 32 := 80#32
  let v46 : BitVec 32 := Scalar.muli arg10 c80_i32
  ![v46.toNat]
def k0_off4 (i : grid0.Coords) (k0_t3 : Fin (k0_t3_loop i).trips) : Fin 2 → Nat :=
  let arg1 : BitVec 32 := BitVec.ofNat 32 (i 1).val
  let c625_i32 : BitVec 32 := 625#32
  let v3 : BitVec 32 := Scalar.muli arg1 c625_i32
  let c0_i32_6 : BitVec 32 := 0#32
  let v5 : BitVec 1 := Scalar.cmpi .sgt v3 c0_i32_6
  let v6 : BitVec 32 := Scalar.extui v5
  let c0_i32_7 : BitVec 32 := 0#32
  let v7 : BitVec 1 := Scalar.cmpi .slt v3 c0_i32_7
  let v8 : BitVec 32 := Scalar.extui v7
  let v9 : BitVec 32 := Scalar.subi v6 v8
  let c16_i32 : BitVec 32 := 16#32
  let c0_i32_8 : BitVec 32 := 0#32
  let v10 : BitVec 1 := Scalar.cmpi .sgt c16_i32 c0_i32_8
  let v11 : BitVec 32 := Scalar.extui v10
  let c0_i32_9 : BitVec 32 := 0#32
  let v12 : BitVec 1 := Scalar.cmpi .slt c16_i32 c0_i32_9
  let v13 : BitVec 32 := Scalar.extui v12
  let v14 : BitVec 32 := Scalar.subi v11 v13
  let v15 : BitVec 1 := Scalar.cmpi .ne v9 v14
  let v16 : BitVec 32 := Scalar.remsi v3 c16_i32
  let c0_i32_10 : BitVec 32 := 0#32
  let v17 : BitVec 1 := Scalar.cmpi .ne v16 c0_i32_10
  let v18 : BitVec 1 := Scalar.andi v15 v17
  let v4 : BitVec 32 := Scalar.divsi v3 c16_i32
  let c1_i32_11 : BitVec 32 := 1#32
  let v19 : BitVec 32 := Scalar.subi v4 c1_i32_11
  let v20 : BitVec 32 := Scalar.select v18 v19 v4
  let c1_i32_23 : BitVec 32 := 1#32
  let arg10 : BitVec 32 := Scf.iv v20 c1_i32_23 k0_t3
  let c80_i32 : BitVec 32 := 80#32
  let v46 : BitVec 32 := Scalar.muli arg10 c80_i32
  let arg0 : BitVec 32 := BitVec.ofNat 32 (i 0).val
  let c128_i32 : BitVec 32 := 128#32
  let v0 : BitVec 32 := Scalar.muli arg0 c128_i32
  ![v46.toNat, v0.toNat]
@[reducible] def k0_t4_loop : Scf.Loop 32 :=
  let c0_i32_26 : BitVec 32 := 0#32
  let c5_i32 : BitVec 32 := 5#32
  let v47 : BitVec 32 := Scalar.addi c0_i32_26 c5_i32
  let c1_i32_27 : BitVec 32 := 1#32
  ⟨c0_i32_26, v47, c1_i32_27⟩
def k0_off5 (k0_t4 : Fin k0_t4_loop.trips) : Fin 1 → Nat :=
  let c0_i32_26 : BitVec 32 := 0#32
  let c1_i32_27 : BitVec 32 := 1#32
  let arg11 : BitVec 32 := Scf.iv c0_i32_26 c1_i32_27 k0_t4
  let c16_i32_29 : BitVec 32 := 16#32
  let v48 : BitVec 32 := Scalar.muli arg11 c16_i32_29
  let v49 : Index := Scalar.indexCast v48
  ![v49.toNat]
def k0_off6 (v53 : BitVec 32) (c0_i32_33 : BitVec 32) : Fin 1 → Nat :=
  let c128_i32_32 : BitVec 32 := 128#32
  let v56 : BitVec 32 := Scalar.muli v53 c128_i32_32
  let v57 : BitVec 32 := Scalar.addi v56 c0_i32_33
  let v58 : Index := Scalar.indexCast v57
  ![v58.toNat]

def k0_off7 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v61 : Index := Scalar.indexCast v55
  let c0 : Index := 0#32
  ![v61.toNat, 0]
def k0_off8 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v73 : Index := Scalar.indexCast v55
  let c16 : Index := 16#32
  ![v73.toNat, 16]
def k0_off9 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v85 : Index := Scalar.indexCast v55
  let c32 : Index := 32#32
  ![v85.toNat, 32]
def k0_off10 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v97 : Index := Scalar.indexCast v55
  let c48 : Index := 48#32
  ![v97.toNat, 48]
def k0_off11 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v109 : Index := Scalar.indexCast v55
  let c64 : Index := 64#32
  ![v109.toNat, 64]
def k0_off12 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v121 : Index := Scalar.indexCast v55
  let c80 : Index := 80#32
  ![v121.toNat, 80]
def k0_off13 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v133 : Index := Scalar.indexCast v55
  let c96 : Index := 96#32
  ![v133.toNat, 96]
def k0_off14 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_30 : BitVec 32 := 16#32
  let v54 : BitVec 32 := Scalar.muli arg11 c16_i32_30
  let c0_i32_31 : BitVec 32 := 0#32
  let v55 : BitVec 32 := Scalar.addi v54 c0_i32_31
  let v145 : Index := Scalar.indexCast v55
  let c112 : Index := 112#32
  ![v145.toNat, 112]
def k0_off15 (v53 : BitVec 32) : Fin 1 → Nat :=
  let c16_i32_36 : BitVec 32 := 16#32
  let v153 : BitVec 32 := Scalar.muli v53 c16_i32_36
  let v154 : Index := Scalar.indexCast v153
  ![v154.toNat]

def k0_chk1 (v53 : BitVec 32) : Prop :=
  (∀ (r : Fin 8), ∀ a, (k0_off6 v53 (BitVec.ofNat 32 (16 * r.val))) a + S16.size a ≤ S65536.size a) ∧
  (∀ a, (k0_off15 v53) a + S16.size a ≤ S8192.size a)
theorem k0_off6_inb : ∀ (v53 : BitVec 32) (k0_hw1 : k0_chk1 v53), ∀ (r : Fin 8), ∀ a, (k0_off6 v53 (BitVec.ofNat 32 (16 * r.val))) a + S16.size a ≤ S65536.size a := fun v53 k0_hw1 r => k0_hw1.1 r
theorem k0_off15_inb : ∀ (v53 : BitVec 32) (k0_hw1 : k0_chk1 v53), ∀ a, (k0_off15 v53) a + S16.size a ≤ S8192.size a := fun v53 k0_hw1 => k0_hw1.2

def k0_off16 (v163 : BitVec 32) (c0_i32_40 : BitVec 32) : Fin 1 → Nat :=
  let c128_i32_39 : BitVec 32 := 128#32
  let v166 : BitVec 32 := Scalar.muli v163 c128_i32_39
  let v167 : BitVec 32 := Scalar.addi v166 c0_i32_40
  let v168 : Index := Scalar.indexCast v167
  ![v168.toNat]

def k0_off17 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v171 : Index := Scalar.indexCast v165
  let c0_41 : Index := 0#32
  ![v171.toNat, 0]
def k0_off18 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v183 : Index := Scalar.indexCast v165
  let c16_43 : Index := 16#32
  ![v183.toNat, 16]
def k0_off19 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v195 : Index := Scalar.indexCast v165
  let c32_45 : Index := 32#32
  ![v195.toNat, 32]
def k0_off20 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v207 : Index := Scalar.indexCast v165
  let c48_47 : Index := 48#32
  ![v207.toNat, 48]
def k0_off21 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v219 : Index := Scalar.indexCast v165
  let c64_49 : Index := 64#32
  ![v219.toNat, 64]
def k0_off22 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v231 : Index := Scalar.indexCast v165
  let c80_51 : Index := 80#32
  ![v231.toNat, 80]
def k0_off23 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v243 : Index := Scalar.indexCast v165
  let c96_53 : Index := 96#32
  ![v243.toNat, 96]
def k0_off24 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_37 : BitVec 32 := 16#32
  let v164 : BitVec 32 := Scalar.muli arg11 c16_i32_37
  let c1_i32_38 : BitVec 32 := 1#32
  let v165 : BitVec 32 := Scalar.addi v164 c1_i32_38
  let v255 : Index := Scalar.indexCast v165
  let c112_55 : Index := 112#32
  ![v255.toNat, 112]
def k0_off25 (v163 : BitVec 32) : Fin 1 → Nat :=
  let c16_i32_56 : BitVec 32 := 16#32
  let v263 : BitVec 32 := Scalar.muli v163 c16_i32_56
  let v264 : Index := Scalar.indexCast v263
  ![v264.toNat]

def k0_chk2 (v163 : BitVec 32) : Prop :=
  (∀ (r : Fin 8), ∀ a, (k0_off16 v163 (BitVec.ofNat 32 (16 * r.val))) a + S16.size a ≤ S65536.size a) ∧
  (∀ a, (k0_off25 v163) a + S16.size a ≤ S8192.size a)
theorem k0_off16_inb : ∀ (v163 : BitVec 32) (k0_hw2 : k0_chk2 v163), ∀ (r : Fin 8), ∀ a, (k0_off16 v163 (BitVec.ofNat 32 (16 * r.val))) a + S16.size a ≤ S65536.size a := fun v163 k0_hw2 r => k0_hw2.1 r
theorem k0_off25_inb : ∀ (v163 : BitVec 32) (k0_hw2 : k0_chk2 v163), ∀ a, (k0_off25 v163) a + S16.size a ≤ S8192.size a := fun v163 k0_hw2 => k0_hw2.2

def k0_off26 (v273 : BitVec 32) (c0_i32_59 : BitVec 32) : Fin 1 → Nat :=
  let c128_i32_58 : BitVec 32 := 128#32
  let v276 : BitVec 32 := Scalar.muli v273 c128_i32_58
  let v277 : BitVec 32 := Scalar.addi v276 c0_i32_59
  let v278 : Index := Scalar.indexCast v277
  ![v278.toNat]

def k0_off27 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v281 : Index := Scalar.indexCast v275
  let c0_60 : Index := 0#32
  ![v281.toNat, 0]
def k0_off28 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v293 : Index := Scalar.indexCast v275
  let c16_62 : Index := 16#32
  ![v293.toNat, 16]
def k0_off29 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v305 : Index := Scalar.indexCast v275
  let c32_64 : Index := 32#32
  ![v305.toNat, 32]
def k0_off30 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v317 : Index := Scalar.indexCast v275
  let c48_66 : Index := 48#32
  ![v317.toNat, 48]
def k0_off31 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v329 : Index := Scalar.indexCast v275
  let c64_68 : Index := 64#32
  ![v329.toNat, 64]
def k0_off32 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v341 : Index := Scalar.indexCast v275
  let c80_70 : Index := 80#32
  ![v341.toNat, 80]
def k0_off33 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v353 : Index := Scalar.indexCast v275
  let c96_72 : Index := 96#32
  ![v353.toNat, 96]
def k0_off34 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_57 : BitVec 32 := 16#32
  let v274 : BitVec 32 := Scalar.muli arg11 c16_i32_57
  let c2_i32 : BitVec 32 := 2#32
  let v275 : BitVec 32 := Scalar.addi v274 c2_i32
  let v365 : Index := Scalar.indexCast v275
  let c112_74 : Index := 112#32
  ![v365.toNat, 112]
def k0_off35 (v273 : BitVec 32) : Fin 1 → Nat :=
  let c16_i32_75 : BitVec 32 := 16#32
  let v373 : BitVec 32 := Scalar.muli v273 c16_i32_75
  let v374 : Index := Scalar.indexCast v373
  ![v374.toNat]

def k0_chk3 (v273 : BitVec 32) : Prop :=
  (∀ (r : Fin 8), ∀ a, (k0_off26 v273 (BitVec.ofNat 32 (16 * r.val))) a + S16.size a ≤ S65536.size a) ∧
  (∀ a, (k0_off35 v273) a + S16.size a ≤ S8192.size a)
theorem k0_off26_inb : ∀ (v273 : BitVec 32) (k0_hw3 : k0_chk3 v273), ∀ (r : Fin 8), ∀ a, (k0_off26 v273 (BitVec.ofNat 32 (16 * r.val))) a + S16.size a ≤ S65536.size a := fun v273 k0_hw3 r => k0_hw3.1 r
theorem k0_off35_inb : ∀ (v273 : BitVec 32) (k0_hw3 : k0_chk3 v273), ∀ a, (k0_off35 v273) a + S16.size a ≤ S8192.size a := fun v273 k0_hw3 => k0_hw3.2

def k0_off36 (v383 : BitVec 32) (c0_i32_78 : BitVec 32) : Fin 1 → Nat :=
  let c128_i32_77 : BitVec 32 := 128#32
  let v386 : BitVec 32 := Scalar.muli v383 c128_i32_77
  let v387 : BitVec 32 := Scalar.addi v386 c0_i32_78
  let v388 : Index := Scalar.indexCast v387
  ![v388.toNat]

def k0_off37 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v391 : Index := Scalar.indexCast v385
  let c0_79 : Index := 0#32
  ![v391.toNat, 0]
def k0_off38 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v403 : Index := Scalar.indexCast v385
  let c16_81 : Index := 16#32
  ![v403.toNat, 16]
def k0_off39 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v415 : Index := Scalar.indexCast v385
  let c32_83 : Index := 32#32
  ![v415.toNat, 32]
def k0_off40 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v427 : Index := Scalar.indexCast v385
  let c48_85 : Index := 48#32
  ![v427.toNat, 48]
def k0_off41 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v439 : Index := Scalar.indexCast v385
  let c64_87 : Index := 64#32
  ![v439.toNat, 64]
def k0_off42 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v451 : Index := Scalar.indexCast v385
  let c80_89 : Index := 80#32
  ![v451.toNat, 80]
def k0_off43 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v463 : Index := Scalar.indexCast v385
  let c96_91 : Index := 96#32
  ![v463.toNat, 96]
def k0_off44 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_76 : BitVec 32 := 16#32
  let v384 : BitVec 32 := Scalar.muli arg11 c16_i32_76
  let c3_i32 : BitVec 32 := 3#32
  let v385 : BitVec 32 := Scalar.addi v384 c3_i32
  let v475 : Index := Scalar.indexCast v385
  let c112_93 : Index := 112#32
  ![v475.toNat, 112]
def k0_off45 (v383 : BitVec 32) : Fin 1 → Nat :=
  let c16_i32_94 : BitVec 32 := 16#32
  let v483 : BitVec 32 := Scalar.muli v383 c16_i32_94
  let v484 : Index := Scalar.indexCast v483
  ![v484.toNat]

def k0_chk4 (v383 : BitVec 32) : Prop :=
  (∀ (r : Fin 8), ∀ a, (k0_off36 v383 (BitVec.ofNat 32 (16 * r.val))) a + S16.size a ≤ S65536.size a) ∧
  (∀ a, (k0_off45 v383) a + S16.size a ≤ S8192.size a)
theorem k0_off36_inb : ∀ (v383 : BitVec 32) (k0_hw4 : k0_chk4 v383), ∀ (r : Fin 8), ∀ a, (k0_off36 v383 (BitVec.ofNat 32 (16 * r.val))) a + S16.size a ≤ S65536.size a := fun v383 k0_hw4 r => k0_hw4.1 r
theorem k0_off45_inb : ∀ (v383 : BitVec 32) (k0_hw4 : k0_chk4 v383), ∀ a, (k0_off45 v383) a + S16.size a ≤ S8192.size a := fun v383 k0_hw4 => k0_hw4.2

def k0_off46 (v493 : BitVec 32) (c0_i32_97 : BitVec 32) : Fin 1 → Nat :=
  let c128_i32_96 : BitVec 32 := 128#32
  let v496 : BitVec 32 := Scalar.muli v493 c128_i32_96
  let v497 : BitVec 32 := Scalar.addi v496 c0_i32_97
  let v498 : Index := Scalar.indexCast v497
  ![v498.toNat]

def k0_off47 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v501 : Index := Scalar.indexCast v495
  let c0_98 : Index := 0#32
  ![v501.toNat, 0]
def k0_off48 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v513 : Index := Scalar.indexCast v495
  let c16_100 : Index := 16#32
  ![v513.toNat, 16]
def k0_off49 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v525 : Index := Scalar.indexCast v495
  let c32_102 : Index := 32#32
  ![v525.toNat, 32]
def k0_off50 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v537 : Index := Scalar.indexCast v495
  let c48_104 : Index := 48#32
  ![v537.toNat, 48]
def k0_off51 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v549 : Index := Scalar.indexCast v495
  let c64_106 : Index := 64#32
  ![v549.toNat, 64]
def k0_off52 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v561 : Index := Scalar.indexCast v495
  let c80_108 : Index := 80#32
  ![v561.toNat, 80]
def k0_off53 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v573 : Index := Scalar.indexCast v495
  let c96_110 : Index := 96#32
  ![v573.toNat, 96]
def k0_off54 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_95 : BitVec 32 := 16#32
  let v494 : BitVec 32 := Scalar.muli arg11 c16_i32_95
  let c4_i32 : BitVec 32 := 4#32
  let v495 : BitVec 32 := Scalar.addi v494 c4_i32
  let v585 : Index := Scalar.indexCast v495
  let c112_112 : Index := 112#32
  ![v585.toNat, 112]
def k0_off55 (v493 : BitVec 32) : Fin 1 → Nat :=
  let c16_i32_113 : BitVec 32 := 16#32
  let v593 : BitVec 32 := Scalar.muli v493 c16_i32_113
  let v594 : Index := Scalar.indexCast v593
  ![v594.toNat]

def k0_chk5 (v493 : BitVec 32) : Prop :=
  (∀ (r : Fin 8), ∀ a, (k0_off46 v493 (BitVec.ofNat 32 (16 * r.val))) a + S16.size a ≤ S65536.size a) ∧
  (∀ a, (k0_off55 v493) a + S16.size a ≤ S8192.size a)
theorem k0_off46_inb : ∀ (v493 : BitVec 32) (k0_hw5 : k0_chk5 v493), ∀ (r : Fin 8), ∀ a, (k0_off46 v493 (BitVec.ofNat 32 (16 * r.val))) a + S16.size a ≤ S65536.size a := fun v493 k0_hw5 r => k0_hw5.1 r
theorem k0_off55_inb : ∀ (v493 : BitVec 32) (k0_hw5 : k0_chk5 v493), ∀ a, (k0_off55 v493) a + S16.size a ≤ S8192.size a := fun v493 k0_hw5 => k0_hw5.2

def k0_off56 (v603 : BitVec 32) (c0_i32_117 : BitVec 32) : Fin 1 → Nat :=
  let c128_i32_116 : BitVec 32 := 128#32
  let v606 : BitVec 32 := Scalar.muli v603 c128_i32_116
  let v607 : BitVec 32 := Scalar.addi v606 c0_i32_117
  let v608 : Index := Scalar.indexCast v607
  ![v608.toNat]

def k0_off57 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v611 : Index := Scalar.indexCast v605
  let c0_118 : Index := 0#32
  ![v611.toNat, 0]
def k0_off58 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v623 : Index := Scalar.indexCast v605
  let c16_120 : Index := 16#32
  ![v623.toNat, 16]
def k0_off59 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v635 : Index := Scalar.indexCast v605
  let c32_122 : Index := 32#32
  ![v635.toNat, 32]
def k0_off60 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v647 : Index := Scalar.indexCast v605
  let c48_124 : Index := 48#32
  ![v647.toNat, 48]
def k0_off61 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v659 : Index := Scalar.indexCast v605
  let c64_126 : Index := 64#32
  ![v659.toNat, 64]
def k0_off62 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v671 : Index := Scalar.indexCast v605
  let c80_128 : Index := 80#32
  ![v671.toNat, 80]
def k0_off63 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v683 : Index := Scalar.indexCast v605
  let c96_130 : Index := 96#32
  ![v683.toNat, 96]
def k0_off64 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_114 : BitVec 32 := 16#32
  let v604 : BitVec 32 := Scalar.muli arg11 c16_i32_114
  let c5_i32_115 : BitVec 32 := 5#32
  let v605 : BitVec 32 := Scalar.addi v604 c5_i32_115
  let v695 : Index := Scalar.indexCast v605
  let c112_132 : Index := 112#32
  ![v695.toNat, 112]
def k0_off65 (v603 : BitVec 32) : Fin 1 → Nat :=
  let c16_i32_133 : BitVec 32 := 16#32
  let v703 : BitVec 32 := Scalar.muli v603 c16_i32_133
  let v704 : Index := Scalar.indexCast v703
  ![v704.toNat]

def k0_chk6 (v603 : BitVec 32) : Prop :=
  (∀ (r : Fin 8), ∀ a, (k0_off56 v603 (BitVec.ofNat 32 (16 * r.val))) a + S16.size a ≤ S65536.size a) ∧
  (∀ a, (k0_off65 v603) a + S16.size a ≤ S8192.size a)
theorem k0_off56_inb : ∀ (v603 : BitVec 32) (k0_hw6 : k0_chk6 v603), ∀ (r : Fin 8), ∀ a, (k0_off56 v603 (BitVec.ofNat 32 (16 * r.val))) a + S16.size a ≤ S65536.size a := fun v603 k0_hw6 r => k0_hw6.1 r
theorem k0_off65_inb : ∀ (v603 : BitVec 32) (k0_hw6 : k0_chk6 v603), ∀ a, (k0_off65 v603) a + S16.size a ≤ S8192.size a := fun v603 k0_hw6 => k0_hw6.2

def k0_off66 (v713 : BitVec 32) (c0_i32_136 : BitVec 32) : Fin 1 → Nat :=
  let c128_i32_135 : BitVec 32 := 128#32
  let v716 : BitVec 32 := Scalar.muli v713 c128_i32_135
  let v717 : BitVec 32 := Scalar.addi v716 c0_i32_136
  let v718 : Index := Scalar.indexCast v717
  ![v718.toNat]

def k0_off67 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v721 : Index := Scalar.indexCast v715
  let c0_137 : Index := 0#32
  ![v721.toNat, 0]
def k0_off68 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v733 : Index := Scalar.indexCast v715
  let c16_139 : Index := 16#32
  ![v733.toNat, 16]
def k0_off69 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v745 : Index := Scalar.indexCast v715
  let c32_141 : Index := 32#32
  ![v745.toNat, 32]
def k0_off70 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v757 : Index := Scalar.indexCast v715
  let c48_143 : Index := 48#32
  ![v757.toNat, 48]
def k0_off71 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v769 : Index := Scalar.indexCast v715
  let c64_145 : Index := 64#32
  ![v769.toNat, 64]
def k0_off72 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v781 : Index := Scalar.indexCast v715
  let c80_147 : Index := 80#32
  ![v781.toNat, 80]
def k0_off73 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v793 : Index := Scalar.indexCast v715
  let c96_149 : Index := 96#32
  ![v793.toNat, 96]
def k0_off74 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_134 : BitVec 32 := 16#32
  let v714 : BitVec 32 := Scalar.muli arg11 c16_i32_134
  let c6_i32 : BitVec 32 := 6#32
  let v715 : BitVec 32 := Scalar.addi v714 c6_i32
  let v805 : Index := Scalar.indexCast v715
  let c112_151 : Index := 112#32
  ![v805.toNat, 112]
def k0_off75 (v713 : BitVec 32) : Fin 1 → Nat :=
  let c16_i32_152 : BitVec 32 := 16#32
  let v813 : BitVec 32 := Scalar.muli v713 c16_i32_152
  let v814 : Index := Scalar.indexCast v813
  ![v814.toNat]

def k0_chk7 (v713 : BitVec 32) : Prop :=
  (∀ (r : Fin 8), ∀ a, (k0_off66 v713 (BitVec.ofNat 32 (16 * r.val))) a + S16.size a ≤ S65536.size a) ∧
  (∀ a, (k0_off75 v713) a + S16.size a ≤ S8192.size a)
theorem k0_off66_inb : ∀ (v713 : BitVec 32) (k0_hw7 : k0_chk7 v713), ∀ (r : Fin 8), ∀ a, (k0_off66 v713 (BitVec.ofNat 32 (16 * r.val))) a + S16.size a ≤ S65536.size a := fun v713 k0_hw7 r => k0_hw7.1 r
theorem k0_off75_inb : ∀ (v713 : BitVec 32) (k0_hw7 : k0_chk7 v713), ∀ a, (k0_off75 v713) a + S16.size a ≤ S8192.size a := fun v713 k0_hw7 => k0_hw7.2

def k0_off76 (v823 : BitVec 32) (c0_i32_155 : BitVec 32) : Fin 1 → Nat :=
  let c128_i32_154 : BitVec 32 := 128#32
  let v826 : BitVec 32 := Scalar.muli v823 c128_i32_154
  let v827 : BitVec 32 := Scalar.addi v826 c0_i32_155
  let v828 : Index := Scalar.indexCast v827
  ![v828.toNat]

def k0_off77 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v831 : Index := Scalar.indexCast v825
  let c0_156 : Index := 0#32
  ![v831.toNat, 0]
def k0_off78 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v843 : Index := Scalar.indexCast v825
  let c16_158 : Index := 16#32
  ![v843.toNat, 16]
def k0_off79 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v855 : Index := Scalar.indexCast v825
  let c32_160 : Index := 32#32
  ![v855.toNat, 32]
def k0_off80 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v867 : Index := Scalar.indexCast v825
  let c48_162 : Index := 48#32
  ![v867.toNat, 48]
def k0_off81 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v879 : Index := Scalar.indexCast v825
  let c64_164 : Index := 64#32
  ![v879.toNat, 64]
def k0_off82 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v891 : Index := Scalar.indexCast v825
  let c80_166 : Index := 80#32
  ![v891.toNat, 80]
def k0_off83 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v903 : Index := Scalar.indexCast v825
  let c96_168 : Index := 96#32
  ![v903.toNat, 96]
def k0_off84 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_153 : BitVec 32 := 16#32
  let v824 : BitVec 32 := Scalar.muli arg11 c16_i32_153
  let c7_i32 : BitVec 32 := 7#32
  let v825 : BitVec 32 := Scalar.addi v824 c7_i32
  let v915 : Index := Scalar.indexCast v825
  let c112_170 : Index := 112#32
  ![v915.toNat, 112]
def k0_off85 (v823 : BitVec 32) : Fin 1 → Nat :=
  let c16_i32_171 : BitVec 32 := 16#32
  let v923 : BitVec 32 := Scalar.muli v823 c16_i32_171
  let v924 : Index := Scalar.indexCast v923
  ![v924.toNat]

def k0_chk8 (v823 : BitVec 32) : Prop :=
  (∀ (r : Fin 8), ∀ a, (k0_off76 v823 (BitVec.ofNat 32 (16 * r.val))) a + S16.size a ≤ S65536.size a) ∧
  (∀ a, (k0_off85 v823) a + S16.size a ≤ S8192.size a)
theorem k0_off76_inb : ∀ (v823 : BitVec 32) (k0_hw8 : k0_chk8 v823), ∀ (r : Fin 8), ∀ a, (k0_off76 v823 (BitVec.ofNat 32 (16 * r.val))) a + S16.size a ≤ S65536.size a := fun v823 k0_hw8 r => k0_hw8.1 r
theorem k0_off85_inb : ∀ (v823 : BitVec 32) (k0_hw8 : k0_chk8 v823), ∀ a, (k0_off85 v823) a + S16.size a ≤ S8192.size a := fun v823 k0_hw8 => k0_hw8.2

def k0_off86 (v933 : BitVec 32) (c0_i32_174 : BitVec 32) : Fin 1 → Nat :=
  let c128_i32_173 : BitVec 32 := 128#32
  let v936 : BitVec 32 := Scalar.muli v933 c128_i32_173
  let v937 : BitVec 32 := Scalar.addi v936 c0_i32_174
  let v938 : Index := Scalar.indexCast v937
  ![v938.toNat]

def k0_off87 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v941 : Index := Scalar.indexCast v935
  let c0_175 : Index := 0#32
  ![v941.toNat, 0]
def k0_off88 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v953 : Index := Scalar.indexCast v935
  let c16_177 : Index := 16#32
  ![v953.toNat, 16]
def k0_off89 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v965 : Index := Scalar.indexCast v935
  let c32_179 : Index := 32#32
  ![v965.toNat, 32]
def k0_off90 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v977 : Index := Scalar.indexCast v935
  let c48_181 : Index := 48#32
  ![v977.toNat, 48]
def k0_off91 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v989 : Index := Scalar.indexCast v935
  let c64_183 : Index := 64#32
  ![v989.toNat, 64]
def k0_off92 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v1001 : Index := Scalar.indexCast v935
  let c80_185 : Index := 80#32
  ![v1001.toNat, 80]
def k0_off93 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v1013 : Index := Scalar.indexCast v935
  let c96_187 : Index := 96#32
  ![v1013.toNat, 96]
def k0_off94 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_172 : BitVec 32 := 16#32
  let v934 : BitVec 32 := Scalar.muli arg11 c16_i32_172
  let c8_i32 : BitVec 32 := 8#32
  let v935 : BitVec 32 := Scalar.addi v934 c8_i32
  let v1025 : Index := Scalar.indexCast v935
  let c112_189 : Index := 112#32
  ![v1025.toNat, 112]
def k0_off95 (v933 : BitVec 32) : Fin 1 → Nat :=
  let c16_i32_190 : BitVec 32 := 16#32
  let v1033 : BitVec 32 := Scalar.muli v933 c16_i32_190
  let v1034 : Index := Scalar.indexCast v1033
  ![v1034.toNat]

def k0_chk9 (v933 : BitVec 32) : Prop :=
  (∀ (r : Fin 8), ∀ a, (k0_off86 v933 (BitVec.ofNat 32 (16 * r.val))) a + S16.size a ≤ S65536.size a) ∧
  (∀ a, (k0_off95 v933) a + S16.size a ≤ S8192.size a)
theorem k0_off86_inb : ∀ (v933 : BitVec 32) (k0_hw9 : k0_chk9 v933), ∀ (r : Fin 8), ∀ a, (k0_off86 v933 (BitVec.ofNat 32 (16 * r.val))) a + S16.size a ≤ S65536.size a := fun v933 k0_hw9 r => k0_hw9.1 r
theorem k0_off95_inb : ∀ (v933 : BitVec 32) (k0_hw9 : k0_chk9 v933), ∀ a, (k0_off95 v933) a + S16.size a ≤ S8192.size a := fun v933 k0_hw9 => k0_hw9.2

def k0_off96 (v1043 : BitVec 32) (c0_i32_193 : BitVec 32) : Fin 1 → Nat :=
  let c128_i32_192 : BitVec 32 := 128#32
  let v1046 : BitVec 32 := Scalar.muli v1043 c128_i32_192
  let v1047 : BitVec 32 := Scalar.addi v1046 c0_i32_193
  let v1048 : Index := Scalar.indexCast v1047
  ![v1048.toNat]

def k0_off97 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1051 : Index := Scalar.indexCast v1045
  let c0_194 : Index := 0#32
  ![v1051.toNat, 0]
def k0_off98 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1063 : Index := Scalar.indexCast v1045
  let c16_196 : Index := 16#32
  ![v1063.toNat, 16]
def k0_off99 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1075 : Index := Scalar.indexCast v1045
  let c32_198 : Index := 32#32
  ![v1075.toNat, 32]
def k0_off100 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1087 : Index := Scalar.indexCast v1045
  let c48_200 : Index := 48#32
  ![v1087.toNat, 48]
def k0_off101 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1099 : Index := Scalar.indexCast v1045
  let c64_202 : Index := 64#32
  ![v1099.toNat, 64]
def k0_off102 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1111 : Index := Scalar.indexCast v1045
  let c80_204 : Index := 80#32
  ![v1111.toNat, 80]
def k0_off103 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1123 : Index := Scalar.indexCast v1045
  let c96_206 : Index := 96#32
  ![v1123.toNat, 96]
def k0_off104 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_191 : BitVec 32 := 16#32
  let v1044 : BitVec 32 := Scalar.muli arg11 c16_i32_191
  let c9_i32 : BitVec 32 := 9#32
  let v1045 : BitVec 32 := Scalar.addi v1044 c9_i32
  let v1135 : Index := Scalar.indexCast v1045
  let c112_208 : Index := 112#32
  ![v1135.toNat, 112]
def k0_off105 (v1043 : BitVec 32) : Fin 1 → Nat :=
  let c16_i32_209 : BitVec 32 := 16#32
  let v1143 : BitVec 32 := Scalar.muli v1043 c16_i32_209
  let v1144 : Index := Scalar.indexCast v1143
  ![v1144.toNat]

def k0_chk10 (v1043 : BitVec 32) : Prop :=
  (∀ (r : Fin 8), ∀ a, (k0_off96 v1043 (BitVec.ofNat 32 (16 * r.val))) a + S16.size a ≤ S65536.size a) ∧
  (∀ a, (k0_off105 v1043) a + S16.size a ≤ S8192.size a)
theorem k0_off96_inb : ∀ (v1043 : BitVec 32) (k0_hw10 : k0_chk10 v1043), ∀ (r : Fin 8), ∀ a, (k0_off96 v1043 (BitVec.ofNat 32 (16 * r.val))) a + S16.size a ≤ S65536.size a := fun v1043 k0_hw10 r => k0_hw10.1 r
theorem k0_off105_inb : ∀ (v1043 : BitVec 32) (k0_hw10 : k0_chk10 v1043), ∀ a, (k0_off105 v1043) a + S16.size a ≤ S8192.size a := fun v1043 k0_hw10 => k0_hw10.2

def k0_off106 (v1153 : BitVec 32) (c0_i32_212 : BitVec 32) : Fin 1 → Nat :=
  let c128_i32_211 : BitVec 32 := 128#32
  let v1156 : BitVec 32 := Scalar.muli v1153 c128_i32_211
  let v1157 : BitVec 32 := Scalar.addi v1156 c0_i32_212
  let v1158 : Index := Scalar.indexCast v1157
  ![v1158.toNat]

def k0_off107 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1161 : Index := Scalar.indexCast v1155
  let c0_213 : Index := 0#32
  ![v1161.toNat, 0]
def k0_off108 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1173 : Index := Scalar.indexCast v1155
  let c16_215 : Index := 16#32
  ![v1173.toNat, 16]
def k0_off109 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1185 : Index := Scalar.indexCast v1155
  let c32_217 : Index := 32#32
  ![v1185.toNat, 32]
def k0_off110 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1197 : Index := Scalar.indexCast v1155
  let c48_219 : Index := 48#32
  ![v1197.toNat, 48]
def k0_off111 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1209 : Index := Scalar.indexCast v1155
  let c64_221 : Index := 64#32
  ![v1209.toNat, 64]
def k0_off112 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1221 : Index := Scalar.indexCast v1155
  let c80_223 : Index := 80#32
  ![v1221.toNat, 80]
def k0_off113 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1233 : Index := Scalar.indexCast v1155
  let c96_225 : Index := 96#32
  ![v1233.toNat, 96]
def k0_off114 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_210 : BitVec 32 := 16#32
  let v1154 : BitVec 32 := Scalar.muli arg11 c16_i32_210
  let c10_i32 : BitVec 32 := 10#32
  let v1155 : BitVec 32 := Scalar.addi v1154 c10_i32
  let v1245 : Index := Scalar.indexCast v1155
  let c112_227 : Index := 112#32
  ![v1245.toNat, 112]
def k0_off115 (v1153 : BitVec 32) : Fin 1 → Nat :=
  let c16_i32_228 : BitVec 32 := 16#32
  let v1253 : BitVec 32 := Scalar.muli v1153 c16_i32_228
  let v1254 : Index := Scalar.indexCast v1253
  ![v1254.toNat]

def k0_chk11 (v1153 : BitVec 32) : Prop :=
  (∀ (r : Fin 8), ∀ a, (k0_off106 v1153 (BitVec.ofNat 32 (16 * r.val))) a + S16.size a ≤ S65536.size a) ∧
  (∀ a, (k0_off115 v1153) a + S16.size a ≤ S8192.size a)
theorem k0_off106_inb : ∀ (v1153 : BitVec 32) (k0_hw11 : k0_chk11 v1153), ∀ (r : Fin 8), ∀ a, (k0_off106 v1153 (BitVec.ofNat 32 (16 * r.val))) a + S16.size a ≤ S65536.size a := fun v1153 k0_hw11 r => k0_hw11.1 r
theorem k0_off115_inb : ∀ (v1153 : BitVec 32) (k0_hw11 : k0_chk11 v1153), ∀ a, (k0_off115 v1153) a + S16.size a ≤ S8192.size a := fun v1153 k0_hw11 => k0_hw11.2

def k0_off116 (v1263 : BitVec 32) (c0_i32_231 : BitVec 32) : Fin 1 → Nat :=
  let c128_i32_230 : BitVec 32 := 128#32
  let v1266 : BitVec 32 := Scalar.muli v1263 c128_i32_230
  let v1267 : BitVec 32 := Scalar.addi v1266 c0_i32_231
  let v1268 : Index := Scalar.indexCast v1267
  ![v1268.toNat]

def k0_off117 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1271 : Index := Scalar.indexCast v1265
  let c0_232 : Index := 0#32
  ![v1271.toNat, 0]
def k0_off118 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1283 : Index := Scalar.indexCast v1265
  let c16_234 : Index := 16#32
  ![v1283.toNat, 16]
def k0_off119 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1295 : Index := Scalar.indexCast v1265
  let c32_236 : Index := 32#32
  ![v1295.toNat, 32]
def k0_off120 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1307 : Index := Scalar.indexCast v1265
  let c48_238 : Index := 48#32
  ![v1307.toNat, 48]
def k0_off121 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1319 : Index := Scalar.indexCast v1265
  let c64_240 : Index := 64#32
  ![v1319.toNat, 64]
def k0_off122 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1331 : Index := Scalar.indexCast v1265
  let c80_242 : Index := 80#32
  ![v1331.toNat, 80]
def k0_off123 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1343 : Index := Scalar.indexCast v1265
  let c96_244 : Index := 96#32
  ![v1343.toNat, 96]
def k0_off124 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_229 : BitVec 32 := 16#32
  let v1264 : BitVec 32 := Scalar.muli arg11 c16_i32_229
  let c11_i32 : BitVec 32 := 11#32
  let v1265 : BitVec 32 := Scalar.addi v1264 c11_i32
  let v1355 : Index := Scalar.indexCast v1265
  let c112_246 : Index := 112#32
  ![v1355.toNat, 112]
def k0_off125 (v1263 : BitVec 32) : Fin 1 → Nat :=
  let c16_i32_247 : BitVec 32 := 16#32
  let v1363 : BitVec 32 := Scalar.muli v1263 c16_i32_247
  let v1364 : Index := Scalar.indexCast v1363
  ![v1364.toNat]

def k0_chk12 (v1263 : BitVec 32) : Prop :=
  (∀ (r : Fin 8), ∀ a, (k0_off116 v1263 (BitVec.ofNat 32 (16 * r.val))) a + S16.size a ≤ S65536.size a) ∧
  (∀ a, (k0_off125 v1263) a + S16.size a ≤ S8192.size a)
theorem k0_off116_inb : ∀ (v1263 : BitVec 32) (k0_hw12 : k0_chk12 v1263), ∀ (r : Fin 8), ∀ a, (k0_off116 v1263 (BitVec.ofNat 32 (16 * r.val))) a + S16.size a ≤ S65536.size a := fun v1263 k0_hw12 r => k0_hw12.1 r
theorem k0_off125_inb : ∀ (v1263 : BitVec 32) (k0_hw12 : k0_chk12 v1263), ∀ a, (k0_off125 v1263) a + S16.size a ≤ S8192.size a := fun v1263 k0_hw12 => k0_hw12.2

def k0_off126 (v1373 : BitVec 32) (c0_i32_250 : BitVec 32) : Fin 1 → Nat :=
  let c128_i32_249 : BitVec 32 := 128#32
  let v1376 : BitVec 32 := Scalar.muli v1373 c128_i32_249
  let v1377 : BitVec 32 := Scalar.addi v1376 c0_i32_250
  let v1378 : Index := Scalar.indexCast v1377
  ![v1378.toNat]

def k0_off127 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1381 : Index := Scalar.indexCast v1375
  let c0_251 : Index := 0#32
  ![v1381.toNat, 0]
def k0_off128 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1393 : Index := Scalar.indexCast v1375
  let c16_253 : Index := 16#32
  ![v1393.toNat, 16]
def k0_off129 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1405 : Index := Scalar.indexCast v1375
  let c32_255 : Index := 32#32
  ![v1405.toNat, 32]
def k0_off130 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1417 : Index := Scalar.indexCast v1375
  let c48_257 : Index := 48#32
  ![v1417.toNat, 48]
def k0_off131 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1429 : Index := Scalar.indexCast v1375
  let c64_259 : Index := 64#32
  ![v1429.toNat, 64]
def k0_off132 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1441 : Index := Scalar.indexCast v1375
  let c80_261 : Index := 80#32
  ![v1441.toNat, 80]
def k0_off133 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1453 : Index := Scalar.indexCast v1375
  let c96_263 : Index := 96#32
  ![v1453.toNat, 96]
def k0_off134 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_248 : BitVec 32 := 16#32
  let v1374 : BitVec 32 := Scalar.muli arg11 c16_i32_248
  let c12_i32 : BitVec 32 := 12#32
  let v1375 : BitVec 32 := Scalar.addi v1374 c12_i32
  let v1465 : Index := Scalar.indexCast v1375
  let c112_265 : Index := 112#32
  ![v1465.toNat, 112]
def k0_off135 (v1373 : BitVec 32) : Fin 1 → Nat :=
  let c16_i32_266 : BitVec 32 := 16#32
  let v1473 : BitVec 32 := Scalar.muli v1373 c16_i32_266
  let v1474 : Index := Scalar.indexCast v1473
  ![v1474.toNat]

def k0_chk13 (v1373 : BitVec 32) : Prop :=
  (∀ (r : Fin 8), ∀ a, (k0_off126 v1373 (BitVec.ofNat 32 (16 * r.val))) a + S16.size a ≤ S65536.size a) ∧
  (∀ a, (k0_off135 v1373) a + S16.size a ≤ S8192.size a)
theorem k0_off126_inb : ∀ (v1373 : BitVec 32) (k0_hw13 : k0_chk13 v1373), ∀ (r : Fin 8), ∀ a, (k0_off126 v1373 (BitVec.ofNat 32 (16 * r.val))) a + S16.size a ≤ S65536.size a := fun v1373 k0_hw13 r => k0_hw13.1 r
theorem k0_off135_inb : ∀ (v1373 : BitVec 32) (k0_hw13 : k0_chk13 v1373), ∀ a, (k0_off135 v1373) a + S16.size a ≤ S8192.size a := fun v1373 k0_hw13 => k0_hw13.2

def k0_off136 (v1483 : BitVec 32) (c0_i32_269 : BitVec 32) : Fin 1 → Nat :=
  let c128_i32_268 : BitVec 32 := 128#32
  let v1486 : BitVec 32 := Scalar.muli v1483 c128_i32_268
  let v1487 : BitVec 32 := Scalar.addi v1486 c0_i32_269
  let v1488 : Index := Scalar.indexCast v1487
  ![v1488.toNat]

def k0_off137 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1491 : Index := Scalar.indexCast v1485
  let c0_270 : Index := 0#32
  ![v1491.toNat, 0]
def k0_off138 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1503 : Index := Scalar.indexCast v1485
  let c16_272 : Index := 16#32
  ![v1503.toNat, 16]
def k0_off139 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1515 : Index := Scalar.indexCast v1485
  let c32_274 : Index := 32#32
  ![v1515.toNat, 32]
def k0_off140 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1527 : Index := Scalar.indexCast v1485
  let c48_276 : Index := 48#32
  ![v1527.toNat, 48]
def k0_off141 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1539 : Index := Scalar.indexCast v1485
  let c64_278 : Index := 64#32
  ![v1539.toNat, 64]
def k0_off142 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1551 : Index := Scalar.indexCast v1485
  let c80_280 : Index := 80#32
  ![v1551.toNat, 80]
def k0_off143 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1563 : Index := Scalar.indexCast v1485
  let c96_282 : Index := 96#32
  ![v1563.toNat, 96]
def k0_off144 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_267 : BitVec 32 := 16#32
  let v1484 : BitVec 32 := Scalar.muli arg11 c16_i32_267
  let c13_i32 : BitVec 32 := 13#32
  let v1485 : BitVec 32 := Scalar.addi v1484 c13_i32
  let v1575 : Index := Scalar.indexCast v1485
  let c112_284 : Index := 112#32
  ![v1575.toNat, 112]
def k0_off145 (v1483 : BitVec 32) : Fin 1 → Nat :=
  let c16_i32_285 : BitVec 32 := 16#32
  let v1583 : BitVec 32 := Scalar.muli v1483 c16_i32_285
  let v1584 : Index := Scalar.indexCast v1583
  ![v1584.toNat]

def k0_chk14 (v1483 : BitVec 32) : Prop :=
  (∀ (r : Fin 8), ∀ a, (k0_off136 v1483 (BitVec.ofNat 32 (16 * r.val))) a + S16.size a ≤ S65536.size a) ∧
  (∀ a, (k0_off145 v1483) a + S16.size a ≤ S8192.size a)
theorem k0_off136_inb : ∀ (v1483 : BitVec 32) (k0_hw14 : k0_chk14 v1483), ∀ (r : Fin 8), ∀ a, (k0_off136 v1483 (BitVec.ofNat 32 (16 * r.val))) a + S16.size a ≤ S65536.size a := fun v1483 k0_hw14 r => k0_hw14.1 r
theorem k0_off145_inb : ∀ (v1483 : BitVec 32) (k0_hw14 : k0_chk14 v1483), ∀ a, (k0_off145 v1483) a + S16.size a ≤ S8192.size a := fun v1483 k0_hw14 => k0_hw14.2

def k0_off146 (v1593 : BitVec 32) (c0_i32_288 : BitVec 32) : Fin 1 → Nat :=
  let c128_i32_287 : BitVec 32 := 128#32
  let v1596 : BitVec 32 := Scalar.muli v1593 c128_i32_287
  let v1597 : BitVec 32 := Scalar.addi v1596 c0_i32_288
  let v1598 : Index := Scalar.indexCast v1597
  ![v1598.toNat]

def k0_off147 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1601 : Index := Scalar.indexCast v1595
  let c0_289 : Index := 0#32
  ![v1601.toNat, 0]
def k0_off148 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1613 : Index := Scalar.indexCast v1595
  let c16_291 : Index := 16#32
  ![v1613.toNat, 16]
def k0_off149 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1625 : Index := Scalar.indexCast v1595
  let c32_293 : Index := 32#32
  ![v1625.toNat, 32]
def k0_off150 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1637 : Index := Scalar.indexCast v1595
  let c48_295 : Index := 48#32
  ![v1637.toNat, 48]
def k0_off151 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1649 : Index := Scalar.indexCast v1595
  let c64_297 : Index := 64#32
  ![v1649.toNat, 64]
def k0_off152 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1661 : Index := Scalar.indexCast v1595
  let c80_299 : Index := 80#32
  ![v1661.toNat, 80]
def k0_off153 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1673 : Index := Scalar.indexCast v1595
  let c96_301 : Index := 96#32
  ![v1673.toNat, 96]
def k0_off154 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_286 : BitVec 32 := 16#32
  let v1594 : BitVec 32 := Scalar.muli arg11 c16_i32_286
  let c14_i32 : BitVec 32 := 14#32
  let v1595 : BitVec 32 := Scalar.addi v1594 c14_i32
  let v1685 : Index := Scalar.indexCast v1595
  let c112_303 : Index := 112#32
  ![v1685.toNat, 112]
def k0_off155 (v1593 : BitVec 32) : Fin 1 → Nat :=
  let c16_i32_304 : BitVec 32 := 16#32
  let v1693 : BitVec 32 := Scalar.muli v1593 c16_i32_304
  let v1694 : Index := Scalar.indexCast v1693
  ![v1694.toNat]

def k0_chk15 (v1593 : BitVec 32) : Prop :=
  (∀ (r : Fin 8), ∀ a, (k0_off146 v1593 (BitVec.ofNat 32 (16 * r.val))) a + S16.size a ≤ S65536.size a) ∧
  (∀ a, (k0_off155 v1593) a + S16.size a ≤ S8192.size a)
theorem k0_off146_inb : ∀ (v1593 : BitVec 32) (k0_hw15 : k0_chk15 v1593), ∀ (r : Fin 8), ∀ a, (k0_off146 v1593 (BitVec.ofNat 32 (16 * r.val))) a + S16.size a ≤ S65536.size a := fun v1593 k0_hw15 r => k0_hw15.1 r
theorem k0_off155_inb : ∀ (v1593 : BitVec 32) (k0_hw15 : k0_chk15 v1593), ∀ a, (k0_off155 v1593) a + S16.size a ≤ S8192.size a := fun v1593 k0_hw15 => k0_hw15.2

def k0_off156 (v1703 : BitVec 32) (c0_i32_307 : BitVec 32) : Fin 1 → Nat :=
  let c128_i32_306 : BitVec 32 := 128#32
  let v1706 : BitVec 32 := Scalar.muli v1703 c128_i32_306
  let v1707 : BitVec 32 := Scalar.addi v1706 c0_i32_307
  let v1708 : Index := Scalar.indexCast v1707
  ![v1708.toNat]

def k0_off157 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1711 : Index := Scalar.indexCast v1705
  let c0_308 : Index := 0#32
  ![v1711.toNat, 0]
def k0_off158 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1723 : Index := Scalar.indexCast v1705
  let c16_310 : Index := 16#32
  ![v1723.toNat, 16]
def k0_off159 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1735 : Index := Scalar.indexCast v1705
  let c32_312 : Index := 32#32
  ![v1735.toNat, 32]
def k0_off160 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1747 : Index := Scalar.indexCast v1705
  let c48_314 : Index := 48#32
  ![v1747.toNat, 48]
def k0_off161 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1759 : Index := Scalar.indexCast v1705
  let c64_316 : Index := 64#32
  ![v1759.toNat, 64]
def k0_off162 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1771 : Index := Scalar.indexCast v1705
  let c80_318 : Index := 80#32
  ![v1771.toNat, 80]
def k0_off163 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1783 : Index := Scalar.indexCast v1705
  let c96_320 : Index := 96#32
  ![v1783.toNat, 96]
def k0_off164 (k0_t4 : Fin k0_t4_loop.trips) : Fin 2 → Nat :=
  let c0_i32_26 : BitVec 32 := 0#32
  let c1_i32_27 : BitVec 32 := 1#32
  let arg11 : BitVec 32 := Scf.iv c0_i32_26 c1_i32_27 k0_t4
  let c16_i32_305 : BitVec 32 := 16#32
  let v1704 : BitVec 32 := Scalar.muli arg11 c16_i32_305
  let c15_i32 : BitVec 32 := 15#32
  let v1705 : BitVec 32 := Scalar.addi v1704 c15_i32
  let v1795 : Index := Scalar.indexCast v1705
  let c112_322 : Index := 112#32
  ![v1795.toNat, 112]
def k0_off165 (v1703 : BitVec 32) : Fin 1 → Nat :=
  let c16_i32_323 : BitVec 32 := 16#32
  let v1803 : BitVec 32 := Scalar.muli v1703 c16_i32_323
  let v1804 : Index := Scalar.indexCast v1803
  ![v1804.toNat]

def k0_chk16 (v1703 : BitVec 32) : Prop :=
  (∀ (r : Fin 8), ∀ a, (k0_off156 v1703 (BitVec.ofNat 32 (16 * r.val))) a + S16.size a ≤ S65536.size a) ∧
  (∀ a, (k0_off165 v1703) a + S16.size a ≤ S8192.size a)
theorem k0_off156_inb : ∀ (v1703 : BitVec 32) (k0_hw16 : k0_chk16 v1703), ∀ (r : Fin 8), ∀ a, (k0_off156 v1703 (BitVec.ofNat 32 (16 * r.val))) a + S16.size a ≤ S65536.size a := fun v1703 k0_hw16 r => k0_hw16.1 r
theorem k0_off165_inb : ∀ (v1703 : BitVec 32) (k0_hw16 : k0_chk16 v1703), ∀ a, (k0_off165 v1703) a + S16.size a ≤ S8192.size a := fun v1703 k0_hw16 => k0_hw16.2

@[reducible] def k0_t5_loop (i : grid0.Coords) : Scf.Loop 32 :=
  let arg1 : BitVec 32 := BitVec.ofNat 32 (i 1).val
  let c625_i32 : BitVec 32 := 625#32
  let v3 : BitVec 32 := Scalar.muli arg1 c625_i32
  let c0_i32_6 : BitVec 32 := 0#32
  let v5 : BitVec 1 := Scalar.cmpi .sgt v3 c0_i32_6
  let v6 : BitVec 32 := Scalar.extui v5
  let c0_i32_7 : BitVec 32 := 0#32
  let v7 : BitVec 1 := Scalar.cmpi .slt v3 c0_i32_7
  let v8 : BitVec 32 := Scalar.extui v7
  let v9 : BitVec 32 := Scalar.subi v6 v8
  let c16_i32 : BitVec 32 := 16#32
  let c0_i32_8 : BitVec 32 := 0#32
  let v10 : BitVec 1 := Scalar.cmpi .sgt c16_i32 c0_i32_8
  let v11 : BitVec 32 := Scalar.extui v10
  let c0_i32_9 : BitVec 32 := 0#32
  let v12 : BitVec 1 := Scalar.cmpi .slt c16_i32 c0_i32_9
  let v13 : BitVec 32 := Scalar.extui v12
  let v14 : BitVec 32 := Scalar.subi v11 v13
  let v15 : BitVec 1 := Scalar.cmpi .ne v9 v14
  let v16 : BitVec 32 := Scalar.remsi v3 c16_i32
  let c0_i32_10 : BitVec 32 := 0#32
  let v17 : BitVec 1 := Scalar.cmpi .ne v16 c0_i32_10
  let v18 : BitVec 1 := Scalar.andi v15 v17
  let v4 : BitVec 32 := Scalar.divsi v3 c16_i32
  let c1_i32_11 : BitVec 32 := 1#32
  let v19 : BitVec 32 := Scalar.subi v4 c1_i32_11
  let v20 : BitVec 32 := Scalar.select v18 v19 v4
  let c1_i32_12 : BitVec 32 := 1#32
  let v21 : BitVec 32 := Scalar.addi arg1 c1_i32_12
  let c625_i32_13 : BitVec 32 := 625#32
  let v22 : BitVec 32 := Scalar.muli v21 c625_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c16_i32_14 : BitVec 32 := 16#32
  let c0_i32_17 : BitVec 32 := 0#32
  let v29 : BitVec 1 := Scalar.cmpi .sgt c16_i32_14 c0_i32_17
  let v30 : BitVec 32 := Scalar.extui v29
  let c0_i32_18 : BitVec 32 := 0#32
  let v31 : BitVec 1 := Scalar.cmpi .slt c16_i32_14 c0_i32_18
  let v32 : BitVec 32 := Scalar.extui v31
  let v33 : BitVec 32 := Scalar.subi v30 v32
  let v34 : BitVec 1 := Scalar.cmpi .ne v28 v33
  let v35 : BitVec 32 := Scalar.remsi v22 c16_i32_14
  let c0_i32_19 : BitVec 32 := 0#32
  let v36 : BitVec 1 := Scalar.cmpi .ne v35 c0_i32_19
  let v37 : BitVec 1 := Scalar.andi v34 v36
  let v23 : BitVec 32 := Scalar.divsi v22 c16_i32_14
  let c1_i32_20 : BitVec 32 := 1#32
  let v38 : BitVec 32 := Scalar.subi v23 c1_i32_20
  let v39 : BitVec 32 := Scalar.select v37 v38 v23
  let v41 : BitVec 32 := Scalar.subi v39 v20
  let c1_i32_22 : BitVec 32 := 1#32
  let v43 : BitVec 32 := Scalar.divsi v41 c1_i32_22
  let v44 : BitVec 32 := Scalar.muli v43 c1_i32_22
  let v45 : BitVec 32 := Scalar.addi v20 v44
  let v42 : BitVec 32 := Scalar.addi v20 v41
  let c1_i32_24 : BitVec 32 := 1#32
  ⟨v45, v42, c1_i32_24⟩
def k0_off166 (i : grid0.Coords) (k0_t5 : Fin (k0_t5_loop i).trips) : Fin 1 → Nat :=
  let arg1 : BitVec 32 := BitVec.ofNat 32 (i 1).val
  let c625_i32 : BitVec 32 := 625#32
  let v3 : BitVec 32 := Scalar.muli arg1 c625_i32
  let c0_i32_6 : BitVec 32 := 0#32
  let v5 : BitVec 1 := Scalar.cmpi .sgt v3 c0_i32_6
  let v6 : BitVec 32 := Scalar.extui v5
  let c0_i32_7 : BitVec 32 := 0#32
  let v7 : BitVec 1 := Scalar.cmpi .slt v3 c0_i32_7
  let v8 : BitVec 32 := Scalar.extui v7
  let v9 : BitVec 32 := Scalar.subi v6 v8
  let c16_i32 : BitVec 32 := 16#32
  let c0_i32_8 : BitVec 32 := 0#32
  let v10 : BitVec 1 := Scalar.cmpi .sgt c16_i32 c0_i32_8
  let v11 : BitVec 32 := Scalar.extui v10
  let c0_i32_9 : BitVec 32 := 0#32
  let v12 : BitVec 1 := Scalar.cmpi .slt c16_i32 c0_i32_9
  let v13 : BitVec 32 := Scalar.extui v12
  let v14 : BitVec 32 := Scalar.subi v11 v13
  let v15 : BitVec 1 := Scalar.cmpi .ne v9 v14
  let v16 : BitVec 32 := Scalar.remsi v3 c16_i32
  let c0_i32_10 : BitVec 32 := 0#32
  let v17 : BitVec 1 := Scalar.cmpi .ne v16 c0_i32_10
  let v18 : BitVec 1 := Scalar.andi v15 v17
  let v4 : BitVec 32 := Scalar.divsi v3 c16_i32
  let c1_i32_11 : BitVec 32 := 1#32
  let v19 : BitVec 32 := Scalar.subi v4 c1_i32_11
  let v20 : BitVec 32 := Scalar.select v18 v19 v4
  let c1_i32_12 : BitVec 32 := 1#32
  let v21 : BitVec 32 := Scalar.addi arg1 c1_i32_12
  let c625_i32_13 : BitVec 32 := 625#32
  let v22 : BitVec 32 := Scalar.muli v21 c625_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c16_i32_14 : BitVec 32 := 16#32
  let c0_i32_17 : BitVec 32 := 0#32
  let v29 : BitVec 1 := Scalar.cmpi .sgt c16_i32_14 c0_i32_17
  let v30 : BitVec 32 := Scalar.extui v29
  let c0_i32_18 : BitVec 32 := 0#32
  let v31 : BitVec 1 := Scalar.cmpi .slt c16_i32_14 c0_i32_18
  let v32 : BitVec 32 := Scalar.extui v31
  let v33 : BitVec 32 := Scalar.subi v30 v32
  let v34 : BitVec 1 := Scalar.cmpi .ne v28 v33
  let v35 : BitVec 32 := Scalar.remsi v22 c16_i32_14
  let c0_i32_19 : BitVec 32 := 0#32
  let v36 : BitVec 1 := Scalar.cmpi .ne v35 c0_i32_19
  let v37 : BitVec 1 := Scalar.andi v34 v36
  let v23 : BitVec 32 := Scalar.divsi v22 c16_i32_14
  let c1_i32_20 : BitVec 32 := 1#32
  let v38 : BitVec 32 := Scalar.subi v23 c1_i32_20
  let v39 : BitVec 32 := Scalar.select v37 v38 v23
  let v41 : BitVec 32 := Scalar.subi v39 v20
  let c1_i32_22 : BitVec 32 := 1#32
  let v43 : BitVec 32 := Scalar.divsi v41 c1_i32_22
  let v44 : BitVec 32 := Scalar.muli v43 c1_i32_22
  let v45 : BitVec 32 := Scalar.addi v20 v44
  let c1_i32_24 : BitVec 32 := 1#32
  let arg10 : BitVec 32 := Scf.iv v45 c1_i32_24 k0_t5
  let c80_i32 : BitVec 32 := 80#32
  let v46 : BitVec 32 := Scalar.muli arg10 c80_i32
  ![v46.toNat]
def k0_off167 (i : grid0.Coords) (k0_t5 : Fin (k0_t5_loop i).trips) : Fin 2 → Nat :=
  let arg1 : BitVec 32 := BitVec.ofNat 32 (i 1).val
  let c625_i32 : BitVec 32 := 625#32
  let v3 : BitVec 32 := Scalar.muli arg1 c625_i32
  let c0_i32_6 : BitVec 32 := 0#32
  let v5 : BitVec 1 := Scalar.cmpi .sgt v3 c0_i32_6
  let v6 : BitVec 32 := Scalar.extui v5
  let c0_i32_7 : BitVec 32 := 0#32
  let v7 : BitVec 1 := Scalar.cmpi .slt v3 c0_i32_7
  let v8 : BitVec 32 := Scalar.extui v7
  let v9 : BitVec 32 := Scalar.subi v6 v8
  let c16_i32 : BitVec 32 := 16#32
  let c0_i32_8 : BitVec 32 := 0#32
  let v10 : BitVec 1 := Scalar.cmpi .sgt c16_i32 c0_i32_8
  let v11 : BitVec 32 := Scalar.extui v10
  let c0_i32_9 : BitVec 32 := 0#32
  let v12 : BitVec 1 := Scalar.cmpi .slt c16_i32 c0_i32_9
  let v13 : BitVec 32 := Scalar.extui v12
  let v14 : BitVec 32 := Scalar.subi v11 v13
  let v15 : BitVec 1 := Scalar.cmpi .ne v9 v14
  let v16 : BitVec 32 := Scalar.remsi v3 c16_i32
  let c0_i32_10 : BitVec 32 := 0#32
  let v17 : BitVec 1 := Scalar.cmpi .ne v16 c0_i32_10
  let v18 : BitVec 1 := Scalar.andi v15 v17
  let v4 : BitVec 32 := Scalar.divsi v3 c16_i32
  let c1_i32_11 : BitVec 32 := 1#32
  let v19 : BitVec 32 := Scalar.subi v4 c1_i32_11
  let v20 : BitVec 32 := Scalar.select v18 v19 v4
  let c1_i32_12 : BitVec 32 := 1#32
  let v21 : BitVec 32 := Scalar.addi arg1 c1_i32_12
  let c625_i32_13 : BitVec 32 := 625#32
  let v22 : BitVec 32 := Scalar.muli v21 c625_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c16_i32_14 : BitVec 32 := 16#32
  let c0_i32_17 : BitVec 32 := 0#32
  let v29 : BitVec 1 := Scalar.cmpi .sgt c16_i32_14 c0_i32_17
  let v30 : BitVec 32 := Scalar.extui v29
  let c0_i32_18 : BitVec 32 := 0#32
  let v31 : BitVec 1 := Scalar.cmpi .slt c16_i32_14 c0_i32_18
  let v32 : BitVec 32 := Scalar.extui v31
  let v33 : BitVec 32 := Scalar.subi v30 v32
  let v34 : BitVec 1 := Scalar.cmpi .ne v28 v33
  let v35 : BitVec 32 := Scalar.remsi v22 c16_i32_14
  let c0_i32_19 : BitVec 32 := 0#32
  let v36 : BitVec 1 := Scalar.cmpi .ne v35 c0_i32_19
  let v37 : BitVec 1 := Scalar.andi v34 v36
  let v23 : BitVec 32 := Scalar.divsi v22 c16_i32_14
  let c1_i32_20 : BitVec 32 := 1#32
  let v38 : BitVec 32 := Scalar.subi v23 c1_i32_20
  let v39 : BitVec 32 := Scalar.select v37 v38 v23
  let v41 : BitVec 32 := Scalar.subi v39 v20
  let c1_i32_22 : BitVec 32 := 1#32
  let v43 : BitVec 32 := Scalar.divsi v41 c1_i32_22
  let v44 : BitVec 32 := Scalar.muli v43 c1_i32_22
  let v45 : BitVec 32 := Scalar.addi v20 v44
  let c1_i32_24 : BitVec 32 := 1#32
  let arg10 : BitVec 32 := Scf.iv v45 c1_i32_24 k0_t5
  let c80_i32 : BitVec 32 := 80#32
  let v46 : BitVec 32 := Scalar.muli arg10 c80_i32
  let arg0 : BitVec 32 := BitVec.ofNat 32 (i 0).val
  let c128_i32 : BitVec 32 := 128#32
  let v0 : BitVec 32 := Scalar.muli arg0 c128_i32
  ![v46.toNat, v0.toNat]
@[reducible] def k0_t6_loop : Scf.Loop 32 :=
  let c0_i32_26 : BitVec 32 := 0#32
  let c5_i32 : BitVec 32 := 5#32
  let v47 : BitVec 32 := Scalar.addi c0_i32_26 c5_i32
  let c1_i32_27 : BitVec 32 := 1#32
  ⟨c0_i32_26, v47, c1_i32_27⟩
def k0_off168 (k0_t6 : Fin k0_t6_loop.trips) : Fin 1 → Nat :=
  let c0_i32_26 : BitVec 32 := 0#32
  let c1_i32_27 : BitVec 32 := 1#32
  let arg11 : BitVec 32 := Scf.iv c0_i32_26 c1_i32_27 k0_t6
  let c16_i32_29 : BitVec 32 := 16#32
  let v48 : BitVec 32 := Scalar.muli arg11 c16_i32_29
  let v49 : Index := Scalar.indexCast v48
  ![v49.toNat]
def k0_off169 (v53 : BitVec 32) (c0_i32_33 : BitVec 32) : Fin 1 → Nat :=
  let c128_i32_32 : BitVec 32 := 128#32
  let v56 : BitVec 32 := Scalar.muli v53 c128_i32_32
  let v57 : BitVec 32 := Scalar.addi v56 c0_i32_33
  let v58 : Index := Scalar.indexCast v57
  ![v58.toNat]

def k0_off170 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v61 : Index := Scalar.indexCast v55
  let c0 : Index := 0#32
  ![v61.toNat, 0]
def k0_off171 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v73 : Index := Scalar.indexCast v55
  let c16 : Index := 16#32
  ![v73.toNat, 16]
def k0_off172 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v85 : Index := Scalar.indexCast v55
  let c32 : Index := 32#32
  ![v85.toNat, 32]
def k0_off173 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v97 : Index := Scalar.indexCast v55
  let c48 : Index := 48#32
  ![v97.toNat, 48]
def k0_off174 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v109 : Index := Scalar.indexCast v55
  let c64 : Index := 64#32
  ![v109.toNat, 64]
def k0_off175 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v121 : Index := Scalar.indexCast v55
  let c80 : Index := 80#32
  ![v121.toNat, 80]
def k0_off176 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v133 : Index := Scalar.indexCast v55
  let c96 : Index := 96#32
  ![v133.toNat, 96]
def k0_off177 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_30 : BitVec 32 := 16#32
  let v54 : BitVec 32 := Scalar.muli arg11 c16_i32_30
  let c0_i32_31 : BitVec 32 := 0#32
  let v55 : BitVec 32 := Scalar.addi v54 c0_i32_31
  let v145 : Index := Scalar.indexCast v55
  let c112 : Index := 112#32
  ![v145.toNat, 112]
def k0_off178 (v53 : BitVec 32) : Fin 1 → Nat :=
  let c16_i32_36 : BitVec 32 := 16#32
  let v153 : BitVec 32 := Scalar.muli v53 c16_i32_36
  let v154 : Index := Scalar.indexCast v153
  ![v154.toNat]

def k0_chk17 (i : grid0.Coords) (k0_t5 : Fin (k0_t5_loop i).trips) (v53 : BitVec 32) : Prop :=
  (∀ (r : Fin 8), ∀ a, (k0_off169 v53 (BitVec.ofNat 32 (16 * r.val))) a + S16.size a ≤ S65536.size a) ∧
  (∀ a, (k0_off178 v53) a + S16.size a ≤ S8192.size a)
theorem k0_off169_inb : ∀ (i : grid0.Coords) (k0_t5 : Fin (k0_t5_loop i).trips) (v53 : BitVec 32) (k0_hw17 : k0_chk17 i k0_t5 v53), ∀ (r : Fin 8), ∀ a, (k0_off169 v53 (BitVec.ofNat 32 (16 * r.val))) a + S16.size a ≤ S65536.size a := fun i k0_t5 v53 k0_hw17 r => k0_hw17.1 r
theorem k0_off178_inb : ∀ (i : grid0.Coords) (k0_t5 : Fin (k0_t5_loop i).trips) (v53 : BitVec 32) (k0_hw17 : k0_chk17 i k0_t5 v53), ∀ a, (k0_off178 v53) a + S16.size a ≤ S8192.size a := fun i k0_t5 v53 k0_hw17 => k0_hw17.2

def k0_off179 (v163 : BitVec 32) (c0_i32_40 : BitVec 32) : Fin 1 → Nat :=
  let c128_i32_39 : BitVec 32 := 128#32
  let v166 : BitVec 32 := Scalar.muli v163 c128_i32_39
  let v167 : BitVec 32 := Scalar.addi v166 c0_i32_40
  let v168 : Index := Scalar.indexCast v167
  ![v168.toNat]

def k0_off180 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v171 : Index := Scalar.indexCast v165
  let c0_41 : Index := 0#32
  ![v171.toNat, 0]
def k0_off181 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v183 : Index := Scalar.indexCast v165
  let c16_43 : Index := 16#32
  ![v183.toNat, 16]
def k0_off182 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v195 : Index := Scalar.indexCast v165
  let c32_45 : Index := 32#32
  ![v195.toNat, 32]
def k0_off183 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v207 : Index := Scalar.indexCast v165
  let c48_47 : Index := 48#32
  ![v207.toNat, 48]
def k0_off184 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v219 : Index := Scalar.indexCast v165
  let c64_49 : Index := 64#32
  ![v219.toNat, 64]
def k0_off185 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v231 : Index := Scalar.indexCast v165
  let c80_51 : Index := 80#32
  ![v231.toNat, 80]
def k0_off186 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v243 : Index := Scalar.indexCast v165
  let c96_53 : Index := 96#32
  ![v243.toNat, 96]
def k0_off187 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_37 : BitVec 32 := 16#32
  let v164 : BitVec 32 := Scalar.muli arg11 c16_i32_37
  let c1_i32_38 : BitVec 32 := 1#32
  let v165 : BitVec 32 := Scalar.addi v164 c1_i32_38
  let v255 : Index := Scalar.indexCast v165
  let c112_55 : Index := 112#32
  ![v255.toNat, 112]
def k0_off188 (v163 : BitVec 32) : Fin 1 → Nat :=
  let c16_i32_56 : BitVec 32 := 16#32
  let v263 : BitVec 32 := Scalar.muli v163 c16_i32_56
  let v264 : Index := Scalar.indexCast v263
  ![v264.toNat]

def k0_chk18 (i : grid0.Coords) (k0_t5 : Fin (k0_t5_loop i).trips) (v163 : BitVec 32) : Prop :=
  (∀ (r : Fin 8), ∀ a, (k0_off179 v163 (BitVec.ofNat 32 (16 * r.val))) a + S16.size a ≤ S65536.size a) ∧
  (∀ a, (k0_off188 v163) a + S16.size a ≤ S8192.size a)
theorem k0_off179_inb : ∀ (i : grid0.Coords) (k0_t5 : Fin (k0_t5_loop i).trips) (v163 : BitVec 32) (k0_hw18 : k0_chk18 i k0_t5 v163), ∀ (r : Fin 8), ∀ a, (k0_off179 v163 (BitVec.ofNat 32 (16 * r.val))) a + S16.size a ≤ S65536.size a := fun i k0_t5 v163 k0_hw18 r => k0_hw18.1 r
theorem k0_off188_inb : ∀ (i : grid0.Coords) (k0_t5 : Fin (k0_t5_loop i).trips) (v163 : BitVec 32) (k0_hw18 : k0_chk18 i k0_t5 v163), ∀ a, (k0_off188 v163) a + S16.size a ≤ S8192.size a := fun i k0_t5 v163 k0_hw18 => k0_hw18.2

def k0_off189 (v273 : BitVec 32) (c0_i32_59 : BitVec 32) : Fin 1 → Nat :=
  let c128_i32_58 : BitVec 32 := 128#32
  let v276 : BitVec 32 := Scalar.muli v273 c128_i32_58
  let v277 : BitVec 32 := Scalar.addi v276 c0_i32_59
  let v278 : Index := Scalar.indexCast v277
  ![v278.toNat]

def k0_off190 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v281 : Index := Scalar.indexCast v275
  let c0_60 : Index := 0#32
  ![v281.toNat, 0]
def k0_off191 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v293 : Index := Scalar.indexCast v275
  let c16_62 : Index := 16#32
  ![v293.toNat, 16]
def k0_off192 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v305 : Index := Scalar.indexCast v275
  let c32_64 : Index := 32#32
  ![v305.toNat, 32]
def k0_off193 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v317 : Index := Scalar.indexCast v275
  let c48_66 : Index := 48#32
  ![v317.toNat, 48]
def k0_off194 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v329 : Index := Scalar.indexCast v275
  let c64_68 : Index := 64#32
  ![v329.toNat, 64]
def k0_off195 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v341 : Index := Scalar.indexCast v275
  let c80_70 : Index := 80#32
  ![v341.toNat, 80]
def k0_off196 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v353 : Index := Scalar.indexCast v275
  let c96_72 : Index := 96#32
  ![v353.toNat, 96]
def k0_off197 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_57 : BitVec 32 := 16#32
  let v274 : BitVec 32 := Scalar.muli arg11 c16_i32_57
  let c2_i32 : BitVec 32 := 2#32
  let v275 : BitVec 32 := Scalar.addi v274 c2_i32
  let v365 : Index := Scalar.indexCast v275
  let c112_74 : Index := 112#32
  ![v365.toNat, 112]
def k0_off198 (v273 : BitVec 32) : Fin 1 → Nat :=
  let c16_i32_75 : BitVec 32 := 16#32
  let v373 : BitVec 32 := Scalar.muli v273 c16_i32_75
  let v374 : Index := Scalar.indexCast v373
  ![v374.toNat]

def k0_chk19 (i : grid0.Coords) (k0_t5 : Fin (k0_t5_loop i).trips) (v273 : BitVec 32) : Prop :=
  (∀ (r : Fin 8), ∀ a, (k0_off189 v273 (BitVec.ofNat 32 (16 * r.val))) a + S16.size a ≤ S65536.size a) ∧
  (∀ a, (k0_off198 v273) a + S16.size a ≤ S8192.size a)
theorem k0_off189_inb : ∀ (i : grid0.Coords) (k0_t5 : Fin (k0_t5_loop i).trips) (v273 : BitVec 32) (k0_hw19 : k0_chk19 i k0_t5 v273), ∀ (r : Fin 8), ∀ a, (k0_off189 v273 (BitVec.ofNat 32 (16 * r.val))) a + S16.size a ≤ S65536.size a := fun i k0_t5 v273 k0_hw19 r => k0_hw19.1 r
theorem k0_off198_inb : ∀ (i : grid0.Coords) (k0_t5 : Fin (k0_t5_loop i).trips) (v273 : BitVec 32) (k0_hw19 : k0_chk19 i k0_t5 v273), ∀ a, (k0_off198 v273) a + S16.size a ≤ S8192.size a := fun i k0_t5 v273 k0_hw19 => k0_hw19.2

def k0_off199 (v383 : BitVec 32) (c0_i32_78 : BitVec 32) : Fin 1 → Nat :=
  let c128_i32_77 : BitVec 32 := 128#32
  let v386 : BitVec 32 := Scalar.muli v383 c128_i32_77
  let v387 : BitVec 32 := Scalar.addi v386 c0_i32_78
  let v388 : Index := Scalar.indexCast v387
  ![v388.toNat]

def k0_off200 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v391 : Index := Scalar.indexCast v385
  let c0_79 : Index := 0#32
  ![v391.toNat, 0]
def k0_off201 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v403 : Index := Scalar.indexCast v385
  let c16_81 : Index := 16#32
  ![v403.toNat, 16]
def k0_off202 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v415 : Index := Scalar.indexCast v385
  let c32_83 : Index := 32#32
  ![v415.toNat, 32]
def k0_off203 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v427 : Index := Scalar.indexCast v385
  let c48_85 : Index := 48#32
  ![v427.toNat, 48]
def k0_off204 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v439 : Index := Scalar.indexCast v385
  let c64_87 : Index := 64#32
  ![v439.toNat, 64]
def k0_off205 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v451 : Index := Scalar.indexCast v385
  let c80_89 : Index := 80#32
  ![v451.toNat, 80]
def k0_off206 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v463 : Index := Scalar.indexCast v385
  let c96_91 : Index := 96#32
  ![v463.toNat, 96]
def k0_off207 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_76 : BitVec 32 := 16#32
  let v384 : BitVec 32 := Scalar.muli arg11 c16_i32_76
  let c3_i32 : BitVec 32 := 3#32
  let v385 : BitVec 32 := Scalar.addi v384 c3_i32
  let v475 : Index := Scalar.indexCast v385
  let c112_93 : Index := 112#32
  ![v475.toNat, 112]
def k0_off208 (v383 : BitVec 32) : Fin 1 → Nat :=
  let c16_i32_94 : BitVec 32 := 16#32
  let v483 : BitVec 32 := Scalar.muli v383 c16_i32_94
  let v484 : Index := Scalar.indexCast v483
  ![v484.toNat]

def k0_chk20 (i : grid0.Coords) (k0_t5 : Fin (k0_t5_loop i).trips) (v383 : BitVec 32) : Prop :=
  (∀ (r : Fin 8), ∀ a, (k0_off199 v383 (BitVec.ofNat 32 (16 * r.val))) a + S16.size a ≤ S65536.size a) ∧
  (∀ a, (k0_off208 v383) a + S16.size a ≤ S8192.size a)
theorem k0_off199_inb : ∀ (i : grid0.Coords) (k0_t5 : Fin (k0_t5_loop i).trips) (v383 : BitVec 32) (k0_hw20 : k0_chk20 i k0_t5 v383), ∀ (r : Fin 8), ∀ a, (k0_off199 v383 (BitVec.ofNat 32 (16 * r.val))) a + S16.size a ≤ S65536.size a := fun i k0_t5 v383 k0_hw20 r => k0_hw20.1 r
theorem k0_off208_inb : ∀ (i : grid0.Coords) (k0_t5 : Fin (k0_t5_loop i).trips) (v383 : BitVec 32) (k0_hw20 : k0_chk20 i k0_t5 v383), ∀ a, (k0_off208 v383) a + S16.size a ≤ S8192.size a := fun i k0_t5 v383 k0_hw20 => k0_hw20.2

def k0_off209 (v493 : BitVec 32) (c0_i32_97 : BitVec 32) : Fin 1 → Nat :=
  let c128_i32_96 : BitVec 32 := 128#32
  let v496 : BitVec 32 := Scalar.muli v493 c128_i32_96
  let v497 : BitVec 32 := Scalar.addi v496 c0_i32_97
  let v498 : Index := Scalar.indexCast v497
  ![v498.toNat]

def k0_off210 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v501 : Index := Scalar.indexCast v495
  let c0_98 : Index := 0#32
  ![v501.toNat, 0]
def k0_off211 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v513 : Index := Scalar.indexCast v495
  let c16_100 : Index := 16#32
  ![v513.toNat, 16]
def k0_off212 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v525 : Index := Scalar.indexCast v495
  let c32_102 : Index := 32#32
  ![v525.toNat, 32]
def k0_off213 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v537 : Index := Scalar.indexCast v495
  let c48_104 : Index := 48#32
  ![v537.toNat, 48]
def k0_off214 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v549 : Index := Scalar.indexCast v495
  let c64_106 : Index := 64#32
  ![v549.toNat, 64]
def k0_off215 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v561 : Index := Scalar.indexCast v495
  let c80_108 : Index := 80#32
  ![v561.toNat, 80]
def k0_off216 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v573 : Index := Scalar.indexCast v495
  let c96_110 : Index := 96#32
  ![v573.toNat, 96]
def k0_off217 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_95 : BitVec 32 := 16#32
  let v494 : BitVec 32 := Scalar.muli arg11 c16_i32_95
  let c4_i32 : BitVec 32 := 4#32
  let v495 : BitVec 32 := Scalar.addi v494 c4_i32
  let v585 : Index := Scalar.indexCast v495
  let c112_112 : Index := 112#32
  ![v585.toNat, 112]
def k0_off218 (v493 : BitVec 32) : Fin 1 → Nat :=
  let c16_i32_113 : BitVec 32 := 16#32
  let v593 : BitVec 32 := Scalar.muli v493 c16_i32_113
  let v594 : Index := Scalar.indexCast v593
  ![v594.toNat]

def k0_chk21 (i : grid0.Coords) (k0_t5 : Fin (k0_t5_loop i).trips) (v493 : BitVec 32) : Prop :=
  (∀ (r : Fin 8), ∀ a, (k0_off209 v493 (BitVec.ofNat 32 (16 * r.val))) a + S16.size a ≤ S65536.size a) ∧
  (∀ a, (k0_off218 v493) a + S16.size a ≤ S8192.size a)
theorem k0_off209_inb : ∀ (i : grid0.Coords) (k0_t5 : Fin (k0_t5_loop i).trips) (v493 : BitVec 32) (k0_hw21 : k0_chk21 i k0_t5 v493), ∀ (r : Fin 8), ∀ a, (k0_off209 v493 (BitVec.ofNat 32 (16 * r.val))) a + S16.size a ≤ S65536.size a := fun i k0_t5 v493 k0_hw21 r => k0_hw21.1 r
theorem k0_off218_inb : ∀ (i : grid0.Coords) (k0_t5 : Fin (k0_t5_loop i).trips) (v493 : BitVec 32) (k0_hw21 : k0_chk21 i k0_t5 v493), ∀ a, (k0_off218 v493) a + S16.size a ≤ S8192.size a := fun i k0_t5 v493 k0_hw21 => k0_hw21.2

def k0_off219 (v603 : BitVec 32) (c0_i32_117 : BitVec 32) : Fin 1 → Nat :=
  let c128_i32_116 : BitVec 32 := 128#32
  let v606 : BitVec 32 := Scalar.muli v603 c128_i32_116
  let v607 : BitVec 32 := Scalar.addi v606 c0_i32_117
  let v608 : Index := Scalar.indexCast v607
  ![v608.toNat]

def k0_off220 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v611 : Index := Scalar.indexCast v605
  let c0_118 : Index := 0#32
  ![v611.toNat, 0]
def k0_off221 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v623 : Index := Scalar.indexCast v605
  let c16_120 : Index := 16#32
  ![v623.toNat, 16]
def k0_off222 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v635 : Index := Scalar.indexCast v605
  let c32_122 : Index := 32#32
  ![v635.toNat, 32]
def k0_off223 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v647 : Index := Scalar.indexCast v605
  let c48_124 : Index := 48#32
  ![v647.toNat, 48]
def k0_off224 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v659 : Index := Scalar.indexCast v605
  let c64_126 : Index := 64#32
  ![v659.toNat, 64]
def k0_off225 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v671 : Index := Scalar.indexCast v605
  let c80_128 : Index := 80#32
  ![v671.toNat, 80]
def k0_off226 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v683 : Index := Scalar.indexCast v605
  let c96_130 : Index := 96#32
  ![v683.toNat, 96]
def k0_off227 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_114 : BitVec 32 := 16#32
  let v604 : BitVec 32 := Scalar.muli arg11 c16_i32_114
  let c5_i32_115 : BitVec 32 := 5#32
  let v605 : BitVec 32 := Scalar.addi v604 c5_i32_115
  let v695 : Index := Scalar.indexCast v605
  let c112_132 : Index := 112#32
  ![v695.toNat, 112]
def k0_off228 (v603 : BitVec 32) : Fin 1 → Nat :=
  let c16_i32_133 : BitVec 32 := 16#32
  let v703 : BitVec 32 := Scalar.muli v603 c16_i32_133
  let v704 : Index := Scalar.indexCast v703
  ![v704.toNat]

def k0_chk22 (i : grid0.Coords) (k0_t5 : Fin (k0_t5_loop i).trips) (v603 : BitVec 32) : Prop :=
  (∀ (r : Fin 8), ∀ a, (k0_off219 v603 (BitVec.ofNat 32 (16 * r.val))) a + S16.size a ≤ S65536.size a) ∧
  (∀ a, (k0_off228 v603) a + S16.size a ≤ S8192.size a)
theorem k0_off219_inb : ∀ (i : grid0.Coords) (k0_t5 : Fin (k0_t5_loop i).trips) (v603 : BitVec 32) (k0_hw22 : k0_chk22 i k0_t5 v603), ∀ (r : Fin 8), ∀ a, (k0_off219 v603 (BitVec.ofNat 32 (16 * r.val))) a + S16.size a ≤ S65536.size a := fun i k0_t5 v603 k0_hw22 r => k0_hw22.1 r
theorem k0_off228_inb : ∀ (i : grid0.Coords) (k0_t5 : Fin (k0_t5_loop i).trips) (v603 : BitVec 32) (k0_hw22 : k0_chk22 i k0_t5 v603), ∀ a, (k0_off228 v603) a + S16.size a ≤ S8192.size a := fun i k0_t5 v603 k0_hw22 => k0_hw22.2

def k0_off229 (v713 : BitVec 32) (c0_i32_136 : BitVec 32) : Fin 1 → Nat :=
  let c128_i32_135 : BitVec 32 := 128#32
  let v716 : BitVec 32 := Scalar.muli v713 c128_i32_135
  let v717 : BitVec 32 := Scalar.addi v716 c0_i32_136
  let v718 : Index := Scalar.indexCast v717
  ![v718.toNat]

def k0_off230 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v721 : Index := Scalar.indexCast v715
  let c0_137 : Index := 0#32
  ![v721.toNat, 0]
def k0_off231 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v733 : Index := Scalar.indexCast v715
  let c16_139 : Index := 16#32
  ![v733.toNat, 16]
def k0_off232 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v745 : Index := Scalar.indexCast v715
  let c32_141 : Index := 32#32
  ![v745.toNat, 32]
def k0_off233 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v757 : Index := Scalar.indexCast v715
  let c48_143 : Index := 48#32
  ![v757.toNat, 48]
def k0_off234 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v769 : Index := Scalar.indexCast v715
  let c64_145 : Index := 64#32
  ![v769.toNat, 64]
def k0_off235 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v781 : Index := Scalar.indexCast v715
  let c80_147 : Index := 80#32
  ![v781.toNat, 80]
def k0_off236 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v793 : Index := Scalar.indexCast v715
  let c96_149 : Index := 96#32
  ![v793.toNat, 96]
def k0_off237 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_134 : BitVec 32 := 16#32
  let v714 : BitVec 32 := Scalar.muli arg11 c16_i32_134
  let c6_i32 : BitVec 32 := 6#32
  let v715 : BitVec 32 := Scalar.addi v714 c6_i32
  let v805 : Index := Scalar.indexCast v715
  let c112_151 : Index := 112#32
  ![v805.toNat, 112]
def k0_off238 (v713 : BitVec 32) : Fin 1 → Nat :=
  let c16_i32_152 : BitVec 32 := 16#32
  let v813 : BitVec 32 := Scalar.muli v713 c16_i32_152
  let v814 : Index := Scalar.indexCast v813
  ![v814.toNat]

def k0_chk23 (i : grid0.Coords) (k0_t5 : Fin (k0_t5_loop i).trips) (v713 : BitVec 32) : Prop :=
  (∀ (r : Fin 8), ∀ a, (k0_off229 v713 (BitVec.ofNat 32 (16 * r.val))) a + S16.size a ≤ S65536.size a) ∧
  (∀ a, (k0_off238 v713) a + S16.size a ≤ S8192.size a)
theorem k0_off229_inb : ∀ (i : grid0.Coords) (k0_t5 : Fin (k0_t5_loop i).trips) (v713 : BitVec 32) (k0_hw23 : k0_chk23 i k0_t5 v713), ∀ (r : Fin 8), ∀ a, (k0_off229 v713 (BitVec.ofNat 32 (16 * r.val))) a + S16.size a ≤ S65536.size a := fun i k0_t5 v713 k0_hw23 r => k0_hw23.1 r
theorem k0_off238_inb : ∀ (i : grid0.Coords) (k0_t5 : Fin (k0_t5_loop i).trips) (v713 : BitVec 32) (k0_hw23 : k0_chk23 i k0_t5 v713), ∀ a, (k0_off238 v713) a + S16.size a ≤ S8192.size a := fun i k0_t5 v713 k0_hw23 => k0_hw23.2

def k0_off239 (v823 : BitVec 32) (c0_i32_155 : BitVec 32) : Fin 1 → Nat :=
  let c128_i32_154 : BitVec 32 := 128#32
  let v826 : BitVec 32 := Scalar.muli v823 c128_i32_154
  let v827 : BitVec 32 := Scalar.addi v826 c0_i32_155
  let v828 : Index := Scalar.indexCast v827
  ![v828.toNat]

def k0_off240 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v831 : Index := Scalar.indexCast v825
  let c0_156 : Index := 0#32
  ![v831.toNat, 0]
def k0_off241 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v843 : Index := Scalar.indexCast v825
  let c16_158 : Index := 16#32
  ![v843.toNat, 16]
def k0_off242 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v855 : Index := Scalar.indexCast v825
  let c32_160 : Index := 32#32
  ![v855.toNat, 32]
def k0_off243 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v867 : Index := Scalar.indexCast v825
  let c48_162 : Index := 48#32
  ![v867.toNat, 48]
def k0_off244 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v879 : Index := Scalar.indexCast v825
  let c64_164 : Index := 64#32
  ![v879.toNat, 64]
def k0_off245 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v891 : Index := Scalar.indexCast v825
  let c80_166 : Index := 80#32
  ![v891.toNat, 80]
def k0_off246 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v903 : Index := Scalar.indexCast v825
  let c96_168 : Index := 96#32
  ![v903.toNat, 96]
def k0_off247 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_153 : BitVec 32 := 16#32
  let v824 : BitVec 32 := Scalar.muli arg11 c16_i32_153
  let c7_i32 : BitVec 32 := 7#32
  let v825 : BitVec 32 := Scalar.addi v824 c7_i32
  let v915 : Index := Scalar.indexCast v825
  let c112_170 : Index := 112#32
  ![v915.toNat, 112]
def k0_off248 (v823 : BitVec 32) : Fin 1 → Nat :=
  let c16_i32_171 : BitVec 32 := 16#32
  let v923 : BitVec 32 := Scalar.muli v823 c16_i32_171
  let v924 : Index := Scalar.indexCast v923
  ![v924.toNat]

def k0_chk24 (i : grid0.Coords) (k0_t5 : Fin (k0_t5_loop i).trips) (v823 : BitVec 32) : Prop :=
  (∀ (r : Fin 8), ∀ a, (k0_off239 v823 (BitVec.ofNat 32 (16 * r.val))) a + S16.size a ≤ S65536.size a) ∧
  (∀ a, (k0_off248 v823) a + S16.size a ≤ S8192.size a)
theorem k0_off239_inb : ∀ (i : grid0.Coords) (k0_t5 : Fin (k0_t5_loop i).trips) (v823 : BitVec 32) (k0_hw24 : k0_chk24 i k0_t5 v823), ∀ (r : Fin 8), ∀ a, (k0_off239 v823 (BitVec.ofNat 32 (16 * r.val))) a + S16.size a ≤ S65536.size a := fun i k0_t5 v823 k0_hw24 r => k0_hw24.1 r
theorem k0_off248_inb : ∀ (i : grid0.Coords) (k0_t5 : Fin (k0_t5_loop i).trips) (v823 : BitVec 32) (k0_hw24 : k0_chk24 i k0_t5 v823), ∀ a, (k0_off248 v823) a + S16.size a ≤ S8192.size a := fun i k0_t5 v823 k0_hw24 => k0_hw24.2

def k0_off249 (v933 : BitVec 32) (c0_i32_174 : BitVec 32) : Fin 1 → Nat :=
  let c128_i32_173 : BitVec 32 := 128#32
  let v936 : BitVec 32 := Scalar.muli v933 c128_i32_173
  let v937 : BitVec 32 := Scalar.addi v936 c0_i32_174
  let v938 : Index := Scalar.indexCast v937
  ![v938.toNat]

def k0_off250 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v941 : Index := Scalar.indexCast v935
  let c0_175 : Index := 0#32
  ![v941.toNat, 0]
def k0_off251 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v953 : Index := Scalar.indexCast v935
  let c16_177 : Index := 16#32
  ![v953.toNat, 16]
def k0_off252 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v965 : Index := Scalar.indexCast v935
  let c32_179 : Index := 32#32
  ![v965.toNat, 32]
def k0_off253 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v977 : Index := Scalar.indexCast v935
  let c48_181 : Index := 48#32
  ![v977.toNat, 48]
def k0_off254 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v989 : Index := Scalar.indexCast v935
  let c64_183 : Index := 64#32
  ![v989.toNat, 64]
def k0_off255 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v1001 : Index := Scalar.indexCast v935
  let c80_185 : Index := 80#32
  ![v1001.toNat, 80]
def k0_off256 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v1013 : Index := Scalar.indexCast v935
  let c96_187 : Index := 96#32
  ![v1013.toNat, 96]
def k0_off257 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_172 : BitVec 32 := 16#32
  let v934 : BitVec 32 := Scalar.muli arg11 c16_i32_172
  let c8_i32 : BitVec 32 := 8#32
  let v935 : BitVec 32 := Scalar.addi v934 c8_i32
  let v1025 : Index := Scalar.indexCast v935
  let c112_189 : Index := 112#32
  ![v1025.toNat, 112]
def k0_off258 (v933 : BitVec 32) : Fin 1 → Nat :=
  let c16_i32_190 : BitVec 32 := 16#32
  let v1033 : BitVec 32 := Scalar.muli v933 c16_i32_190
  let v1034 : Index := Scalar.indexCast v1033
  ![v1034.toNat]

def k0_chk25 (i : grid0.Coords) (k0_t5 : Fin (k0_t5_loop i).trips) (v933 : BitVec 32) : Prop :=
  (∀ (r : Fin 8), ∀ a, (k0_off249 v933 (BitVec.ofNat 32 (16 * r.val))) a + S16.size a ≤ S65536.size a) ∧
  (∀ a, (k0_off258 v933) a + S16.size a ≤ S8192.size a)
theorem k0_off249_inb : ∀ (i : grid0.Coords) (k0_t5 : Fin (k0_t5_loop i).trips) (v933 : BitVec 32) (k0_hw25 : k0_chk25 i k0_t5 v933), ∀ (r : Fin 8), ∀ a, (k0_off249 v933 (BitVec.ofNat 32 (16 * r.val))) a + S16.size a ≤ S65536.size a := fun i k0_t5 v933 k0_hw25 r => k0_hw25.1 r
theorem k0_off258_inb : ∀ (i : grid0.Coords) (k0_t5 : Fin (k0_t5_loop i).trips) (v933 : BitVec 32) (k0_hw25 : k0_chk25 i k0_t5 v933), ∀ a, (k0_off258 v933) a + S16.size a ≤ S8192.size a := fun i k0_t5 v933 k0_hw25 => k0_hw25.2

def k0_off259 (v1043 : BitVec 32) (c0_i32_193 : BitVec 32) : Fin 1 → Nat :=
  let c128_i32_192 : BitVec 32 := 128#32
  let v1046 : BitVec 32 := Scalar.muli v1043 c128_i32_192
  let v1047 : BitVec 32 := Scalar.addi v1046 c0_i32_193
  let v1048 : Index := Scalar.indexCast v1047
  ![v1048.toNat]

def k0_off260 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1051 : Index := Scalar.indexCast v1045
  let c0_194 : Index := 0#32
  ![v1051.toNat, 0]
def k0_off261 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1063 : Index := Scalar.indexCast v1045
  let c16_196 : Index := 16#32
  ![v1063.toNat, 16]
def k0_off262 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1075 : Index := Scalar.indexCast v1045
  let c32_198 : Index := 32#32
  ![v1075.toNat, 32]
def k0_off263 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1087 : Index := Scalar.indexCast v1045
  let c48_200 : Index := 48#32
  ![v1087.toNat, 48]
def k0_off264 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1099 : Index := Scalar.indexCast v1045
  let c64_202 : Index := 64#32
  ![v1099.toNat, 64]
def k0_off265 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1111 : Index := Scalar.indexCast v1045
  let c80_204 : Index := 80#32
  ![v1111.toNat, 80]
def k0_off266 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1123 : Index := Scalar.indexCast v1045
  let c96_206 : Index := 96#32
  ![v1123.toNat, 96]
def k0_off267 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_191 : BitVec 32 := 16#32
  let v1044 : BitVec 32 := Scalar.muli arg11 c16_i32_191
  let c9_i32 : BitVec 32 := 9#32
  let v1045 : BitVec 32 := Scalar.addi v1044 c9_i32
  let v1135 : Index := Scalar.indexCast v1045
  let c112_208 : Index := 112#32
  ![v1135.toNat, 112]
def k0_off268 (v1043 : BitVec 32) : Fin 1 → Nat :=
  let c16_i32_209 : BitVec 32 := 16#32
  let v1143 : BitVec 32 := Scalar.muli v1043 c16_i32_209
  let v1144 : Index := Scalar.indexCast v1143
  ![v1144.toNat]

def k0_chk26 (i : grid0.Coords) (k0_t5 : Fin (k0_t5_loop i).trips) (v1043 : BitVec 32) : Prop :=
  (∀ (r : Fin 8), ∀ a, (k0_off259 v1043 (BitVec.ofNat 32 (16 * r.val))) a + S16.size a ≤ S65536.size a) ∧
  (∀ a, (k0_off268 v1043) a + S16.size a ≤ S8192.size a)
theorem k0_off259_inb : ∀ (i : grid0.Coords) (k0_t5 : Fin (k0_t5_loop i).trips) (v1043 : BitVec 32) (k0_hw26 : k0_chk26 i k0_t5 v1043), ∀ (r : Fin 8), ∀ a, (k0_off259 v1043 (BitVec.ofNat 32 (16 * r.val))) a + S16.size a ≤ S65536.size a := fun i k0_t5 v1043 k0_hw26 r => k0_hw26.1 r
theorem k0_off268_inb : ∀ (i : grid0.Coords) (k0_t5 : Fin (k0_t5_loop i).trips) (v1043 : BitVec 32) (k0_hw26 : k0_chk26 i k0_t5 v1043), ∀ a, (k0_off268 v1043) a + S16.size a ≤ S8192.size a := fun i k0_t5 v1043 k0_hw26 => k0_hw26.2

def k0_off269 (v1153 : BitVec 32) (c0_i32_212 : BitVec 32) : Fin 1 → Nat :=
  let c128_i32_211 : BitVec 32 := 128#32
  let v1156 : BitVec 32 := Scalar.muli v1153 c128_i32_211
  let v1157 : BitVec 32 := Scalar.addi v1156 c0_i32_212
  let v1158 : Index := Scalar.indexCast v1157
  ![v1158.toNat]

def k0_off270 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1161 : Index := Scalar.indexCast v1155
  let c0_213 : Index := 0#32
  ![v1161.toNat, 0]
def k0_off271 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1173 : Index := Scalar.indexCast v1155
  let c16_215 : Index := 16#32
  ![v1173.toNat, 16]
def k0_off272 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1185 : Index := Scalar.indexCast v1155
  let c32_217 : Index := 32#32
  ![v1185.toNat, 32]
def k0_off273 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1197 : Index := Scalar.indexCast v1155
  let c48_219 : Index := 48#32
  ![v1197.toNat, 48]
def k0_off274 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1209 : Index := Scalar.indexCast v1155
  let c64_221 : Index := 64#32
  ![v1209.toNat, 64]
def k0_off275 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1221 : Index := Scalar.indexCast v1155
  let c80_223 : Index := 80#32
  ![v1221.toNat, 80]
def k0_off276 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1233 : Index := Scalar.indexCast v1155
  let c96_225 : Index := 96#32
  ![v1233.toNat, 96]
def k0_off277 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_210 : BitVec 32 := 16#32
  let v1154 : BitVec 32 := Scalar.muli arg11 c16_i32_210
  let c10_i32 : BitVec 32 := 10#32
  let v1155 : BitVec 32 := Scalar.addi v1154 c10_i32
  let v1245 : Index := Scalar.indexCast v1155
  let c112_227 : Index := 112#32
  ![v1245.toNat, 112]
def k0_off278 (v1153 : BitVec 32) : Fin 1 → Nat :=
  let c16_i32_228 : BitVec 32 := 16#32
  let v1253 : BitVec 32 := Scalar.muli v1153 c16_i32_228
  let v1254 : Index := Scalar.indexCast v1253
  ![v1254.toNat]

def k0_chk27 (i : grid0.Coords) (k0_t5 : Fin (k0_t5_loop i).trips) (v1153 : BitVec 32) : Prop :=
  (∀ (r : Fin 8), ∀ a, (k0_off269 v1153 (BitVec.ofNat 32 (16 * r.val))) a + S16.size a ≤ S65536.size a) ∧
  (∀ a, (k0_off278 v1153) a + S16.size a ≤ S8192.size a)
theorem k0_off269_inb : ∀ (i : grid0.Coords) (k0_t5 : Fin (k0_t5_loop i).trips) (v1153 : BitVec 32) (k0_hw27 : k0_chk27 i k0_t5 v1153), ∀ (r : Fin 8), ∀ a, (k0_off269 v1153 (BitVec.ofNat 32 (16 * r.val))) a + S16.size a ≤ S65536.size a := fun i k0_t5 v1153 k0_hw27 r => k0_hw27.1 r
theorem k0_off278_inb : ∀ (i : grid0.Coords) (k0_t5 : Fin (k0_t5_loop i).trips) (v1153 : BitVec 32) (k0_hw27 : k0_chk27 i k0_t5 v1153), ∀ a, (k0_off278 v1153) a + S16.size a ≤ S8192.size a := fun i k0_t5 v1153 k0_hw27 => k0_hw27.2

def k0_off279 (v1263 : BitVec 32) (c0_i32_231 : BitVec 32) : Fin 1 → Nat :=
  let c128_i32_230 : BitVec 32 := 128#32
  let v1266 : BitVec 32 := Scalar.muli v1263 c128_i32_230
  let v1267 : BitVec 32 := Scalar.addi v1266 c0_i32_231
  let v1268 : Index := Scalar.indexCast v1267
  ![v1268.toNat]

def k0_off280 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1271 : Index := Scalar.indexCast v1265
  let c0_232 : Index := 0#32
  ![v1271.toNat, 0]
def k0_off281 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1283 : Index := Scalar.indexCast v1265
  let c16_234 : Index := 16#32
  ![v1283.toNat, 16]
def k0_off282 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1295 : Index := Scalar.indexCast v1265
  let c32_236 : Index := 32#32
  ![v1295.toNat, 32]
def k0_off283 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1307 : Index := Scalar.indexCast v1265
  let c48_238 : Index := 48#32
  ![v1307.toNat, 48]
def k0_off284 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1319 : Index := Scalar.indexCast v1265
  let c64_240 : Index := 64#32
  ![v1319.toNat, 64]
def k0_off285 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1331 : Index := Scalar.indexCast v1265
  let c80_242 : Index := 80#32
  ![v1331.toNat, 80]
def k0_off286 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1343 : Index := Scalar.indexCast v1265
  let c96_244 : Index := 96#32
  ![v1343.toNat, 96]
def k0_off287 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_229 : BitVec 32 := 16#32
  let v1264 : BitVec 32 := Scalar.muli arg11 c16_i32_229
  let c11_i32 : BitVec 32 := 11#32
  let v1265 : BitVec 32 := Scalar.addi v1264 c11_i32
  let v1355 : Index := Scalar.indexCast v1265
  let c112_246 : Index := 112#32
  ![v1355.toNat, 112]
def k0_off288 (v1263 : BitVec 32) : Fin 1 → Nat :=
  let c16_i32_247 : BitVec 32 := 16#32
  let v1363 : BitVec 32 := Scalar.muli v1263 c16_i32_247
  let v1364 : Index := Scalar.indexCast v1363
  ![v1364.toNat]

def k0_chk28 (i : grid0.Coords) (k0_t5 : Fin (k0_t5_loop i).trips) (v1263 : BitVec 32) : Prop :=
  (∀ (r : Fin 8), ∀ a, (k0_off279 v1263 (BitVec.ofNat 32 (16 * r.val))) a + S16.size a ≤ S65536.size a) ∧
  (∀ a, (k0_off288 v1263) a + S16.size a ≤ S8192.size a)
theorem k0_off279_inb : ∀ (i : grid0.Coords) (k0_t5 : Fin (k0_t5_loop i).trips) (v1263 : BitVec 32) (k0_hw28 : k0_chk28 i k0_t5 v1263), ∀ (r : Fin 8), ∀ a, (k0_off279 v1263 (BitVec.ofNat 32 (16 * r.val))) a + S16.size a ≤ S65536.size a := fun i k0_t5 v1263 k0_hw28 r => k0_hw28.1 r
theorem k0_off288_inb : ∀ (i : grid0.Coords) (k0_t5 : Fin (k0_t5_loop i).trips) (v1263 : BitVec 32) (k0_hw28 : k0_chk28 i k0_t5 v1263), ∀ a, (k0_off288 v1263) a + S16.size a ≤ S8192.size a := fun i k0_t5 v1263 k0_hw28 => k0_hw28.2

def k0_off289 (v1373 : BitVec 32) (c0_i32_250 : BitVec 32) : Fin 1 → Nat :=
  let c128_i32_249 : BitVec 32 := 128#32
  let v1376 : BitVec 32 := Scalar.muli v1373 c128_i32_249
  let v1377 : BitVec 32 := Scalar.addi v1376 c0_i32_250
  let v1378 : Index := Scalar.indexCast v1377
  ![v1378.toNat]

def k0_off290 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1381 : Index := Scalar.indexCast v1375
  let c0_251 : Index := 0#32
  ![v1381.toNat, 0]
def k0_off291 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1393 : Index := Scalar.indexCast v1375
  let c16_253 : Index := 16#32
  ![v1393.toNat, 16]
def k0_off292 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1405 : Index := Scalar.indexCast v1375
  let c32_255 : Index := 32#32
  ![v1405.toNat, 32]
def k0_off293 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1417 : Index := Scalar.indexCast v1375
  let c48_257 : Index := 48#32
  ![v1417.toNat, 48]
def k0_off294 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1429 : Index := Scalar.indexCast v1375
  let c64_259 : Index := 64#32
  ![v1429.toNat, 64]
def k0_off295 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1441 : Index := Scalar.indexCast v1375
  let c80_261 : Index := 80#32
  ![v1441.toNat, 80]
def k0_off296 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1453 : Index := Scalar.indexCast v1375
  let c96_263 : Index := 96#32
  ![v1453.toNat, 96]
def k0_off297 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_248 : BitVec 32 := 16#32
  let v1374 : BitVec 32 := Scalar.muli arg11 c16_i32_248
  let c12_i32 : BitVec 32 := 12#32
  let v1375 : BitVec 32 := Scalar.addi v1374 c12_i32
  let v1465 : Index := Scalar.indexCast v1375
  let c112_265 : Index := 112#32
  ![v1465.toNat, 112]
def k0_off298 (v1373 : BitVec 32) : Fin 1 → Nat :=
  let c16_i32_266 : BitVec 32 := 16#32
  let v1473 : BitVec 32 := Scalar.muli v1373 c16_i32_266
  let v1474 : Index := Scalar.indexCast v1473
  ![v1474.toNat]

def k0_chk29 (i : grid0.Coords) (k0_t5 : Fin (k0_t5_loop i).trips) (v1373 : BitVec 32) : Prop :=
  (∀ (r : Fin 8), ∀ a, (k0_off289 v1373 (BitVec.ofNat 32 (16 * r.val))) a + S16.size a ≤ S65536.size a) ∧
  (∀ a, (k0_off298 v1373) a + S16.size a ≤ S8192.size a)
theorem k0_off289_inb : ∀ (i : grid0.Coords) (k0_t5 : Fin (k0_t5_loop i).trips) (v1373 : BitVec 32) (k0_hw29 : k0_chk29 i k0_t5 v1373), ∀ (r : Fin 8), ∀ a, (k0_off289 v1373 (BitVec.ofNat 32 (16 * r.val))) a + S16.size a ≤ S65536.size a := fun i k0_t5 v1373 k0_hw29 r => k0_hw29.1 r
theorem k0_off298_inb : ∀ (i : grid0.Coords) (k0_t5 : Fin (k0_t5_loop i).trips) (v1373 : BitVec 32) (k0_hw29 : k0_chk29 i k0_t5 v1373), ∀ a, (k0_off298 v1373) a + S16.size a ≤ S8192.size a := fun i k0_t5 v1373 k0_hw29 => k0_hw29.2

def k0_off299 (v1483 : BitVec 32) (c0_i32_269 : BitVec 32) : Fin 1 → Nat :=
  let c128_i32_268 : BitVec 32 := 128#32
  let v1486 : BitVec 32 := Scalar.muli v1483 c128_i32_268
  let v1487 : BitVec 32 := Scalar.addi v1486 c0_i32_269
  let v1488 : Index := Scalar.indexCast v1487
  ![v1488.toNat]

def k0_off300 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1491 : Index := Scalar.indexCast v1485
  let c0_270 : Index := 0#32
  ![v1491.toNat, 0]
def k0_off301 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1503 : Index := Scalar.indexCast v1485
  let c16_272 : Index := 16#32
  ![v1503.toNat, 16]
def k0_off302 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1515 : Index := Scalar.indexCast v1485
  let c32_274 : Index := 32#32
  ![v1515.toNat, 32]
def k0_off303 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1527 : Index := Scalar.indexCast v1485
  let c48_276 : Index := 48#32
  ![v1527.toNat, 48]
def k0_off304 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1539 : Index := Scalar.indexCast v1485
  let c64_278 : Index := 64#32
  ![v1539.toNat, 64]
def k0_off305 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1551 : Index := Scalar.indexCast v1485
  let c80_280 : Index := 80#32
  ![v1551.toNat, 80]
def k0_off306 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1563 : Index := Scalar.indexCast v1485
  let c96_282 : Index := 96#32
  ![v1563.toNat, 96]
def k0_off307 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_267 : BitVec 32 := 16#32
  let v1484 : BitVec 32 := Scalar.muli arg11 c16_i32_267
  let c13_i32 : BitVec 32 := 13#32
  let v1485 : BitVec 32 := Scalar.addi v1484 c13_i32
  let v1575 : Index := Scalar.indexCast v1485
  let c112_284 : Index := 112#32
  ![v1575.toNat, 112]
def k0_off308 (v1483 : BitVec 32) : Fin 1 → Nat :=
  let c16_i32_285 : BitVec 32 := 16#32
  let v1583 : BitVec 32 := Scalar.muli v1483 c16_i32_285
  let v1584 : Index := Scalar.indexCast v1583
  ![v1584.toNat]

def k0_chk30 (i : grid0.Coords) (k0_t5 : Fin (k0_t5_loop i).trips) (v1483 : BitVec 32) : Prop :=
  (∀ (r : Fin 8), ∀ a, (k0_off299 v1483 (BitVec.ofNat 32 (16 * r.val))) a + S16.size a ≤ S65536.size a) ∧
  (∀ a, (k0_off308 v1483) a + S16.size a ≤ S8192.size a)
theorem k0_off299_inb : ∀ (i : grid0.Coords) (k0_t5 : Fin (k0_t5_loop i).trips) (v1483 : BitVec 32) (k0_hw30 : k0_chk30 i k0_t5 v1483), ∀ (r : Fin 8), ∀ a, (k0_off299 v1483 (BitVec.ofNat 32 (16 * r.val))) a + S16.size a ≤ S65536.size a := fun i k0_t5 v1483 k0_hw30 r => k0_hw30.1 r
theorem k0_off308_inb : ∀ (i : grid0.Coords) (k0_t5 : Fin (k0_t5_loop i).trips) (v1483 : BitVec 32) (k0_hw30 : k0_chk30 i k0_t5 v1483), ∀ a, (k0_off308 v1483) a + S16.size a ≤ S8192.size a := fun i k0_t5 v1483 k0_hw30 => k0_hw30.2

def k0_off309 (v1593 : BitVec 32) (c0_i32_288 : BitVec 32) : Fin 1 → Nat :=
  let c128_i32_287 : BitVec 32 := 128#32
  let v1596 : BitVec 32 := Scalar.muli v1593 c128_i32_287
  let v1597 : BitVec 32 := Scalar.addi v1596 c0_i32_288
  let v1598 : Index := Scalar.indexCast v1597
  ![v1598.toNat]

def k0_off310 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1601 : Index := Scalar.indexCast v1595
  let c0_289 : Index := 0#32
  ![v1601.toNat, 0]
def k0_off311 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1613 : Index := Scalar.indexCast v1595
  let c16_291 : Index := 16#32
  ![v1613.toNat, 16]
def k0_off312 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1625 : Index := Scalar.indexCast v1595
  let c32_293 : Index := 32#32
  ![v1625.toNat, 32]
def k0_off313 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1637 : Index := Scalar.indexCast v1595
  let c48_295 : Index := 48#32
  ![v1637.toNat, 48]
def k0_off314 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1649 : Index := Scalar.indexCast v1595
  let c64_297 : Index := 64#32
  ![v1649.toNat, 64]
def k0_off315 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1661 : Index := Scalar.indexCast v1595
  let c80_299 : Index := 80#32
  ![v1661.toNat, 80]
def k0_off316 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1673 : Index := Scalar.indexCast v1595
  let c96_301 : Index := 96#32
  ![v1673.toNat, 96]
def k0_off317 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_286 : BitVec 32 := 16#32
  let v1594 : BitVec 32 := Scalar.muli arg11 c16_i32_286
  let c14_i32 : BitVec 32 := 14#32
  let v1595 : BitVec 32 := Scalar.addi v1594 c14_i32
  let v1685 : Index := Scalar.indexCast v1595
  let c112_303 : Index := 112#32
  ![v1685.toNat, 112]
def k0_off318 (v1593 : BitVec 32) : Fin 1 → Nat :=
  let c16_i32_304 : BitVec 32 := 16#32
  let v1693 : BitVec 32 := Scalar.muli v1593 c16_i32_304
  let v1694 : Index := Scalar.indexCast v1693
  ![v1694.toNat]

def k0_chk31 (i : grid0.Coords) (k0_t5 : Fin (k0_t5_loop i).trips) (v1593 : BitVec 32) : Prop :=
  (∀ (r : Fin 8), ∀ a, (k0_off309 v1593 (BitVec.ofNat 32 (16 * r.val))) a + S16.size a ≤ S65536.size a) ∧
  (∀ a, (k0_off318 v1593) a + S16.size a ≤ S8192.size a)
theorem k0_off309_inb : ∀ (i : grid0.Coords) (k0_t5 : Fin (k0_t5_loop i).trips) (v1593 : BitVec 32) (k0_hw31 : k0_chk31 i k0_t5 v1593), ∀ (r : Fin 8), ∀ a, (k0_off309 v1593 (BitVec.ofNat 32 (16 * r.val))) a + S16.size a ≤ S65536.size a := fun i k0_t5 v1593 k0_hw31 r => k0_hw31.1 r
theorem k0_off318_inb : ∀ (i : grid0.Coords) (k0_t5 : Fin (k0_t5_loop i).trips) (v1593 : BitVec 32) (k0_hw31 : k0_chk31 i k0_t5 v1593), ∀ a, (k0_off318 v1593) a + S16.size a ≤ S8192.size a := fun i k0_t5 v1593 k0_hw31 => k0_hw31.2

def k0_off319 (v1703 : BitVec 32) (c0_i32_307 : BitVec 32) : Fin 1 → Nat :=
  let c128_i32_306 : BitVec 32 := 128#32
  let v1706 : BitVec 32 := Scalar.muli v1703 c128_i32_306
  let v1707 : BitVec 32 := Scalar.addi v1706 c0_i32_307
  let v1708 : Index := Scalar.indexCast v1707
  ![v1708.toNat]

def k0_off320 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1711 : Index := Scalar.indexCast v1705
  let c0_308 : Index := 0#32
  ![v1711.toNat, 0]
def k0_off321 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1723 : Index := Scalar.indexCast v1705
  let c16_310 : Index := 16#32
  ![v1723.toNat, 16]
def k0_off322 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1735 : Index := Scalar.indexCast v1705
  let c32_312 : Index := 32#32
  ![v1735.toNat, 32]
def k0_off323 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1747 : Index := Scalar.indexCast v1705
  let c48_314 : Index := 48#32
  ![v1747.toNat, 48]
def k0_off324 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1759 : Index := Scalar.indexCast v1705
  let c64_316 : Index := 64#32
  ![v1759.toNat, 64]
def k0_off325 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1771 : Index := Scalar.indexCast v1705
  let c80_318 : Index := 80#32
  ![v1771.toNat, 80]
def k0_off326 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1783 : Index := Scalar.indexCast v1705
  let c96_320 : Index := 96#32
  ![v1783.toNat, 96]
def k0_off327 (k0_t6 : Fin k0_t6_loop.trips) : Fin 2 → Nat :=
  let c0_i32_26 : BitVec 32 := 0#32
  let c1_i32_27 : BitVec 32 := 1#32
  let arg11 : BitVec 32 := Scf.iv c0_i32_26 c1_i32_27 k0_t6
  let c16_i32_305 : BitVec 32 := 16#32
  let v1704 : BitVec 32 := Scalar.muli arg11 c16_i32_305
  let c15_i32 : BitVec 32 := 15#32
  let v1705 : BitVec 32 := Scalar.addi v1704 c15_i32
  let v1795 : Index := Scalar.indexCast v1705
  let c112_322 : Index := 112#32
  ![v1795.toNat, 112]
def k0_off328 (v1703 : BitVec 32) : Fin 1 → Nat :=
  let c16_i32_323 : BitVec 32 := 16#32
  let v1803 : BitVec 32 := Scalar.muli v1703 c16_i32_323
  let v1804 : Index := Scalar.indexCast v1803
  ![v1804.toNat]

def k0_chk32 (i : grid0.Coords) (k0_t5 : Fin (k0_t5_loop i).trips) (v1703 : BitVec 32) : Prop :=
  (∀ (r : Fin 8), ∀ a, (k0_off319 v1703 (BitVec.ofNat 32 (16 * r.val))) a + S16.size a ≤ S65536.size a) ∧
  (∀ a, (k0_off328 v1703) a + S16.size a ≤ S8192.size a)
theorem k0_off319_inb : ∀ (i : grid0.Coords) (k0_t5 : Fin (k0_t5_loop i).trips) (v1703 : BitVec 32) (k0_hw32 : k0_chk32 i k0_t5 v1703), ∀ (r : Fin 8), ∀ a, (k0_off319 v1703 (BitVec.ofNat 32 (16 * r.val))) a + S16.size a ≤ S65536.size a := fun i k0_t5 v1703 k0_hw32 r => k0_hw32.1 r
theorem k0_off328_inb : ∀ (i : grid0.Coords) (k0_t5 : Fin (k0_t5_loop i).trips) (v1703 : BitVec 32) (k0_hw32 : k0_chk32 i k0_t5 v1703), ∀ a, (k0_off328 v1703) a + S16.size a ≤ S8192.size a := fun i k0_t5 v1703 k0_hw32 => k0_hw32.2

def k0_off329 (i : grid0.Coords) : Fin 3 → Nat :=
  let arg1 : BitVec 32 := BitVec.ofNat 32 (i 1).val
  let arg0 : BitVec 32 := BitVec.ofNat 32 (i 0).val
  let c0_i32_25_r4 : BitVec 32 := 0#32
  ![arg1.toNat, arg0.toNat, 0]
def k0_off330 (i : grid0.Coords) : Fin 3 → Nat :=
  let arg1 : BitVec 32 := BitVec.ofNat 32 (i 1).val
  let arg0 : BitVec 32 := BitVec.ofNat 32 (i 0).val
  let c0_i32_25_r5 : BitVec 32 := 0#32
  ![arg1.toNat, arg0.toNat, 0]
abbrev grid1 : Pipeline.Grid := .none

abbrev stage1_0 : Fin 1 → Memref sig .tc .vmem S16x2x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x2x512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S128x256 : Shape := ⟨2, ![128, 256]⟩
abbrev S128 : Shape := ⟨1, ![128]⟩
abbrev S_ : Shape := ⟨0, ![]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S256x128 : Shape := ⟨2, ![256, 128]⟩
abbrev S512x128 : Shape := ⟨2, ![512, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S128x256, .f32⟩
  | .hbm, ⟨3, _⟩ => ⟨S128, .f32⟩
  | .hbm, ⟨4, _⟩ => ⟨S_, .f32⟩
  | .hbm, ⟨5, _⟩ => ⟨S512x256, .f32⟩
  | .hbm, ⟨6, _⟩ => ⟨S50000x1, .i32⟩
  | .hbm, ⟨7, _⟩ => ⟨S512x256, .f32⟩
  | .hbm, ⟨8, _⟩ => ⟨S_, .f32⟩
  | .hbm, ⟨9, _⟩ => ⟨S50000, .f32⟩
  | .hbm, ⟨10, _⟩ => ⟨S_, .f32⟩
  | .hbm, ⟨11, _⟩ => ⟨S512, .f32⟩
  | .hbm, ⟨12, _⟩ => ⟨S50000x1, .i32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512x1, .f32⟩
  | .hbm, ⟨19, _⟩ => ⟨S512x256, .f32⟩
  | .hbm, ⟨20, _⟩ => ⟨S512x256, .f32⟩
  | .hbm, ⟨21, _⟩ => ⟨S256x128, .f32⟩
  | .hbm, ⟨22, _⟩ => ⟨S512x128, .f32⟩
  | .hbm, ⟨23, _⟩ => ⟨S1x128, .f32⟩
  | .hbm, ⟨24, _⟩ => ⟨S512x128, .f32⟩
  | .hbm, ⟨25, _⟩ => ⟨S512x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Base.lean ====
/-
  What the accumulating tile does, in plain words and plain functions.

  A tile keeps a table `A` of 512 segment rows of 128 columns (flattened, 65536 cells) and a table `B` of 512 counts of
  16 equal columns (8192 cells). For each row of `x` it adds the row's 128 columns into the segment's row of `A`
  (`addRow`) and one into the segment's 16 cells of `B` (`addOne`). `lanesA` and `lanesB` are the tables after `n` of
  a group's sixteen rows.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The tables as functions -/

/-- The index of a shape at the given coordinates, each taken modulo its axis. -/
def at' (s : Shape) (hs : ∀ a, 0 < s.size a) (v : Fin s.rank → ℕ) : s.Idx := fun a => ⟨v a % s.size a, Nat.mod_lt _ (hs a)⟩

theorem pos80 : ∀ a, 0 < S80.size a := by decide
theorem pos80x128 : ∀ a, 0 < S80x128.size a := by decide

/-- One addition of 32-bit floats. -/
abbrev fadd (a b : F .f32) : F .f32 := FloatOps.addf a b

/-- `A` with the first `c` columns of segment row `v` increased by `x`. -/
def addCols (A : S65536.Idx → F .f32) (v : ℕ) (x : ℕ → F .f32) (c : ℕ) : S65536.Idx → F .f32 := fun i =>
  if (i 0).val / 128 = v ∧ (i 0).val % 128 < c then fadd (A i) (x ((i 0).val % 128)) else A i

/-- `A` with segment row `v` increased by `x`. -/
def addRow (A : S65536.Idx → F .f32) (v : ℕ) (x : ℕ → F .f32) : S65536.Idx → F .f32 := fun i =>
  if (i 0).val / 128 = v then fadd (A i) (x ((i 0).val % 128)) else A i

/-- `B` with segment `v`'s sixteen counters increased by `o`. -/
def addOne (B : S8192.Idx → F .f32) (v : ℕ) (o : F .f32) : S8192.Idx → F .f32 := fun i =>
  if (i 0).val / 16 = v then fadd (B i) o else B i

theorem addCols_zero (A : S65536.Idx → F .f32) (v : ℕ) (x : ℕ → F .f32) : addCols A v x 0 = A := by
  funext i; simp [addCols]

theorem addCols_all (A : S65536.Idx → F .f32) (v : ℕ) (x : ℕ → F .f32) : addCols A v x 128 = addRow A v x := by
  funext i
  have h : (i 0).val % 128 < 128 := Nat.mod_lt _ (by norm_num)
  simp [addCols, addRow, h]

/-- The float one. -/
abbrev one1 : F .f32 := Scalar.ofBits .f32 0x3F800000#32
/-- The float zero. -/
abbrev zero1 : F .f32 := Scalar.ofBits .f32 0x00000000#32

/-- Row `l` of a fetched block, by column. -/
def rowOf (X : S80x128.Idx → F .f32) (l : ℕ) : ℕ → F .f32 := fun j => X (at' S80x128 pos80x128 ![l, j])
/-- The segment of row `l` of a fetched block. -/
def segOf (I : S80.Idx → BitVec 32) (l : ℕ) : BitVec 32 := I (at' S80 pos80 ![l])

/-- The sums after `n` rows from row `b` of a fetched block. -/
def lanesA (X : S80x128.Idx → F .f32) (I : S80.Idx → BitVec 32) (A : S65536.Idx → F .f32) (b : ℕ) : ℕ → S65536.Idx → F .f32
  | 0 => A
  | n + 1 => addRow (lanesA X I A b n) (segOf I (b + n)).toNat (rowOf X (b + n))
/-- The counts after `n` rows from row `b` of a fetched block. -/
def lanesB (I : S80.Idx → BitVec 32) (B : S8192.Idx → F .f32) (b : ℕ) : ℕ → S8192.Idx → F .f32
  | 0 => B
  | n + 1 => addOne (lanesB I B b n) (segOf I (b + n)).toNat one1

/-! ## One store read at an index -/

abbrev sA : Memref sig .scVector .vmem S65536 .f32 := Memref.whole cc0_scratch0
abbrev sB : Memref sig .scVector .vmem S8192 .f32 := Memref.whole cc0_scratch1
abbrev sX : Memref sig .scVector .vmem S80x128 .f32 := Memref.whole cc0_scratch2
abbrev sI : Memref sig .scVector .vmem S80 .i32 := Memref.whole cc0_scratch3

/-- The value the column-group store writes: sixteen columns of the table plus sixteen of the row. -/
abbrev payX (a : Vec F S16 .f32) (b : Vec F S1x16 .f32) : FVec F S16 .f32 :=
  shapeCast S16 (addf (shapeCast S16 a shapeCasts_S16_S16) (shapeCast S16 b shapeCasts_S1x16_S16)) shapeCasts_S16_S16
/-- The value the counter store writes: sixteen counters plus ones. -/
abbrev payC (a : Vec F S16 .f32) : FVec F S16 .f32 :=
  shapeCast S16 (addf (shapeCast S16 a shapeCasts_S16_S16) (broadcast S16 (one1 (F := F)))) shapeCasts_S16_S16

theorem payX_apply (a : Vec F S16 .f32) (b : Vec F S1x16 .f32) (j : S16.Idx) :
    payX a b j = fadd (a j) (b (Fin.cons ⟨0, Nat.one_pos⟩ j)) := by
  unfold payX
  rw [shapeCast_self, shapeCast_self]
  refine congrArg (fadd (a j)) ?_
  exact shapeCast_dropUnit_apply ![16] b _ j

theorem payC_apply (a : Vec F S16 .f32) (j : S16.Idx) : payC a j = fadd (a j) one1 := by
  unfold payC
  rw [shapeCast_self, shapeCast_self]
  rfl

/-- Reading sixteen cells of the sums. -/
theorem readA (A : S65536.Idx → F .f32) (o : Fin 1 → ℕ) (h : ∀ a, o a + S16.size a ≤ S65536.size a) (j : S16.Idx) (k : S65536.Idx)
    (hk : (k 0).val = o 0 + (j 0).val) :
    (sA : Memref sig .scVector .vmem S65536 .f32).view.readAt (Elt F) (Rect.unit (s := S65536) o S16.size h).toLoadRect A j = A k := by
  show A _ = A k
  congr 1
  funext a; apply Fin.ext
  obtain rfl : a = (0 : Fin 1) := Subsingleton.elim (α := Fin 1) _ _
  rw [hk]; show o 0 + 1 * _ = _; rw [Nat.one_mul]

theorem readB (B : S8192.Idx → F .f32) (o : Fin 1 → ℕ) (h : ∀ a, o a + S16.size a ≤ S8192.size a) (j : S16.Idx) (k : S8192.Idx)
    (hk : (k 0).val = o 0 + (j 0).val) :
    (sB : Memref sig .scVector .vmem S8192 .f32).view.readAt (Elt F) (Rect.unit (s := S8192) o S16.size h).toLoadRect B j = B k := by
  show B _ = B k
  congr 1
  funext a; apply Fin.ext
  obtain rfl : a = (0 : Fin 1) := Subsingleton.elim (α := Fin 1) _ _
  rw [hk]; show o 0 + 1 * _ = _; rw [Nat.one_mul]

theorem readX (X : S80x128.Idx → F .f32) (o : Fin 2 → ℕ) (h : ∀ a, o a + S1x16.size a ≤ S80x128.size a) (j : S1x16.Idx) (R c : ℕ)
    (ho : o = ![R, c]) :
    (sX : Memref sig .scVector .vmem S80x128 .f32).view.readAt (Elt F) (Rect.unit (s := S80x128) o S1x16.size h).toLoadRect X j
      = rowOf X R (c + (j 1).val) := by
  subst ho
  have h0 := h 0; have h1 := h 1
  have j0 : (j 0).val < 1 := (j 0).isLt
  have j1 : (j 1).val < 16 := (j 1).isLt
  simp at h0 h1
  show X _ = X _
  congr 1
  funext a; apply Fin.ext
  match a with
  | ⟨0, _⟩ => show R + 1 * (j 0).val = R % 80; rw [Nat.mod_eq_of_lt (by omega)]; omega
  | ⟨1, _⟩ => show c + 1 * (j 1).val = (c + (j 1).val) % 128; rw [Nat.mod_eq_of_lt (by omega)]; omega

theorem readI (I : S80.Idx → BitVec 32) (o : Fin 1 → ℕ) (h : ∀ a, o a + S16.size a ≤ S80.size a) (j : S16.Idx) (R : ℕ)
    (ho : o = ![R]) :
    (sI : Memref sig .scVector .vmem S80 .i32).view.readAt (Elt F) (Rect.unit (s := S80) o S16.size h).toLoadRect I j
      = segOf I (R + (j 0).val) := by
  subst ho
  have h0 := h 0
  have j0 : (j 0).val < 16 := (j 0).isLt
  simp at h0
  show I _ = I _
  congr 1
  funext a; apply Fin.ext
  obtain rfl : a = (0 : Fin 1) := Subsingleton.elim (α := Fin 1) _ _
  show R + 1 * (j 0).val = (R + (j 0).val) % 80; rw [Nat.mod_eq_of_lt (by omega)]; omega

/-- One column group of a row's addition. -/
theorem writeA (A : S65536.Idx → F .f32) (X : S80x128.Idx → F .f32) (o : Fin 1 → ℕ) (h h' : ∀ a, o a + S16.size a ≤ S65536.size a)
    (o' : Fin 2 → ℕ) (h2 : ∀ a, o' a + S1x16.size a ≤ S80x128.size a) (v c R : ℕ) (hc : c + 16 ≤ 128) (ho : o 0 = 128 * v + c) (ho' : o' = ![R, c]) :
    ((sA : Memref sig .scVector .vmem S65536 .f32).access (Rect.unit (s := S65536) o S16.size h)).write (Elt F)
        (addCols A v (rowOf X R) c)
        (payX ((sA : Memref sig .scVector .vmem S65536 .f32).view.readAt (Elt F) (Rect.unit (s := S65536) o S16.size h').toLoadRect (addCols A v (rowOf X R) c))
          ((sX : Memref sig .scVector .vmem S80x128 .f32).view.readAt (Elt F) (Rect.unit (s := S80x128) o' S1x16.size h2).toLoadRect X)) Finset.univ
      = addCols A v (rowOf X R) (c + 16) := by
  refine (View.write_whole_slice_unit (Val := Elt F) (cc0_scratch0 : Ref sig .scVector) o S16.size h _ _).trans ?_
  funext i
  unfold updateSlice
  split
  · next hin =>
    have h0 : o 0 ≤ (i 0).val ∧ (i 0).val < o 0 + 16 := hin 0
    rw [ho] at h0
    refine (payX_apply _ _ _).trans ?_
    rw [readX X o' h2 _ R c ho', readA _ o h' _ i (by show _ = o 0 + ((i 0).val - o 0); omega)]
    have e1 : (i 0).val / 128 = v := by omega
    have e2 : (i 0).val % 128 = (i 0).val - (128 * v + c) + c := by omega
    have e3 : ¬ (i 0).val % 128 < c := by omega
    have e4 : (i 0).val % 128 < c + 16 := by omega
    unfold addCols
    rw [if_neg (fun hh => e3 hh.2), if_pos ⟨e1, e4⟩]
    congr 2
    show c + ((i 0).val - o 0) = _
    rw [ho]; omega
  · next hin =>
    have h0 : ¬ (o 0 ≤ (i 0).val ∧ (i 0).val < o 0 + 16) := fun hh => hin fun a => by
      obtain rfl : a = (0 : Fin 1) := Subsingleton.elim (α := Fin 1) _ _
      exact hh
    rw [ho] at h0
    unfold addCols
    by_cases hv : (i 0).val / 128 = v
    · by_cases hc1 : (i 0).val % 128 < c
      · rw [if_pos ⟨hv, hc1⟩, if_pos ⟨hv, by omega⟩]
      · rw [if_neg (fun hh => hc1 hh.2), if_neg (fun hh => by have := hh.2; omega)]
    · rw [if_neg (fun hh => hv hh.1), if_neg (fun hh => hv hh.1)]

theorem writeB (B : S8192.Idx → F .f32) (o : Fin 1 → ℕ) (h h' : ∀ a, o a + S16.size a ≤ S8192.size a) (v : ℕ) (ho : o 0 = 16 * v) :
    ((sB : Memref sig .scVector .vmem S8192 .f32).access (Rect.unit (s := S8192) o S16.size h)).write (Elt F) B
        (payC ((sB : Memref sig .scVector .vmem S8192 .f32).view.readAt (Elt F) (Rect.unit (s := S8192) o S16.size h').toLoadRect B)) Finset.univ
      = addOne B v one1 := by
  refine (View.write_whole_slice_unit (Val := Elt F) (cc0_scratch1 : Ref sig .scVector) o S16.size h _ _).trans ?_
  funext i
  unfold updateSlice
  split
  · next hin =>
    have h0 : o 0 ≤ (i 0).val ∧ (i 0).val < o 0 + 16 := hin 0
    rw [ho] at h0
    refine (payC_apply _ _).trans ?_
    rw [readB _ o h' _ i (by show _ = o 0 + ((i 0).val - o 0); omega)]
    unfold addOne
    rw [if_pos (by omega)]
  · next hin =>
    have h0 : ¬ (o 0 ≤ (i 0).val ∧ (i 0).val < o 0 + 16) := fun hh => hin fun a => by
      obtain rfl : a = (0 : Fin 1) := Subsingleton.elim (α := Fin 1) _ _
      exact hh
    rw [ho] at h0
    unfold addOne
    rw [if_neg (by omega)]

/-- Position `l` of a vector of sixteen. -/
def ix16 (l : ℕ) (h : l < 16) : S16.Idx := fun a => ⟨l, by obtain rfl : a = (0 : Fin 1) := Subsingleton.elim (α := Fin 1) _ _; exact h⟩

/-- The word extracted for lane `l` of a vector of sixteen. -/
theorem lane_of (w : S16.Idx → BitVec 32) (off : Fin 1 → ℕ) (hs : S16.Slices off S1) (hp : ∀ a, (![0] : Fin 1 → ℕ) a < S1.size a) (l : ℕ)
    (h16 : l < 16) (hl : off = ![l]) :
    extractAt (s := S1) ![0] (extractStridedSlice S1 off (shapeCast S16 w shapeCasts_S16_S16) hs) hp = w (ix16 l h16) := by
  subst hl
  rw [shapeCast_self]
  refine extractStridedSlice_apply (s := S16) (t := S1) ![l] w hs _ (ix16 l h16) ?_
  intro a
  obtain rfl : a = (0 : Fin 1) := Subsingleton.elim (α := Fin 1) _ _
  rfl

/-- The word the kernel extracts for lane `l` of a loaded group of sixteen. -/
theorem lane_word (I : S80.Idx → BitVec 32) (o : Fin 1 → ℕ) (h : ∀ a, o a + S16.size a ≤ S80.size a) (R : ℕ) (ho : o = ![R]) (l : ℕ) (h16 : l < 16)
    (off : Fin 1 → ℕ) (hs : S16.Slices off S1) (hp : ∀ a, (![0] : Fin 1 → ℕ) a < S1.size a) (hl : off = ![l]) :
    extractAt (s := S1) ![0] (extractStridedSlice S1 off (shapeCast S16
        ((sI : Memref sig .scVector .vmem S80 .i32).view.readAt (Elt F) (Rect.unit (s := S80) o S16.size h).toLoadRect I : S16.Idx → BitVec 32) shapeCasts_S16_S16) hs) hp
      = segOf I (R + l) :=
  (lane_of _ off hs hp l h16 hl).trans (readI (F := F) I o h (ix16 l h16) R ho)

end Cert.Proof.Seg

end
-- ==== Proof.Steps.lean ====
/-
  Single steps of a group's sixteen rows: each lemma runs a fixed short piece of the program over the tile's four
  scratch arrays and says what the arrays hold after it.
-/
module

public import proofs.«01_k».proof.Proof.Base

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's handshakes, the finishing kernel's buffers, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The tile's thread. -/
abbrev tileOf (d : Dev nD) (i : grid0.Coords) : Thread nD τ := V d ((i 0).castLE hcore0) ((i 1).castLE hsub0)

/-- The four scratch arrays at given contents. -/
def St (d : Dev nD) (i : grid0.Coords) (X : S80x128.Idx → F .f32) (I : S80.Idx → BitVec 32) (A : S65536.Idx → F .f32) (B : S8192.Idx → F .f32) : sProp 𝕄 :=
  iprop(((sA).view.loc (tileOf d i) ↦{fullShare} A) ∗ ((sB).view.loc (tileOf d i) ↦{fullShare} B)
    ∗ ((sX).view.loc (tileOf d i) ↦{fullShare} X) ∗ ((sI).view.loc (tileOf d i) ↦{fullShare} I))

/-- A program of the tile. -/
abbrev PR (d : Dev nD) (i : grid0.Coords) (α : Type) : Type 1 := Prog (TpuEff nD τ sig (Elt F) Λ₀ (tileOf d i).2) α
/-- Running it. -/
abbrev WP (d : Dev nD) (i : grid0.Coords) {α : Type} (p : PR (F := F) d i α) (Q : α → sProp 𝕄) : sProp 𝕄 :=
  wp frame (wpE (defs₀ (F := F)) Variants.none (tileOf d i) none) Set.univ p Q

section

variable {d : Dev nD} {i : grid0.Coords} {X : S80x128.Idx → F .f32} {I : S80.Idx → BitVec 32} {A : S65536.Idx → F .f32} {B : S8192.Idx → F .f32}
variable {α : Type} {Qf : α → sProp (MT nD τ sig (HIx 1) (Elt F) ℕ UU ℕ)}

/-- One load of the segment words. -/
theorem step_idx {o : Fin 1 → ℕ} {h : ∀ a, o a + S16.size a ≤ S80.size a} {hl}
    {k : Vec F S16 .i32 → PR (F := F) d i α}
    (H : St d i X I A B ⊢ WP d i (k ((sI : Memref sig .scVector .vmem S80 .i32).view.readAt (Elt F) (Rect.unit (s := S80) o S16.size h).toLoadRect I)) Qf) :
    St d i X I A B ⊢ WP d i (.op (.load sI (Rect.unit (s := S80) o S16.size h).toLoadRect hl) k) Qf := by
  refine exec_load (m := sI) (c := tileOf d i) (S := Finset.univ) (q := fullShare) (f := I) (R := iprop(((sA).view.loc (tileOf d i) ↦{fullShare} A) ∗ ((sB).view.loc (tileOf d i) ↦{fullShare} B)
    ∗ ((sX).view.loc (tileOf d i) ↦{fullShare} X))) _ _ _ ?_ (Finset.subset_univ _) _ rfl H
  unfold St
  constructor
  · iintro ⟨HA, HB, HX, HI⟩
    isplitr [HI]
    · isplitl [HA]; · iexact HA
      isplitl [HB] <;> iassumption
    iexact HI
  · iintro ⟨⟨HA, HB, HX⟩, HI⟩
    isplitl [HA]; · iexact HA
    isplitl [HB]; · iexact HB
    isplitl [HX] <;> iassumption

theorem step_loadA {o : Fin 1 → ℕ} {h : ∀ a, o a + S16.size a ≤ S65536.size a} {hl}
    {k : Vec F S16 .f32 → PR (F := F) d i α}
    (H : St d i X I A B ⊢ WP d i (k ((sA : Memref sig .scVector .vmem S65536 .f32).view.readAt (Elt F) (Rect.unit (s := S65536) o S16.size h).toLoadRect A)) Qf) :
    St d i X I A B ⊢ WP d i (.op (.load sA (Rect.unit (s := S65536) o S16.size h).toLoadRect hl) k) Qf := by
  refine exec_load (m := sA) (c := tileOf d i) (S := Finset.univ) (q := fullShare) (f := A) (R := iprop(((sB).view.loc (tileOf d i) ↦{fullShare} B)
    ∗ ((sX).view.loc (tileOf d i) ↦{fullShare} X) ∗ ((sI).view.loc (tileOf d i) ↦{fullShare} I))) _ _ _ ?_ (Finset.subset_univ _) _ rfl H
  unfold St
  constructor
  · iintro ⟨HA, HR⟩
    isplitl [HR] <;> iassumption
  · iintro ⟨HR, HA⟩
    isplitl [HA] <;> iassumption

theorem step_loadB {o : Fin 1 → ℕ} {h : ∀ a, o a + S16.size a ≤ S8192.size a} {hl}
    {k : Vec F S16 .f32 → PR (F := F) d i α}
    (H : St d i X I A B ⊢ WP d i (k ((sB : Memref sig .scVector .vmem S8192 .f32).view.readAt (Elt F) (Rect.unit (s := S8192) o S16.size h).toLoadRect B)) Qf) :
    St d i X I A B ⊢ WP d i (.op (.load sB (Rect.unit (s := S8192) o S16.size h).toLoadRect hl) k) Qf := by
  refine exec_load (m := sB) (c := tileOf d i) (S := Finset.univ) (q := fullShare) (f := B) (R := iprop(((sA).view.loc (tileOf d i) ↦{fullShare} A)
    ∗ ((sX).view.loc (tileOf d i) ↦{fullShare} X) ∗ ((sI).view.loc (tileOf d i) ↦{fullShare} I))) _ _ _ ?_ (Finset.subset_univ _) _ rfl H
  unfold St
  constructor
  · iintro ⟨HA, HB, HR⟩
    isplitr [HB]
    · isplitl [HA] <;> iassumption
    · iassumption
  · iintro ⟨⟨HA, HR⟩, HB⟩
    isplitl [HA]; · iassumption
    isplitl [HB] <;> iassumption

theorem step_loadX {o : Fin 2 → ℕ} {h : ∀ a, o a + S1x16.size a ≤ S80x128.size a} {hl}
    {k : Vec F S1x16 .f32 → PR (F := F) d i α}
    (H : St d i X I A B ⊢ WP d i (k ((sX : Memref sig .scVector .vmem S80x128 .f32).view.readAt (Elt F) (Rect.unit (s := S80x128) o S1x16.size h).toLoadRect X)) Qf) :
    St d i X I A B ⊢ WP d i (.op (.load sX (Rect.unit (s := S80x128) o S1x16.size h).toLoadRect hl) k) Qf := by
  refine exec_load (m := sX) (c := tileOf d i) (S := Finset.univ) (q := fullShare) (f := X) (R := iprop(((sA).view.loc (tileOf d i) ↦{fullShare} A)
    ∗ ((sB).view.loc (tileOf d i) ↦{fullShare} B) ∗ ((sI).view.loc (tileOf d i) ↦{fullShare} I))) _ _ _ ?_ (Finset.subset_univ _) _ rfl H
  unfold St
  constructor
  · iintro ⟨HA, HB, HX, HI⟩
    isplitr [HX]
    · isplitl [HA]; · iexact HA
      isplitl [HB] <;> iassumption
    iexact HX
  · iintro ⟨⟨HA, HB, HI⟩, HX⟩
    isplitl [HA]; · iexact HA
    isplitl [HB]; · iexact HB
    isplitl [HX] <;> iassumption

theorem step_storeA {o : Fin 1 → ℕ} {h : ∀ a, o a + S16.size a ≤ S65536.size a} {w : S16.Idx → F .f32} {hx hm} {A' : S65536.Idx → F .f32}
    {k : PUnit → PR (F := F) d i α}
    (hA : ((sA : Memref sig .scVector .vmem S65536 .f32).access (Rect.unit (s := S65536) o S16.size h)).write (Elt F) A w Finset.univ = A')
    (H : St d i X I A' B ⊢ WP d i (k ⟨⟩) Qf) :
    St d i X I A B ⊢ WP d i (.op (.store sA (Rect.unit (s := S65536) o S16.size h) w Finset.univ hx hm) k) Qf := by
  subst hA
  refine exec_store_raw (m := sA) (c := tileOf d i) (S := Finset.univ) (f := A) (R := iprop(((sB).view.loc (tileOf d i) ↦{fullShare} B)
    ∗ ((sX).view.loc (tileOf d i) ↦{fullShare} X) ∗ ((sI).view.loc (tileOf d i) ↦{fullShare} I))) _ _ _ ?_ (Finset.subset_univ _) ?_ H
  all_goals
    unfold St
    constructor
    · iintro ⟨HA, HR⟩
      isplitl [HR] <;> iassumption
    · iintro ⟨HR, HA⟩
      isplitl [HA] <;> iassumption

theorem step_storeB {o : Fin 1 → ℕ} {h : ∀ a, o a + S16.size a ≤ S8192.size a} {w : S16.Idx → F .f32} {hx hm} {B' : S8192.Idx → F .f32}
    {k : PUnit → PR (F := F) d i α}
    (hB : ((sB : Memref sig .scVector .vmem S8192 .f32).access (Rect.unit (s := S8192) o S16.size h)).write (Elt F) B w Finset.univ = B')
    (H : St d i X I A B' ⊢ WP d i (k ⟨⟩) Qf) :
    St d i X I A B ⊢ WP d i (.op (.store sB (Rect.unit (s := S8192) o S16.size h) w Finset.univ hx hm) k) Qf := by
  subst hB
  refine exec_store_raw (m := sB) (c := tileOf d i) (S := Finset.univ) (f := B) (R := iprop(((sA).view.loc (tileOf d i) ↦{fullShare} A)
    ∗ ((sX).view.loc (tileOf d i) ↦{fullShare} X) ∗ ((sI).view.loc (tileOf d i) ↦{fullShare} I))) _ _ _ ?_ (Finset.subset_univ _) ?_ H
  all_goals
    unfold St
    constructor
    · iintro ⟨HA, HB, HR⟩
      isplitr [HB]
      · isplitl [HA] <;> iassumption
      · iassumption
    · iintro ⟨⟨HA, HR⟩, HB⟩
      isplitl [HA]; · iassumption
      isplitl [HB] <;> iassumption

/-- One column group of a row: read the table, read the row, write the sum. -/
theorem step_cols (v c c' R : ℕ) {o : Fin 1 → ℕ} {h h1 h2 : ∀ a, o a + S16.size a ≤ S65536.size a} {o' : Fin 2 → ℕ} {h' : ∀ a, o' a + S1x16.size a ≤ S80x128.size a}
    {hl1 hl2 hl3 hx hm} {k : Vec F S16 .f32 → Vec F S1x16 .f32 → Vec F S16 .f32 → PUnit → PR (F := F) d i α}
    (hc : c' = c + 16) (hc' : c' ≤ 128) (ho : o 0 = 128 * v + c) (ho' : o' = ![R, c])
    (H : ∀ a b e, St d i X I (addCols A v (rowOf X R) c') B ⊢ WP d i (k a b e ⟨⟩) Qf) :
    St d i X I (addCols A v (rowOf X R) c) B ⊢ WP d i (.op (.load sA (Rect.unit (s := S65536) o S16.size h).toLoadRect hl1) fun a =>
      .op (.load sX (Rect.unit (s := S80x128) o' S1x16.size h').toLoadRect hl2) fun b =>
      .op (.load sA (Rect.unit (s := S65536) o S16.size h1).toLoadRect hl3) fun e =>
      .op (.store sA (Rect.unit (s := S65536) o S16.size h2) (payX a b) Finset.univ hx hm) fun u => k a b e u) Qf :=
  step_loadA (step_loadX (step_loadA (step_storeA (by subst hc; exact writeA A X o h2 h o' h' v c R hc' ho ho') (H _ _ _))))

theorem step_cnt (v : ℕ) {o : Fin 1 → ℕ} {h h1 h2 : ∀ a, o a + S16.size a ≤ S8192.size a}
    {hl1 hl3 hx hm} {k : Vec F S16 .f32 → Vec F S16 .f32 → PUnit → PR (F := F) d i α}
    (ho : o 0 = 16 * v)
    (H : ∀ a e, St d i X I A (addOne B v one1) ⊢ WP d i (k a e ⟨⟩) Qf) :
    St d i X I A B ⊢ WP d i (.op (.load sB (Rect.unit (s := S8192) o S16.size h).toLoadRect hl1) fun a =>
      .op (.load sB (Rect.unit (s := S8192) o S16.size h1).toLoadRect hl3) fun e =>
      .op (.store sB (Rect.unit (s := S8192) o S16.size h2) (payC a) Finset.univ hx hm) fun u => k a e u) Qf :=
  step_loadB (step_loadB (step_storeB (writeB B o h2 h v ho) (H _ _)))

theorem step_assume {C : Prop} {dec : Decidable C} {k : PLift C → PR (F := F) d i α} {P : sProp 𝕄} (hc : C) (H : P ⊢ WP d i (k ⟨hc⟩) Qf) :
    P ⊢ WP d i (.op (.assume C dec) k) Qf := exec_assume _ _ _ _ dec k hc H

end

end Cert.Proof.Seg

end
-- ==== Proof.Group.lean ====
/-
  One group of sixteen rows: the body of the inner loop takes the sums and counts of the tile over the group's rows.
-/
module

public import proofs.«01_k».proof.Proof.Steps

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Offsets of a segment's row -/

theorem word_row (w : BitVec 32) (hw : w.toNat < 512) (c : ℕ) (hc : c ≤ 112) : k0_off6 w (BitVec.ofNat 32 c) 0 = 128 * w.toNat + c := by
  have e : (w * 128#32 + BitVec.ofNat 32 c).toNat = 128 * w.toNat + c := by
    rw [BitVec.toNat_add, BitVec.toNat_mul, BitVec.toNat_ofNat, BitVec.toNat_ofNat]; omega
  exact e

theorem word_cnt (w : BitVec 32) (hw : w.toNat < 512) : k0_off15 w 0 = 16 * w.toNat := by
  have e : (w * 16#32).toNat = 16 * w.toNat := by
    rw [BitVec.toNat_mul, BitVec.toNat_ofNat]; omega
  exact e

theorem row_at (w w' : BitVec 32) (h : w = w') (hw : w'.toNat < 512) (c : ℕ) (hc : c ≤ 112) : k0_off6 w (BitVec.ofNat 32 c) 0 = 128 * w'.toNat + c := by
  subst h; exact word_row w hw c hc
theorem cnt_at (w w' : BitVec 32) (h : w = w') (hw : w'.toNat < 512) : k0_off15 w 0 = 16 * w'.toNat := by
  subst h; exact word_cnt w hw

/-- A segment below 512 has its row and its counters inside the tables. -/
theorem row_fits (w w' : BitVec 32) (h : w = w') (hw : w'.toNat < 512) : k0_chk1 w := by
  subst h
  constructor
  · intro r a
    obtain rfl : a = (0 : Fin 1) := Subsingleton.elim (α := Fin 1) _ _
    have := r.isLt
    rw [word_row w hw _ (by omega)]
    show 128 * w.toNat + 16 * r.val + 16 ≤ 65536
    omega
  · intro a
    obtain rfl : a = (0 : Fin 1) := Subsingleton.elim (α := Fin 1) _ _
    rw [word_cnt w hw]
    show 16 * w.toNat + 16 ≤ 8192
    omega

section

variable {d : Dev nD} {i : grid0.Coords} {X : S80x128.Idx → F .f32} {I : S80.Idx → BitVec 32} {A : S65536.Idx → F .f32} {B : S8192.Idx → F .f32}
variable {α : Type} {Qf : α → sProp (MT nD τ sig (HIx 1) (Elt F) ℕ UU ℕ)}

/-- The first column group of a row. -/
theorem step_first (v R : ℕ) {o : Fin 1 → ℕ} {h h1 h2 : ∀ a, o a + S16.size a ≤ S65536.size a} {o' : Fin 2 → ℕ} {h' : ∀ a, o' a + S1x16.size a ≤ S80x128.size a}
    {hl1 hl2 hl3 hx hm} {k : Vec F S16 .f32 → Vec F S1x16 .f32 → Vec F S16 .f32 → PUnit → PR (F := F) d i α}
    (ho : o 0 = 128 * v + 0) (ho' : o' = ![R, 0])
    (H : ∀ a b e, St d i X I (addCols A v (rowOf X R) 16) B ⊢ WP d i (k a b e ⟨⟩) Qf) :
    St d i X I A B ⊢ WP d i (.op (.load sA (Rect.unit (s := S65536) o S16.size h).toLoadRect hl1) fun a =>
      .op (.load sX (Rect.unit (s := S80x128) o' S1x16.size h').toLoadRect hl2) fun b =>
      .op (.load sA (Rect.unit (s := S65536) o S16.size h1).toLoadRect hl3) fun e =>
      .op (.store sA (Rect.unit (s := S65536) o S16.size h2) (payX a b) Finset.univ hx hm) fun u => k a b e u) Qf := by
  have := step_cols (d := d) (i := i) (X := X) (I := I) (A := A) (B := B) (Qf := Qf) v 0 16 R (h := h) (h1 := h1) (h2 := h2) (h' := h') (hl1 := hl1) (hl2 := hl2) (hl3 := hl3) (hx := hx) (hm := hm) (k := k) rfl (by norm_num) ho ho' H
  rw [addCols_zero] at this
  exact this

/-- The last column group of a row. -/
theorem step_last (v R : ℕ) (A' : S65536.Idx → F .f32) {o : Fin 1 → ℕ} {h h1 h2 : ∀ a, o a + S16.size a ≤ S65536.size a} {o' : Fin 2 → ℕ} {h' : ∀ a, o' a + S1x16.size a ≤ S80x128.size a}
    {hl1 hl2 hl3 hx hm} {k : Vec F S16 .f32 → Vec F S1x16 .f32 → Vec F S16 .f32 → PUnit → PR (F := F) d i α}
    (hA : addRow A v (rowOf X R) = A') (ho : o 0 = 128 * v + 112) (ho' : o' = ![R, 112])
    (H : ∀ a b e, St d i X I A' B ⊢ WP d i (k a b e ⟨⟩) Qf) :
    St d i X I (addCols A v (rowOf X R) 112) B ⊢ WP d i (.op (.load sA (Rect.unit (s := S65536) o S16.size h).toLoadRect hl1) fun a =>
      .op (.load sX (Rect.unit (s := S80x128) o' S1x16.size h').toLoadRect hl2) fun b =>
      .op (.load sA (Rect.unit (s := S65536) o S16.size h1).toLoadRect hl3) fun e =>
      .op (.store sA (Rect.unit (s := S65536) o S16.size h2) (payX a b) Finset.univ hx hm) fun u => k a b e u) Qf := by
  subst hA
  rw [← addCols_all] at H
  exact step_cols (d := d) (i := i) (X := X) (I := I) (A := A) (B := B) (Qf := Qf) v 112 128 R rfl (by norm_num) ho ho' H

/-- The counters of a row. -/
theorem step_count (v : ℕ) (B' : S8192.Idx → F .f32) {o : Fin 1 → ℕ} {h h1 h2 : ∀ a, o a + S16.size a ≤ S8192.size a}
    {hl1 hl3 hx hm} {k : Vec F S16 .f32 → Vec F S16 .f32 → PUnit → PR (F := F) d i α}
    (hB : addOne B v one1 = B') (ho : o 0 = 16 * v)
    (H : ∀ a e, St d i X I A B' ⊢ WP d i (k a e ⟨⟩) Qf) :
    St d i X I A B ⊢ WP d i (.op (.load sB (Rect.unit (s := S8192) o S16.size h).toLoadRect hl1) fun a =>
      .op (.load sB (Rect.unit (s := S8192) o S16.size h1).toLoadRect hl3) fun e =>
      .op (.store sB (Rect.unit (s := S8192) o S16.size h2) (payC a) Finset.univ hx hm) fun u => k a e u) Qf := by
  subst hB; exact step_cnt v ho H

/-- The body of the inner loop at group `g`. -/
theorem group_wp (arg2 : Memref sig .scVector .hbm S50000x256 .f32) (harg2 : arg2.IsWhole) (arg3 : Memref sig .scVector .hbm S50000 .i32) (harg3 : arg3.IsWhole)
    (arg4 : Memref sig .scVector .hbm S16x2x65536 .f32) (harg4 : arg4.IsWhole) (arg5 : Memref sig .scVector .hbm S16x2x8192 .f32) (harg5 : arg5.IsWhole)
    (h6 : (sA).IsWhole) (h7 : (sB).IsWhole) (h8 : (sX).IsWhole) (h9 : (sI).IsWhole)
    (r0 r1 r2 r3 r4 r5 : DmaSems sig S_) (g : Fin k0_t4_loop.trips) (hI : ∀ l, (segOf I l).toNat < 512) :
    St d i X I A B ⊢ WP d i (k0_t4_body (F := F) i arg2 harg2 arg3 harg3 arg4 harg4 arg5 harg5 sA h6 sB h7 sX h8 sI h9 r0 r1 r2 r3 r4 r5 g ())
      (fun _ => St d i X I (lanesA X I A (16 * g.val) 16) (lanesB I B (16 * g.val) 16)) := by
  have hg : k0_off5 g = ![16 * g.val] := k0_off5_eq g
  unfold k0_t4_body
  refine step_idx ?_
  -- row 0
  refine step_assume (row_fits _ _ (lane_word (F := F) I _ _ (16 * g.val) hg 0 (by norm_num) _ _ _ rfl) (hI _)) ?_
  refine step_first (segOf I (16 * g.val + 0)).toNat (16 * g.val + 0) (row_at _ _ (lane_word (F := F) I _ _ (16 * g.val) hg 0 (by norm_num) _ _ _ rfl) (hI _) 0 (by norm_num)) (k0_off7_eq g) fun _ _ _ => ?_
  refine step_cols (segOf I (16 * g.val + 0)).toNat 16 32 (16 * g.val + 0) rfl (by norm_num) (row_at _ _ (lane_word (F := F) I _ _ (16 * g.val) hg 0 (by norm_num) _ _ _ rfl) (hI _) 16 (by norm_num)) (k0_off8_eq g) fun _ _ _ => ?_
  refine step_cols (segOf I (16 * g.val + 0)).toNat 32 48 (16 * g.val + 0) rfl (by norm_num) (row_at _ _ (lane_word (F := F) I _ _ (16 * g.val) hg 0 (by norm_num) _ _ _ rfl) (hI _) 32 (by norm_num)) (k0_off9_eq g) fun _ _ _ => ?_
  refine step_cols (segOf I (16 * g.val + 0)).toNat 48 64 (16 * g.val + 0) rfl (by norm_num) (row_at _ _ (lane_word (F := F) I _ _ (16 * g.val) hg 0 (by norm_num) _ _ _ rfl) (hI _) 48 (by norm_num)) (k0_off10_eq g) fun _ _ _ => ?_
  refine step_cols (segOf I (16 * g.val + 0)).toNat 64 80 (16 * g.val + 0) rfl (by norm_num) (row_at _ _ (lane_word (F := F) I _ _ (16 * g.val) hg 0 (by norm_num) _ _ _ rfl) (hI _) 64 (by norm_num)) (k0_off11_eq g) fun _ _ _ => ?_
  refine step_cols (segOf I (16 * g.val + 0)).toNat 80 96 (16 * g.val + 0) rfl (by norm_num) (row_at _ _ (lane_word (F := F) I _ _ (16 * g.val) hg 0 (by norm_num) _ _ _ rfl) (hI _) 80 (by norm_num)) (k0_off12_eq g) fun _ _ _ => ?_
  refine step_cols (segOf I (16 * g.val + 0)).toNat 96 112 (16 * g.val + 0) rfl (by norm_num) (row_at _ _ (lane_word (F := F) I _ _ (16 * g.val) hg 0 (by norm_num) _ _ _ rfl) (hI _) 96 (by norm_num)) (k0_off13_eq g) fun _ _ _ => ?_
  refine step_last (segOf I (16 * g.val + 0)).toNat (16 * g.val + 0) (lanesA X I A (16 * g.val) 1) rfl (row_at _ _ (lane_word (F := F) I _ _ (16 * g.val) hg 0 (by norm_num) _ _ _ rfl) (hI _) 112 (by norm_num)) (k0_off14_eq g) fun _ _ _ => ?_
  refine step_count (segOf I (16 * g.val + 0)).toNat (lanesB I B (16 * g.val) 1) rfl (cnt_at _ _ (lane_word (F := F) I _ _ (16 * g.val) hg 0 (by norm_num) _ _ _ rfl) (hI _)) fun _ _ => ?_
  -- row 1
  refine step_assume (row_fits _ _ (lane_word (F := F) I _ _ (16 * g.val) hg 1 (by norm_num) _ _ _ rfl) (hI _)) ?_
  refine step_first (segOf I (16 * g.val + 1)).toNat (16 * g.val + 1) (row_at _ _ (lane_word (F := F) I _ _ (16 * g.val) hg 1 (by norm_num) _ _ _ rfl) (hI _) 0 (by norm_num)) (k0_off17_eq g) fun _ _ _ => ?_
  refine step_cols (segOf I (16 * g.val + 1)).toNat 16 32 (16 * g.val + 1) rfl (by norm_num) (row_at _ _ (lane_word (F := F) I _ _ (16 * g.val) hg 1 (by norm_num) _ _ _ rfl) (hI _) 16 (by norm_num)) (k0_off18_eq g) fun _ _ _ => ?_
  refine step_cols (segOf I (16 * g.val + 1)).toNat 32 48 (16 * g.val + 1) rfl (by norm_num) (row_at _ _ (lane_word (F := F) I _ _ (16 * g.val) hg 1 (by norm_num) _ _ _ rfl) (hI _) 32 (by norm_num)) (k0_off19_eq g) fun _ _ _ => ?_
  refine step_cols (segOf I (16 * g.val + 1)).toNat 48 64 (16 * g.val + 1) rfl (by norm_num) (row_at _ _ (lane_word (F := F) I _ _ (16 * g.val) hg 1 (by norm_num) _ _ _ rfl) (hI _) 48 (by norm_num)) (k0_off20_eq g) fun _ _ _ => ?_
  refine step_cols (segOf I (16 * g.val + 1)).toNat 64 80 (16 * g.val + 1) rfl (by norm_num) (row_at _ _ (lane_word (F := F) I _ _ (16 * g.val) hg 1 (by norm_num) _ _ _ rfl) (hI _) 64 (by norm_num)) (k0_off21_eq g) fun _ _ _ => ?_
  refine step_cols (segOf I (16 * g.val + 1)).toNat 80 96 (16 * g.val + 1) rfl (by norm_num) (row_at _ _ (lane_word (F := F) I _ _ (16 * g.val) hg 1 (by norm_num) _ _ _ rfl) (hI _) 80 (by norm_num)) (k0_off22_eq g) fun _ _ _ => ?_
  refine step_cols (segOf I (16 * g.val + 1)).toNat 96 112 (16 * g.val + 1) rfl (by norm_num) (row_at _ _ (lane_word (F := F) I _ _ (16 * g.val) hg 1 (by norm_num) _ _ _ rfl) (hI _) 96 (by norm_num)) (k0_off23_eq g) fun _ _ _ => ?_
  refine step_last (segOf I (16 * g.val + 1)).toNat (16 * g.val + 1) (lanesA X I A (16 * g.val) 2) rfl (row_at _ _ (lane_word (F := F) I _ _ (16 * g.val) hg 1 (by norm_num) _ _ _ rfl) (hI _) 112 (by norm_num)) (k0_off24_eq g) fun _ _ _ => ?_
  refine step_count (segOf I (16 * g.val + 1)).toNat (lanesB I B (16 * g.val) 2) rfl (cnt_at _ _ (lane_word (F := F) I _ _ (16 * g.val) hg 1 (by norm_num) _ _ _ rfl) (hI _)) fun _ _ => ?_
  -- row 2
  refine step_assume (row_fits _ _ (lane_word (F := F) I _ _ (16 * g.val) hg 2 (by norm_num) _ _ _ rfl) (hI _)) ?_
  refine step_first (segOf I (16 * g.val + 2)).toNat (16 * g.val + 2) (row_at _ _ (lane_word (F := F) I _ _ (16 * g.val) hg 2 (by norm_num) _ _ _ rfl) (hI _) 0 (by norm_num)) (k0_off27_eq g) fun _ _ _ => ?_
  refine step_cols (segOf I (16 * g.val + 2)).toNat 16 32 (16 * g.val + 2) rfl (by norm_num) (row_at _ _ (lane_word (F := F) I _ _ (16 * g.val) hg 2 (by norm_num) _ _ _ rfl) (hI _) 16 (by norm_num)) (k0_off28_eq g) fun _ _ _ => ?_
  refine step_cols (segOf I (16 * g.val + 2)).toNat 32 48 (16 * g.val + 2) rfl (by norm_num) (row_at _ _ (lane_word (F := F) I _ _ (16 * g.val) hg 2 (by norm_num) _ _ _ rfl) (hI _) 32 (by norm_num)) (k0_off29_eq g) fun _ _ _ => ?_
  refine step_cols (segOf I (16 * g.val + 2)).toNat 48 64 (16 * g.val + 2) rfl (by norm_num) (row_at _ _ (lane_word (F := F) I _ _ (16 * g.val) hg 2 (by norm_num) _ _ _ rfl) (hI _) 48 (by norm_num)) (k0_off30_eq g) fun _ _ _ => ?_
  refine step_cols (segOf I (16 * g.val + 2)).toNat 64 80 (16 * g.val + 2) rfl (by norm_num) (row_at _ _ (lane_word (F := F) I _ _ (16 * g.val) hg 2 (by norm_num) _ _ _ rfl) (hI _) 64 (by norm_num)) (k0_off31_eq g) fun _ _ _ => ?_
  refine step_cols (segOf I (16 * g.val + 2)).toNat 80 96 (16 * g.val + 2) rfl (by norm_num) (row_at _ _ (lane_word (F := F) I _ _ (16 * g.val) hg 2 (by norm_num) _ _ _ rfl) (hI _) 80 (by norm_num)) (k0_off32_eq g) fun _ _ _ => ?_
  refine step_cols (segOf I (16 * g.val + 2)).toNat 96 112 (16 * g.val + 2) rfl (by norm_num) (row_at _ _ (lane_word (F := F) I _ _ (16 * g.val) hg 2 (by norm_num) _ _ _ rfl) (hI _) 96 (by norm_num)) (k0_off33_eq g) fun _ _ _ => ?_
  refine step_last (segOf I (16 * g.val + 2)).toNat (16 * g.val + 2) (lanesA X I A (16 * g.val) 3) rfl (row_at _ _ (lane_word (F := F) I _ _ (16 * g.val) hg 2 (by norm_num) _ _ _ rfl) (hI _) 112 (by norm_num)) (k0_off34_eq g) fun _ _ _ => ?_
  refine step_count (segOf I (16 * g.val + 2)).toNat (lanesB I B (16 * g.val) 3) rfl (cnt_at _ _ (lane_word (F := F) I _ _ (16 * g.val) hg 2 (by norm_num) _ _ _ rfl) (hI _)) fun _ _ => ?_
  -- row 3
  refine step_assume (row_fits _ _ (lane_word (F := F) I _ _ (16 * g.val) hg 3 (by norm_num) _ _ _ rfl) (hI _)) ?_
  refine step_first (segOf I (16 * g.val + 3)).toNat (16 * g.val + 3) (row_at _ _ (lane_word (F := F) I _ _ (16 * g.val) hg 3 (by norm_num) _ _ _ rfl) (hI _) 0 (by norm_num)) (k0_off37_eq g) fun _ _ _ => ?_
  refine step_cols (segOf I (16 * g.val + 3)).toNat 16 32 (16 * g.val + 3) rfl (by norm_num) (row_at _ _ (lane_word (F := F) I _ _ (16 * g.val) hg 3 (by norm_num) _ _ _ rfl) (hI _) 16 (by norm_num)) (k0_off38_eq g) fun _ _ _ => ?_
  refine step_cols (segOf I (16 * g.val + 3)).toNat 32 48 (16 * g.val + 3) rfl (by norm_num) (row_at _ _ (lane_word (F := F) I _ _ (16 * g.val) hg 3 (by norm_num) _ _ _ rfl) (hI _) 32 (by norm_num)) (k0_off39_eq g) fun _ _ _ => ?_
  refine step_cols (segOf I (16 * g.val + 3)).toNat 48 64 (16 * g.val + 3) rfl (by norm_num) (row_at _ _ (lane_word (F := F) I _ _ (16 * g.val) hg 3 (by norm_num) _ _ _ rfl) (hI _) 48 (by norm_num)) (k0_off40_eq g) fun _ _ _ => ?_
  refine step_cols (segOf I (16 * g.val + 3)).toNat 64 80 (16 * g.val + 3) rfl (by norm_num) (row_at _ _ (lane_word (F := F) I _ _ (16 * g.val) hg 3 (by norm_num) _ _ _ rfl) (hI _) 64 (by norm_num)) (k0_off41_eq g) fun _ _ _ => ?_
  refine step_cols (segOf I (16 * g.val + 3)).toNat 80 96 (16 * g.val + 3) rfl (by norm_num) (row_at _ _ (lane_word (F := F) I _ _ (16 * g.val) hg 3 (by norm_num) _ _ _ rfl) (hI _) 80 (by norm_num)) (k0_off42_eq g) fun _ _ _ => ?_
  refine step_cols (segOf I (16 * g.val + 3)).toNat 96 112 (16 * g.val + 3) rfl (by norm_num) (row_at _ _ (lane_word (F := F) I _ _ (16 * g.val) hg 3 (by norm_num) _ _ _ rfl) (hI _) 96 (by norm_num)) (k0_off43_eq g) fun _ _ _ => ?_
  refine step_last (segOf I (16 * g.val + 3)).toNat (16 * g.val + 3) (lanesA X I A (16 * g.val) 4) rfl (row_at _ _ (lane_word (F := F) I _ _ (16 * g.val) hg 3 (by norm_num) _ _ _ rfl) (hI _) 112 (by norm_num)) (k0_off44_eq g) fun _ _ _ => ?_
  refine step_count (segOf I (16 * g.val + 3)).toNat (lanesB I B (16 * g.val) 4) rfl (cnt_at _ _ (lane_word (F := F) I _ _ (16 * g.val) hg 3 (by norm_num) _ _ _ rfl) (hI _)) fun _ _ => ?_
  -- row 4
  refine step_assume (row_fits _ _ (lane_word (F := F) I _ _ (16 * g.val) hg 4 (by norm_num) _ _ _ rfl) (hI _)) ?_
  refine step_first (segOf I (16 * g.val + 4)).toNat (16 * g.val + 4) (row_at _ _ (lane_word (F := F) I _ _ (16 * g.val) hg 4 (by norm_num) _ _ _ rfl) (hI _) 0 (by norm_num)) (k0_off47_eq g) fun _ _ _ => ?_
  refine step_cols (segOf I (16 * g.val + 4)).toNat 16 32 (16 * g.val + 4) rfl (by norm_num) (row_at _ _ (lane_word (F := F) I _ _ (16 * g.val) hg 4 (by norm_num) _ _ _ rfl) (hI _) 16 (by norm_num)) (k0_off48_eq g) fun _ _ _ => ?_
  refine step_cols (segOf I (16 * g.val + 4)).toNat 32 48 (16 * g.val + 4) rfl (by norm_num) (row_at _ _ (lane_word (F := F) I _ _ (16 * g.val) hg 4 (by norm_num) _ _ _ rfl) (hI _) 32 (by norm_num)) (k0_off49_eq g) fun _ _ _ => ?_
  refine step_cols (segOf I (16 * g.val + 4)).toNat 48 64 (16 * g.val + 4) rfl (by norm_num) (row_at _ _ (lane_word (F := F) I _ _ (16 * g.val) hg 4 (by norm_num) _ _ _ rfl) (hI _) 48 (by norm_num)) (k0_off50_eq g) fun _ _ _ => ?_
  refine step_cols (segOf I (16 * g.val + 4)).toNat 64 80 (16 * g.val + 4) rfl (by norm_num) (row_at _ _ (lane_word (F := F) I _ _ (16 * g.val) hg 4 (by norm_num) _ _ _ rfl) (hI _) 64 (by norm_num)) (k0_off51_eq g) fun _ _ _ => ?_
  refine step_cols (segOf I (16 * g.val + 4)).toNat 80 96 (16 * g.val + 4) rfl (by norm_num) (row_at _ _ (lane_word (F := F) I _ _ (16 * g.val) hg 4 (by norm_num) _ _ _ rfl) (hI _) 80 (by norm_num)) (k0_off52_eq g) fun _ _ _ => ?_
  refine step_cols (segOf I (16 * g.val + 4)).toNat 96 112 (16 * g.val + 4) rfl (by norm_num) (row_at _ _ (lane_word (F := F) I _ _ (16 * g.val) hg 4 (by norm_num) _ _ _ rfl) (hI _) 96 (by norm_num)) (k0_off53_eq g) fun _ _ _ => ?_
  refine step_last (segOf I (16 * g.val + 4)).toNat (16 * g.val + 4) (lanesA X I A (16 * g.val) 5) rfl (row_at _ _ (lane_word (F := F) I _ _ (16 * g.val) hg 4 (by norm_num) _ _ _ rfl) (hI _) 112 (by norm_num)) (k0_off54_eq g) fun _ _ _ => ?_
  refine step_count (segOf I (16 * g.val + 4)).toNat (lanesB I B (16 * g.val) 5) rfl (cnt_at _ _ (lane_word (F := F) I _ _ (16 * g.val) hg 4 (by norm_num) _ _ _ rfl) (hI _)) fun _ _ => ?_
  -- row 5
  refine step_assume (row_fits _ _ (lane_word (F := F) I _ _ (16 * g.val) hg 5 (by norm_num) _ _ _ rfl) (hI _)) ?_
  refine step_first (segOf I (16 * g.val + 5)).toNat (16 * g.val + 5) (row_at _ _ (lane_word (F := F) I _ _ (16 * g.val) hg 5 (by norm_num) _ _ _ rfl) (hI _) 0 (by norm_num)) (k0_off57_eq g) fun _ _ _ => ?_
  refine step_cols (segOf I (16 * g.val + 5)).toNat 16 32 (16 * g.val + 5) rfl (by norm_num) (row_at _ _ (lane_word (F := F) I _ _ (16 * g.val) hg 5 (by norm_num) _ _ _ rfl) (hI _) 16 (by norm_num)) (k0_off58_eq g) fun _ _ _ => ?_
  refine step_cols (segOf I (16 * g.val + 5)).toNat 32 48 (16 * g.val + 5) rfl (by norm_num) (row_at _ _ (lane_word (F := F) I _ _ (16 * g.val) hg 5 (by norm_num) _ _ _ rfl) (hI _) 32 (by norm_num)) (k0_off59_eq g) fun _ _ _ => ?_
  refine step_cols (segOf I (16 * g.val + 5)).toNat 48 64 (16 * g.val + 5) rfl (by norm_num) (row_at _ _ (lane_word (F := F) I _ _ (16 * g.val) hg 5 (by norm_num) _ _ _ rfl) (hI _) 48 (by norm_num)) (k0_off60_eq g) fun _ _ _ => ?_
  refine step_cols (segOf I (16 * g.val + 5)).toNat 64 80 (16 * g.val + 5) rfl (by norm_num) (row_at _ _ (lane_word (F := F) I _ _ (16 * g.val) hg 5 (by norm_num) _ _ _ rfl) (hI _) 64 (by norm_num)) (k0_off61_eq g) fun _ _ _ => ?_
  refine step_cols (segOf I (16 * g.val + 5)).toNat 80 96 (16 * g.val + 5) rfl (by norm_num) (row_at _ _ (lane_word (F := F) I _ _ (16 * g.val) hg 5 (by norm_num) _ _ _ rfl) (hI _) 80 (by norm_num)) (k0_off62_eq g) fun _ _ _ => ?_
  refine step_cols (segOf I (16 * g.val + 5)).toNat 96 112 (16 * g.val + 5) rfl (by norm_num) (row_at _ _ (lane_word (F := F) I _ _ (16 * g.val) hg 5 (by norm_num) _ _ _ rfl) (hI _) 96 (by norm_num)) (k0_off63_eq g) fun _ _ _ => ?_
  refine step_last (segOf I (16 * g.val + 5)).toNat (16 * g.val + 5) (lanesA X I A (16 * g.val) 6) rfl (row_at _ _ (lane_word (F := F) I _ _ (16 * g.val) hg 5 (by norm_num) _ _ _ rfl) (hI _) 112 (by norm_num)) (k0_off64_eq g) fun _ _ _ => ?_
  refine step_count (segOf I (16 * g.val + 5)).toNat (lanesB I B (16 * g.val) 6) rfl (cnt_at _ _ (lane_word (F := F) I _ _ (16 * g.val) hg 5 (by norm_num) _ _ _ rfl) (hI _)) fun _ _ => ?_
  -- row 6
  refine step_assume (row_fits _ _ (lane_word (F := F) I _ _ (16 * g.val) hg 6 (by norm_num) _ _ _ rfl) (hI _)) ?_
  refine step_first (segOf I (16 * g.val + 6)).toNat (16 * g.val + 6) (row_at _ _ (lane_word (F := F) I _ _ (16 * g.val) hg 6 (by norm_num) _ _ _ rfl) (hI _) 0 (by norm_num)) (k0_off67_eq g) fun _ _ _ => ?_
  refine step_cols (segOf I (16 * g.val + 6)).toNat 16 32 (16 * g.val + 6) rfl (by norm_num) (row_at _ _ (lane_word (F := F) I _ _ (16 * g.val) hg 6 (by norm_num) _ _ _ rfl) (hI _) 16 (by norm_num)) (k0_off68_eq g) fun _ _ _ => ?_
  refine step_cols (segOf I (16 * g.val + 6)).toNat 32 48 (16 * g.val + 6) rfl (by norm_num) (row_at _ _ (lane_word (F := F) I _ _ (16 * g.val) hg 6 (by norm_num) _ _ _ rfl) (hI _) 32 (by norm_num)) (k0_off69_eq g) fun _ _ _ => ?_
  refine step_cols (segOf I (16 * g.val + 6)).toNat 48 64 (16 * g.val + 6) rfl (by norm_num) (row_at _ _ (lane_word (F := F) I _ _ (16 * g.val) hg 6 (by norm_num) _ _ _ rfl) (hI _) 48 (by norm_num)) (k0_off70_eq g) fun _ _ _ => ?_
  refine step_cols (segOf I (16 * g.val + 6)).toNat 64 80 (16 * g.val + 6) rfl (by norm_num) (row_at _ _ (lane_word (F := F) I _ _ (16 * g.val) hg 6 (by norm_num) _ _ _ rfl) (hI _) 64 (by norm_num)) (k0_off71_eq g) fun _ _ _ => ?_
  refine step_cols (segOf I (16 * g.val + 6)).toNat 80 96 (16 * g.val + 6) rfl (by norm_num) (row_at _ _ (lane_word (F := F) I _ _ (16 * g.val) hg 6 (by norm_num) _ _ _ rfl) (hI _) 80 (by norm_num)) (k0_off72_eq g) fun _ _ _ => ?_
  refine step_cols (segOf I (16 * g.val + 6)).toNat 96 112 (16 * g.val + 6) rfl (by norm_num) (row_at _ _ (lane_word (F := F) I _ _ (16 * g.val) hg 6 (by norm_num) _ _ _ rfl) (hI _) 96 (by norm_num)) (k0_off73_eq g) fun _ _ _ => ?_
  refine step_last (segOf I (16 * g.val + 6)).toNat (16 * g.val + 6) (lanesA X I A (16 * g.val) 7) rfl (row_at _ _ (lane_word (F := F) I _ _ (16 * g.val) hg 6 (by norm_num) _ _ _ rfl) (hI _) 112 (by norm_num)) (k0_off74_eq g) fun _ _ _ => ?_
  refine step_count (segOf I (16 * g.val + 6)).toNat (lanesB I B (16 * g.val) 7) rfl (cnt_at _ _ (lane_word (F := F) I _ _ (16 * g.val) hg 6 (by norm_num) _ _ _ rfl) (hI _)) fun _ _ => ?_
  -- row 7
  refine step_assume (row_fits _ _ (lane_word (F := F) I _ _ (16 * g.val) hg 7 (by norm_num) _ _ _ rfl) (hI _)) ?_
  refine step_first (segOf I (16 * g.val + 7)).toNat (16 * g.val + 7) (row_at _ _ (lane_word (F := F) I _ _ (16 * g.val) hg 7 (by norm_num) _ _ _ rfl) (hI _) 0 (by norm_num)) (k0_off77_eq g) fun _ _ _ => ?_
  refine step_cols (segOf I (16 * g.val + 7)).toNat 16 32 (16 * g.val + 7) rfl (by norm_num) (row_at _ _ (lane_word (F := F) I _ _ (16 * g.val) hg 7 (by norm_num) _ _ _ rfl) (hI _) 16 (by norm_num)) (k0_off78_eq g) fun _ _ _ => ?_
  refine step_cols (segOf I (16 * g.val + 7)).toNat 32 48 (16 * g.val + 7) rfl (by norm_num) (row_at _ _ (lane_word (F := F) I _ _ (16 * g.val) hg 7 (by norm_num) _ _ _ rfl) (hI _) 32 (by norm_num)) (k0_off79_eq g) fun _ _ _ => ?_
  refine step_cols (segOf I (16 * g.val + 7)).toNat 48 64 (16 * g.val + 7) rfl (by norm_num) (row_at _ _ (lane_word (F := F) I _ _ (16 * g.val) hg 7 (by norm_num) _ _ _ rfl) (hI _) 48 (by norm_num)) (k0_off80_eq g) fun _ _ _ => ?_
  refine step_cols (segOf I (16 * g.val + 7)).toNat 64 80 (16 * g.val + 7) rfl (by norm_num) (row_at _ _ (lane_word (F := F) I _ _ (16 * g.val) hg 7 (by norm_num) _ _ _ rfl) (hI _) 64 (by norm_num)) (k0_off81_eq g) fun _ _ _ => ?_
  refine step_cols (segOf I (16 * g.val + 7)).toNat 80 96 (16 * g.val + 7) rfl (by norm_num) (row_at _ _ (lane_word (F := F) I _ _ (16 * g.val) hg 7 (by norm_num) _ _ _ rfl) (hI _) 80 (by norm_num)) (k0_off82_eq g) fun _ _ _ => ?_
  refine step_cols (segOf I (16 * g.val + 7)).toNat 96 112 (16 * g.val + 7) rfl (by norm_num) (row_at _ _ (lane_word (F := F) I _ _ (16 * g.val) hg 7 (by norm_num) _ _ _ rfl) (hI _) 96 (by norm_num)) (k0_off83_eq g) fun _ _ _ => ?_
  refine step_last (segOf I (16 * g.val + 7)).toNat (16 * g.val + 7) (lanesA X I A (16 * g.val) 8) rfl (row_at _ _ (lane_word (F := F) I _ _ (16 * g.val) hg 7 (by norm_num) _ _ _ rfl) (hI _) 112 (by norm_num)) (k0_off84_eq g) fun _ _ _ => ?_
  refine step_count (segOf I (16 * g.val + 7)).toNat (lanesB I B (16 * g.val) 8) rfl (cnt_at _ _ (lane_word (F := F) I _ _ (16 * g.val) hg 7 (by norm_num) _ _ _ rfl) (hI _)) fun _ _ => ?_
  -- row 8
  refine step_assume (row_fits _ _ (lane_word (F := F) I _ _ (16 * g.val) hg 8 (by norm_num) _ _ _ rfl) (hI _)) ?_
  refine step_first (segOf I (16 * g.val + 8)).toNat (16 * g.val + 8) (row_at _ _ (lane_word (F := F) I _ _ (16 * g.val) hg 8 (by norm_num) _ _ _ rfl) (hI _) 0 (by norm_num)) (k0_off87_eq g) fun _ _ _ => ?_
  refine step_cols (segOf I (16 * g.val + 8)).toNat 16 32 (16 * g.val + 8) rfl (by norm_num) (row_at _ _ (lane_word (F := F) I _ _ (16 * g.val) hg 8 (by norm_num) _ _ _ rfl) (hI _) 16 (by norm_num)) (k0_off88_eq g) fun _ _ _ => ?_
  refine step_cols (segOf I (16 * g.val + 8)).toNat 32 48 (16 * g.val + 8) rfl (by norm_num) (row_at _ _ (lane_word (F := F) I _ _ (16 * g.val) hg 8 (by norm_num) _ _ _ rfl) (hI _) 32 (by norm_num)) (k0_off89_eq g) fun _ _ _ => ?_
  refine step_cols (segOf I (16 * g.val + 8)).toNat 48 64 (16 * g.val + 8) rfl (by norm_num) (row_at _ _ (lane_word (F := F) I _ _ (16 * g.val) hg 8 (by norm_num) _ _ _ rfl) (hI _) 48 (by norm_num)) (k0_off90_eq g) fun _ _ _ => ?_
  refine step_cols (segOf I (16 * g.val + 8)).toNat 64 80 (16 * g.val + 8) rfl (by norm_num) (row_at _ _ (lane_word (F := F) I _ _ (16 * g.val) hg 8 (by norm_num) _ _ _ rfl) (hI _) 64 (by norm_num)) (k0_off91_eq g) fun _ _ _ => ?_
  refine step_cols (segOf I (16 * g.val + 8)).toNat 80 96 (16 * g.val + 8) rfl (by norm_num) (row_at _ _ (lane_word (F := F) I _ _ (16 * g.val) hg 8 (by norm_num) _ _ _ rfl) (hI _) 80 (by norm_num)) (k0_off92_eq g) fun _ _ _ => ?_
  refine step_cols (segOf I (16 * g.val + 8)).toNat 96 112 (16 * g.val + 8) rfl (by norm_num) (row_at _ _ (lane_word (F := F) I _ _ (16 * g.val) hg 8 (by norm_num) _ _ _ rfl) (hI _) 96 (by norm_num)) (k0_off93_eq g) fun _ _ _ => ?_
  refine step_last (segOf I (16 * g.val + 8)).toNat (16 * g.val + 8) (lanesA X I A (16 * g.val) 9) rfl (row_at _ _ (lane_word (F := F) I _ _ (16 * g.val) hg 8 (by norm_num) _ _ _ rfl) (hI _) 112 (by norm_num)) (k0_off94_eq g) fun _ _ _ => ?_
  refine step_count (segOf I (16 * g.val + 8)).toNat (lanesB I B (16 * g.val) 9) rfl (cnt_at _ _ (lane_word (F := F) I _ _ (16 * g.val) hg 8 (by norm_num) _ _ _ rfl) (hI _)) fun _ _ => ?_
  -- row 9
  refine step_assume (row_fits _ _ (lane_word (F := F) I _ _ (16 * g.val) hg 9 (by norm_num) _ _ _ rfl) (hI _)) ?_
  refine step_first (segOf I (16 * g.val + 9)).toNat (16 * g.val + 9) (row_at _ _ (lane_word (F := F) I _ _ (16 * g.val) hg 9 (by norm_num) _ _ _ rfl) (hI _) 0 (by norm_num)) (k0_off97_eq g) fun _ _ _ => ?_
  refine step_cols (segOf I (16 * g.val + 9)).toNat 16 32 (16 * g.val + 9) rfl (by norm_num) (row_at _ _ (lane_word (F := F) I _ _ (16 * g.val) hg 9 (by norm_num) _ _ _ rfl) (hI _) 16 (by norm_num)) (k0_off98_eq g) fun _ _ _ => ?_
  refine step_cols (segOf I (16 * g.val + 9)).toNat 32 48 (16 * g.val + 9) rfl (by norm_num) (row_at _ _ (lane_word (F := F) I _ _ (16 * g.val) hg 9 (by norm_num) _ _ _ rfl) (hI _) 32 (by norm_num)) (k0_off99_eq g) fun _ _ _ => ?_
  refine step_cols (segOf I (16 * g.val + 9)).toNat 48 64 (16 * g.val + 9) rfl (by norm_num) (row_at _ _ (lane_word (F := F) I _ _ (16 * g.val) hg 9 (by norm_num) _ _ _ rfl) (hI _) 48 (by norm_num)) (k0_off100_eq g) fun _ _ _ => ?_
  refine step_cols (segOf I (16 * g.val + 9)).toNat 64 80 (16 * g.val + 9) rfl (by norm_num) (row_at _ _ (lane_word (F := F) I _ _ (16 * g.val) hg 9 (by norm_num) _ _ _ rfl) (hI _) 64 (by norm_num)) (k0_off101_eq g) fun _ _ _ => ?_
  refine step_cols (segOf I (16 * g.val + 9)).toNat 80 96 (16 * g.val + 9) rfl (by norm_num) (row_at _ _ (lane_word (F := F) I _ _ (16 * g.val) hg 9 (by norm_num) _ _ _ rfl) (hI _) 80 (by norm_num)) (k0_off102_eq g) fun _ _ _ => ?_
  refine step_cols (segOf I (16 * g.val + 9)).toNat 96 112 (16 * g.val + 9) rfl (by norm_num) (row_at _ _ (lane_word (F := F) I _ _ (16 * g.val) hg 9 (by norm_num) _ _ _ rfl) (hI _) 96 (by norm_num)) (k0_off103_eq g) fun _ _ _ => ?_
  refine step_last (segOf I (16 * g.val + 9)).toNat (16 * g.val + 9) (lanesA X I A (16 * g.val) 10) rfl (row_at _ _ (lane_word (F := F) I _ _ (16 * g.val) hg 9 (by norm_num) _ _ _ rfl) (hI _) 112 (by norm_num)) (k0_off104_eq g) fun _ _ _ => ?_
  refine step_count (segOf I (16 * g.val + 9)).toNat (lanesB I B (16 * g.val) 10) rfl (cnt_at _ _ (lane_word (F := F) I _ _ (16 * g.val) hg 9 (by norm_num) _ _ _ rfl) (hI _)) fun _ _ => ?_
  -- row 10
  refine step_assume (row_fits _ _ (lane_word (F := F) I _ _ (16 * g.val) hg 10 (by norm_num) _ _ _ rfl) (hI _)) ?_
  refine step_first (segOf I (16 * g.val + 10)).toNat (16 * g.val + 10) (row_at _ _ (lane_word (F := F) I _ _ (16 * g.val) hg 10 (by norm_num) _ _ _ rfl) (hI _) 0 (by norm_num)) (k0_off107_eq g) fun _ _ _ => ?_
  refine step_cols (segOf I (16 * g.val + 10)).toNat 16 32 (16 * g.val + 10) rfl (by norm_num) (row_at _ _ (lane_word (F := F) I _ _ (16 * g.val) hg 10 (by norm_num) _ _ _ rfl) (hI _) 16 (by norm_num)) (k0_off108_eq g) fun _ _ _ => ?_
  refine step_cols (segOf I (16 * g.val + 10)).toNat 32 48 (16 * g.val + 10) rfl (by norm_num) (row_at _ _ (lane_word (F := F) I _ _ (16 * g.val) hg 10 (by norm_num) _ _ _ rfl) (hI _) 32 (by norm_num)) (k0_off109_eq g) fun _ _ _ => ?_
  refine step_cols (segOf I (16 * g.val + 10)).toNat 48 64 (16 * g.val + 10) rfl (by norm_num) (row_at _ _ (lane_word (F := F) I _ _ (16 * g.val) hg 10 (by norm_num) _ _ _ rfl) (hI _) 48 (by norm_num)) (k0_off110_eq g) fun _ _ _ => ?_
  refine step_cols (segOf I (16 * g.val + 10)).toNat 64 80 (16 * g.val + 10) rfl (by norm_num) (row_at _ _ (lane_word (F := F) I _ _ (16 * g.val) hg 10 (by norm_num) _ _ _ rfl) (hI _) 64 (by norm_num)) (k0_off111_eq g) fun _ _ _ => ?_
  refine step_cols (segOf I (16 * g.val + 10)).toNat 80 96 (16 * g.val + 10) rfl (by norm_num) (row_at _ _ (lane_word (F := F) I _ _ (16 * g.val) hg 10 (by norm_num) _ _ _ rfl) (hI _) 80 (by norm_num)) (k0_off112_eq g) fun _ _ _ => ?_
  refine step_cols (segOf I (16 * g.val + 10)).toNat 96 112 (16 * g.val + 10) rfl (by norm_num) (row_at _ _ (lane_word (F := F) I _ _ (16 * g.val) hg 10 (by norm_num) _ _ _ rfl) (hI _) 96 (by norm_num)) (k0_off113_eq g) fun _ _ _ => ?_
  refine step_last (segOf I (16 * g.val + 10)).toNat (16 * g.val + 10) (lanesA X I A (16 * g.val) 11) rfl (row_at _ _ (lane_word (F := F) I _ _ (16 * g.val) hg 10 (by norm_num) _ _ _ rfl) (hI _) 112 (by norm_num)) (k0_off114_eq g) fun _ _ _ => ?_
  refine step_count (segOf I (16 * g.val + 10)).toNat (lanesB I B (16 * g.val) 11) rfl (cnt_at _ _ (lane_word (F := F) I _ _ (16 * g.val) hg 10 (by norm_num) _ _ _ rfl) (hI _)) fun _ _ => ?_
  -- row 11
  refine step_assume (row_fits _ _ (lane_word (F := F) I _ _ (16 * g.val) hg 11 (by norm_num) _ _ _ rfl) (hI _)) ?_
  refine step_first (segOf I (16 * g.val + 11)).toNat (16 * g.val + 11) (row_at _ _ (lane_word (F := F) I _ _ (16 * g.val) hg 11 (by norm_num) _ _ _ rfl) (hI _) 0 (by norm_num)) (k0_off117_eq g) fun _ _ _ => ?_
  refine step_cols (segOf I (16 * g.val + 11)).toNat 16 32 (16 * g.val + 11) rfl (by norm_num) (row_at _ _ (lane_word (F := F) I _ _ (16 * g.val) hg 11 (by norm_num) _ _ _ rfl) (hI _) 16 (by norm_num)) (k0_off118_eq g) fun _ _ _ => ?_
  refine step_cols (segOf I (16 * g.val + 11)).toNat 32 48 (16 * g.val + 11) rfl (by norm_num) (row_at _ _ (lane_word (F := F) I _ _ (16 * g.val) hg 11 (by norm_num) _ _ _ rfl) (hI _) 32 (by norm_num)) (k0_off119_eq g) fun _ _ _ => ?_
  refine step_cols (segOf I (16 * g.val + 11)).toNat 48 64 (16 * g.val + 11) rfl (by norm_num) (row_at _ _ (lane_word (F := F) I _ _ (16 * g.val) hg 11 (by norm_num) _ _ _ rfl) (hI _) 48 (by norm_num)) (k0_off120_eq g) fun _ _ _ => ?_
  refine step_cols (segOf I (16 * g.val + 11)).toNat 64 80 (16 * g.val + 11) rfl (by norm_num) (row_at _ _ (lane_word (F := F) I _ _ (16 * g.val) hg 11 (by norm_num) _ _ _ rfl) (hI _) 64 (by norm_num)) (k0_off121_eq g) fun _ _ _ => ?_
  refine step_cols (segOf I (16 * g.val + 11)).toNat 80 96 (16 * g.val + 11) rfl (by norm_num) (row_at _ _ (lane_word (F := F) I _ _ (16 * g.val) hg 11 (by norm_num) _ _ _ rfl) (hI _) 80 (by norm_num)) (k0_off122_eq g) fun _ _ _ => ?_
  refine step_cols (segOf I (16 * g.val + 11)).toNat 96 112 (16 * g.val + 11) rfl (by norm_num) (row_at _ _ (lane_word (F := F) I _ _ (16 * g.val) hg 11 (by norm_num) _ _ _ rfl) (hI _) 96 (by norm_num)) (k0_off123_eq g) fun _ _ _ => ?_
  refine step_last (segOf I (16 * g.val + 11)).toNat (16 * g.val + 11) (lanesA X I A (16 * g.val) 12) rfl (row_at _ _ (lane_word (F := F) I _ _ (16 * g.val) hg 11 (by norm_num) _ _ _ rfl) (hI _) 112 (by norm_num)) (k0_off124_eq g) fun _ _ _ => ?_
  refine step_count (segOf I (16 * g.val + 11)).toNat (lanesB I B (16 * g.val) 12) rfl (cnt_at _ _ (lane_word (F := F) I _ _ (16 * g.val) hg 11 (by norm_num) _ _ _ rfl) (hI _)) fun _ _ => ?_
  -- row 12
  refine step_assume (row_fits _ _ (lane_word (F := F) I _ _ (16 * g.val) hg 12 (by norm_num) _ _ _ rfl) (hI _)) ?_
  refine step_first (segOf I (16 * g.val + 12)).toNat (16 * g.val + 12) (row_at _ _ (lane_word (F := F) I _ _ (16 * g.val) hg 12 (by norm_num) _ _ _ rfl) (hI _) 0 (by norm_num)) (k0_off127_eq g) fun _ _ _ => ?_
  refine step_cols (segOf I (16 * g.val + 12)).toNat 16 32 (16 * g.val + 12) rfl (by norm_num) (row_at _ _ (lane_word (F := F) I _ _ (16 * g.val) hg 12 (by norm_num) _ _ _ rfl) (hI _) 16 (by norm_num)) (k0_off128_eq g) fun _ _ _ => ?_
  refine step_cols (segOf I (16 * g.val + 12)).toNat 32 48 (16 * g.val + 12) rfl (by norm_num) (row_at _ _ (lane_word (F := F) I _ _ (16 * g.val) hg 12 (by norm_num) _ _ _ rfl) (hI _) 32 (by norm_num)) (k0_off129_eq g) fun _ _ _ => ?_
  refine step_cols (segOf I (16 * g.val + 12)).toNat 48 64 (16 * g.val + 12) rfl (by norm_num) (row_at _ _ (lane_word (F := F) I _ _ (16 * g.val) hg 12 (by norm_num) _ _ _ rfl) (hI _) 48 (by norm_num)) (k0_off130_eq g) fun _ _ _ => ?_
  refine step_cols (segOf I (16 * g.val + 12)).toNat 64 80 (16 * g.val + 12) rfl (by norm_num) (row_at _ _ (lane_word (F := F) I _ _ (16 * g.val) hg 12 (by norm_num) _ _ _ rfl) (hI _) 64 (by norm_num)) (k0_off131_eq g) fun _ _ _ => ?_
  refine step_cols (segOf I (16 * g.val + 12)).toNat 80 96 (16 * g.val + 12) rfl (by norm_num) (row_at _ _ (lane_word (F := F) I _ _ (16 * g.val) hg 12 (by norm_num) _ _ _ rfl) (hI _) 80 (by norm_num)) (k0_off132_eq g) fun _ _ _ => ?_
  refine step_cols (segOf I (16 * g.val + 12)).toNat 96 112 (16 * g.val + 12) rfl (by norm_num) (row_at _ _ (lane_word (F := F) I _ _ (16 * g.val) hg 12 (by norm_num) _ _ _ rfl) (hI _) 96 (by norm_num)) (k0_off133_eq g) fun _ _ _ => ?_
  refine step_last (segOf I (16 * g.val + 12)).toNat (16 * g.val + 12) (lanesA X I A (16 * g.val) 13) rfl (row_at _ _ (lane_word (F := F) I _ _ (16 * g.val) hg 12 (by norm_num) _ _ _ rfl) (hI _) 112 (by norm_num)) (k0_off134_eq g) fun _ _ _ => ?_
  refine step_count (segOf I (16 * g.val + 12)).toNat (lanesB I B (16 * g.val) 13) rfl (cnt_at _ _ (lane_word (F := F) I _ _ (16 * g.val) hg 12 (by norm_num) _ _ _ rfl) (hI _)) fun _ _ => ?_
  -- row 13
  refine step_assume (row_fits _ _ (lane_word (F := F) I _ _ (16 * g.val) hg 13 (by norm_num) _ _ _ rfl) (hI _)) ?_
  refine step_first (segOf I (16 * g.val + 13)).toNat (16 * g.val + 13) (row_at _ _ (lane_word (F := F) I _ _ (16 * g.val) hg 13 (by norm_num) _ _ _ rfl) (hI _) 0 (by norm_num)) (k0_off137_eq g) fun _ _ _ => ?_
  refine step_cols (segOf I (16 * g.val + 13)).toNat 16 32 (16 * g.val + 13) rfl (by norm_num) (row_at _ _ (lane_word (F := F) I _ _ (16 * g.val) hg 13 (by norm_num) _ _ _ rfl) (hI _) 16 (by norm_num)) (k0_off138_eq g) fun _ _ _ => ?_
  refine step_cols (segOf I (16 * g.val + 13)).toNat 32 48 (16 * g.val + 13) rfl (by norm_num) (row_at _ _ (lane_word (F := F) I _ _ (16 * g.val) hg 13 (by norm_num) _ _ _ rfl) (hI _) 32 (by norm_num)) (k0_off139_eq g) fun _ _ _ => ?_
  refine step_cols (segOf I (16 * g.val + 13)).toNat 48 64 (16 * g.val + 13) rfl (by norm_num) (row_at _ _ (lane_word (F := F) I _ _ (16 * g.val) hg 13 (by norm_num) _ _ _ rfl) (hI _) 48 (by norm_num)) (k0_off140_eq g) fun _ _ _ => ?_
  refine step_cols (segOf I (16 * g.val + 13)).toNat 64 80 (16 * g.val + 13) rfl (by norm_num) (row_at _ _ (lane_word (F := F) I _ _ (16 * g.val) hg 13 (by norm_num) _ _ _ rfl) (hI _) 64 (by norm_num)) (k0_off141_eq g) fun _ _ _ => ?_
  refine step_cols (segOf I (16 * g.val + 13)).toNat 80 96 (16 * g.val + 13) rfl (by norm_num) (row_at _ _ (lane_word (F := F) I _ _ (16 * g.val) hg 13 (by norm_num) _ _ _ rfl) (hI _) 80 (by norm_num)) (k0_off142_eq g) fun _ _ _ => ?_
  refine step_cols (segOf I (16 * g.val + 13)).toNat 96 112 (16 * g.val + 13) rfl (by norm_num) (row_at _ _ (lane_word (F := F) I _ _ (16 * g.val) hg 13 (by norm_num) _ _ _ rfl) (hI _) 96 (by norm_num)) (k0_off143_eq g) fun _ _ _ => ?_
  refine step_last (segOf I (16 * g.val + 13)).toNat (16 * g.val + 13) (lanesA X I A (16 * g.val) 14) rfl (row_at _ _ (lane_word (F := F) I _ _ (16 * g.val) hg 13 (by norm_num) _ _ _ rfl) (hI _) 112 (by norm_num)) (k0_off144_eq g) fun _ _ _ => ?_
  refine step_count (segOf I (16 * g.val + 13)).toNat (lanesB I B (16 * g.val) 14) rfl (cnt_at _ _ (lane_word (F := F) I _ _ (16 * g.val) hg 13 (by norm_num) _ _ _ rfl) (hI _)) fun _ _ => ?_
  -- row 14
  refine step_assume (row_fits _ _ (lane_word (F := F) I _ _ (16 * g.val) hg 14 (by norm_num) _ _ _ rfl) (hI _)) ?_
  refine step_first (segOf I (16 * g.val + 14)).toNat (16 * g.val + 14) (row_at _ _ (lane_word (F := F) I _ _ (16 * g.val) hg 14 (by norm_num) _ _ _ rfl) (hI _) 0 (by norm_num)) (k0_off147_eq g) fun _ _ _ => ?_
  refine step_cols (segOf I (16 * g.val + 14)).toNat 16 32 (16 * g.val + 14) rfl (by norm_num) (row_at _ _ (lane_word (F := F) I _ _ (16 * g.val) hg 14 (by norm_num) _ _ _ rfl) (hI _) 16 (by norm_num)) (k0_off148_eq g) fun _ _ _ => ?_
  refine step_cols (segOf I (16 * g.val + 14)).toNat 32 48 (16 * g.val + 14) rfl (by norm_num) (row_at _ _ (lane_word (F := F) I _ _ (16 * g.val) hg 14 (by norm_num) _ _ _ rfl) (hI _) 32 (by norm_num)) (k0_off149_eq g) fun _ _ _ => ?_
  refine step_cols (segOf I (16 * g.val + 14)).toNat 48 64 (16 * g.val + 14) rfl (by norm_num) (row_at _ _ (lane_word (F := F) I _ _ (16 * g.val) hg 14 (by norm_num) _ _ _ rfl) (hI _) 48 (by norm_num)) (k0_off150_eq g) fun _ _ _ => ?_
  refine step_cols (segOf I (16 * g.val + 14)).toNat 64 80 (16 * g.val + 14) rfl (by norm_num) (row_at _ _ (lane_word (F := F) I _ _ (16 * g.val) hg 14 (by norm_num) _ _ _ rfl) (hI _) 64 (by norm_num)) (k0_off151_eq g) fun _ _ _ => ?_
  refine step_cols (segOf I (16 * g.val + 14)).toNat 80 96 (16 * g.val + 14) rfl (by norm_num) (row_at _ _ (lane_word (F := F) I _ _ (16 * g.val) hg 14 (by norm_num) _ _ _ rfl) (hI _) 80 (by norm_num)) (k0_off152_eq g) fun _ _ _ => ?_
  refine step_cols (segOf I (16 * g.val + 14)).toNat 96 112 (16 * g.val + 14) rfl (by norm_num) (row_at _ _ (lane_word (F := F) I _ _ (16 * g.val) hg 14 (by norm_num) _ _ _ rfl) (hI _) 96 (by norm_num)) (k0_off153_eq g) fun _ _ _ => ?_
  refine step_last (segOf I (16 * g.val + 14)).toNat (16 * g.val + 14) (lanesA X I A (16 * g.val) 15) rfl (row_at _ _ (lane_word (F := F) I _ _ (16 * g.val) hg 14 (by norm_num) _ _ _ rfl) (hI _) 112 (by norm_num)) (k0_off154_eq g) fun _ _ _ => ?_
  refine step_count (segOf I (16 * g.val + 14)).toNat (lanesB I B (16 * g.val) 15) rfl (cnt_at _ _ (lane_word (F := F) I _ _ (16 * g.val) hg 14 (by norm_num) _ _ _ rfl) (hI _)) fun _ _ => ?_
  -- row 15
  refine step_assume (row_fits _ _ (lane_word (F := F) I _ _ (16 * g.val) hg 15 (by norm_num) _ _ _ rfl) (hI _)) ?_
  refine step_first (segOf I (16 * g.val + 15)).toNat (16 * g.val + 15) (row_at _ _ (lane_word (F := F) I _ _ (16 * g.val) hg 15 (by norm_num) _ _ _ rfl) (hI _) 0 (by norm_num)) (k0_off157_eq g) fun _ _ _ => ?_
  refine step_cols (segOf I (16 * g.val + 15)).toNat 16 32 (16 * g.val + 15) rfl (by norm_num) (row_at _ _ (lane_word (F := F) I _ _ (16 * g.val) hg 15 (by norm_num) _ _ _ rfl) (hI _) 16 (by norm_num)) (k0_off158_eq g) fun _ _ _ => ?_
  refine step_cols (segOf I (16 * g.val + 15)).toNat 32 48 (16 * g.val + 15) rfl (by norm_num) (row_at _ _ (lane_word (F := F) I _ _ (16 * g.val) hg 15 (by norm_num) _ _ _ rfl) (hI _) 32 (by norm_num)) (k0_off159_eq g) fun _ _ _ => ?_
  refine step_cols (segOf I (16 * g.val + 15)).toNat 48 64 (16 * g.val + 15) rfl (by norm_num) (row_at _ _ (lane_word (F := F) I _ _ (16 * g.val) hg 15 (by norm_num) _ _ _ rfl) (hI _) 48 (by norm_num)) (k0_off160_eq g) fun _ _ _ => ?_
  refine step_cols (segOf I (16 * g.val + 15)).toNat 64 80 (16 * g.val + 15) rfl (by norm_num) (row_at _ _ (lane_word (F := F) I _ _ (16 * g.val) hg 15 (by norm_num) _ _ _ rfl) (hI _) 64 (by norm_num)) (k0_off161_eq g) fun _ _ _ => ?_
  refine step_cols (segOf I (16 * g.val + 15)).toNat 80 96 (16 * g.val + 15) rfl (by norm_num) (row_at _ _ (lane_word (F := F) I _ _ (16 * g.val) hg 15 (by norm_num) _ _ _ rfl) (hI _) 80 (by norm_num)) (k0_off162_eq g) fun _ _ _ => ?_
  refine step_cols (segOf I (16 * g.val + 15)).toNat 96 112 (16 * g.val + 15) rfl (by norm_num) (row_at _ _ (lane_word (F := F) I _ _ (16 * g.val) hg 15 (by norm_num) _ _ _ rfl) (hI _) 96 (by norm_num)) (k0_off163_eq g) fun _ _ _ => ?_
  refine step_last (segOf I (16 * g.val + 15)).toNat (16 * g.val + 15) (lanesA X I A (16 * g.val) 16) rfl (row_at _ _ (lane_word (F := F) I _ _ (16 * g.val) hg 15 (by norm_num) _ _ _ rfl) (hI _) 112 (by norm_num)) (k0_off164_eq g) fun _ _ _ => ?_
  refine step_count (segOf I (16 * g.val + 15)).toNat (lanesB I B (16 * g.val) 16) rfl (cnt_at _ _ (lane_word (F := F) I _ _ (16 * g.val) hg 15 (by norm_num) _ _ _ rfl) (hI _)) fun _ _ => ?_
  exact exec_ret _ _ _ _ _ .rfl

end

end Cert.Proof.Seg

end
-- ==== Proof.Offs.lean ====
/-
  The loops' trip counts and the offsets the tile computes, in closed form.
-/
module

public import proofs.«01_k».proof.Proof.Base

@[expose] public section

noncomputable section

namespace Cert.Proof.Seg

open Cert.KernelIdeal Cert.KernelIdeal.Gen
open Idealize.ShloMosaic

/-- The first chunk of tile column `s`. -/
abbrev startOf (i : grid0.Coords) : ℕ := 625 * (i 1).val / 16
/-- The number of chunks of tile column `s`. -/
abbrev lenOf (i : grid0.Coords) : ℕ := 625 * ((i 1).val + 1) / 16 - 625 * (i 1).val / 16

theorem t1_trips : k0_t1_loop.trips = 4096 := by decide +kernel
theorem t2_trips : k0_t2_loop.trips = 512 := by decide +kernel
theorem t4_trips : k0_t4_loop.trips = 5 := by decide +kernel
theorem t3_trips : ∀ i : grid0.Coords, (k0_t3_loop i).trips = lenOf i := by decide +kernel
theorem t5_trips (i : grid0.Coords) : (k0_t5_loop i).trips = 0 := Nat.le_zero.mp (k0_t5_abs i).2.1
theorem off1_eq : ∀ t : Fin k0_t1_loop.trips, k0_off1 t = ![16 * t.val] := by decide +kernel
theorem off2_eq : ∀ t : Fin k0_t2_loop.trips, k0_off2 t = ![16 * t.val] := by decide +kernel
theorem off3_eq : ∀ (i : grid0.Coords) (t : Fin (k0_t3_loop i).trips), k0_off3 i t = ![80 * (startOf i + t.val)] := by decide +kernel
theorem off4_eq : ∀ (i : grid0.Coords) (t : Fin (k0_t3_loop i).trips),
    k0_off4 i t = ![80 * (startOf i + t.val), 128 * (i 0).val] := by decide +kernel
theorem off329_eq : ∀ i : grid0.Coords, k0_off329 i = ![(i 1).val, (i 0).val, 0] := by decide +kernel
theorem off330_eq : ∀ i : grid0.Coords, k0_off330 i = ![(i 1).val, (i 0).val, 0] := by decide +kernel

end Cert.Proof.Seg

end
-- ==== Proof.Table.lean ====
/-
  The tables a tile builds, as functions: its chunks of the rows folded one after another into zeros.
-/
module

public import proofs.«01_k».proof.Proof.Offs

@[expose] public section

noncomputable section

namespace Cert.Proof.Seg

open Cert.KernelIdeal Cert.KernelIdeal.Gen
open Idealize.ShloMosaic

variable {F : FTy → Type} [FloatOps F]

theorem pos50000 : ∀ a, 0 < S50000.size a := by decide
theorem pos50000x256 : ∀ a, 0 < S50000x256.size a := by decide

/-- Chunk `k` of the segment words. -/
def chunkI (b : S50000.Idx → BitVec 32) (k : ℕ) : S80.Idx → BitVec 32 := fun j => b (at' S50000 pos50000 ![80 * k + (j 0).val])
/-- Chunk `k` of the rows, column half `c`. -/
def chunkX (x : S50000x256.Idx → F .f32) (c k : ℕ) : S80x128.Idx → F .f32 :=
  fun j => x (at' S50000x256 pos50000x256 ![80 * k + (j 0).val, 128 * c + (j 1).val])

/-- The sums after `n` chunks from chunk `k`. -/
def totA (x : S50000x256.Idx → F .f32) (b : S50000.Idx → BitVec 32) (c k : ℕ) : ℕ → S65536.Idx → F .f32
  | 0 => fun _ => zero1
  | n + 1 => lanesA (chunkX x c (k + n)) (chunkI b (k + n)) (totA x b c k n) 0 80
/-- The counts after `n` chunks from chunk `k`. -/
def totB (b : S50000.Idx → BitVec 32) (k : ℕ) : ℕ → S8192.Idx → F .f32
  | 0 => fun _ => zero1
  | n + 1 => lanesB (chunkI b (k + n)) (totB b k n) 0 80

theorem lanesA_add (X : S80x128.Idx → F .f32) (I : S80.Idx → BitVec 32) (A : S65536.Idx → F .f32) (b m : ℕ) :
    ∀ n, lanesA X I (lanesA X I A b m) (b + m) n = lanesA X I A b (m + n)
  | 0 => rfl
  | n + 1 => by
    show addRow _ _ _ = addRow _ _ _
    rw [lanesA_add X I A b m n, show b + m + n = b + (m + n) by omega]; rfl

theorem lanesB_add (I : S80.Idx → BitVec 32) (B : S8192.Idx → F .f32) (b m : ℕ) :
    ∀ n, lanesB I (lanesB I B b m) (b + m) n = lanesB I B b (m + n)
  | 0 => rfl
  | n + 1 => by
    show addOne _ _ _ = addOne _ _ _
    rw [lanesB_add I B b m n, show b + m + n = b + (m + n) by omega]; rfl

theorem lanesA_next (X : S80x128.Idx → F .f32) (I : S80.Idx → BitVec 32) (A : S65536.Idx → F .f32) (m n : ℕ) :
    lanesA X I (lanesA X I A 0 m) m n = lanesA X I A 0 (m + n) := by
  have h := lanesA_add X I A 0 m n
  rwa [Nat.zero_add] at h

theorem lanesB_next (I : S80.Idx → BitVec 32) (B : S8192.Idx → F .f32) (m n : ℕ) :
    lanesB I (lanesB I B 0 m) m n = lanesB I B 0 (m + n) := by
  have h := lanesB_add I B 0 m n
  rwa [Nat.zero_add] at h

theorem lanesA_none (X : S80x128.Idx → F .f32) (I : S80.Idx → BitVec 32) (A : S65536.Idx → F .f32) : lanesA X I A 0 (16 * 0) = A := rfl
theorem lanesB_none (I : S80.Idx → BitVec 32) (B : S8192.Idx → F .f32) : lanesB I B 0 (16 * 0) = B := rfl
theorem totA_next (x : S50000x256.Idx → F .f32) (b : S50000.Idx → BitVec 32) (c k n : ℕ) :
    lanesA (chunkX x c (k + n)) (chunkI b (k + n)) (totA x b c k n) 0 (16 * 5) = totA x b c k (n + 1) := rfl
theorem totB_next (b : S50000.Idx → BitVec 32) (k n : ℕ) :
    lanesB (chunkI b (k + n)) (totB (F := F) b k n) 0 (16 * 5) = totB b k (n + 1) := rfl

theorem segOf_chunk (b : S50000.Idx → BitVec 32) (hb : ∀ j, (b j).toNat < 512) (k l : ℕ) : (segOf (chunkI b k) l).toNat < 512 := hb _

/-! ## Clearing -/

/-- `A` with its first `n` groups of sixteen cells cleared. -/
def zeroA (A : S65536.Idx → F .f32) (n : ℕ) : S65536.Idx → F .f32 := fun i => if (i 0).val < 16 * n then zero1 else A i
/-- `B` with its first `n` groups of sixteen cells cleared. -/
def zeroB (B : S8192.Idx → F .f32) (n : ℕ) : S8192.Idx → F .f32 := fun i => if (i 0).val < 16 * n then zero1 else B i

theorem zeroA_zero (A : S65536.Idx → F .f32) : zeroA A 0 = A := by funext i; simp [zeroA]
theorem zeroB_zero (B : S8192.Idx → F .f32) : zeroB B 0 = B := by funext i; simp [zeroB]
theorem zeroA_all (A : S65536.Idx → F .f32) : zeroA A 4096 = fun _ => zero1 := by
  funext i
  have h : (i 0).val < 65536 := (i 0).isLt
  unfold zeroA; rw [if_pos (by omega)]
theorem zeroB_all (B : S8192.Idx → F .f32) : zeroB B 512 = fun _ => zero1 := by
  funext i
  have h : (i 0).val < 8192 := (i 0).isLt
  unfold zeroB; rw [if_pos (by omega)]

theorem writeZeroA (A : S65536.Idx → F .f32) (n : ℕ) (o : Fin 1 → ℕ) (h : ∀ a, o a + S16.size a ≤ S65536.size a) (ho : o = ![16 * n]) :
    ((sA : Memref sig .scVector .vmem S65536 .f32).access (Rect.unit (s := S65536) o S16.size h)).write (Elt F) (zeroA A n)
        (k0_pay376 (F := F)) Finset.univ = zeroA A (n + 1) := by
  refine (View.write_whole_slice_unit (Val := Elt F) (cc0_scratch0 : Ref sig .scVector) o S16.size h _ _).trans ?_
  subst ho
  funext i
  unfold updateSlice
  split
  · next hin =>
    have h0 : 16 * n ≤ (i 0).val ∧ (i 0).val < 16 * n + 16 := hin 0
    have hp : ∀ j : S16.Idx, k0_pay376 (F := F) j = zero1 := fun j => by unfold k0_pay376; rw [shapeCast_self]; rfl
    refine (hp _).trans ?_
    unfold zeroA; rw [if_pos (by omega)]
  · next hin =>
    have h0 : ¬ (16 * n ≤ (i 0).val ∧ (i 0).val < 16 * n + 16) := fun hh => hin fun a => by
      obtain rfl : a = (0 : Fin 1) := Subsingleton.elim (α := Fin 1) _ _
      exact hh
    unfold zeroA
    by_cases hv : (i 0).val < 16 * n
    · rw [if_pos hv, if_pos (by omega)]
    · rw [if_neg hv, if_neg (by omega)]

theorem writeZeroB (B : S8192.Idx → F .f32) (n : ℕ) (o : Fin 1 → ℕ) (h : ∀ a, o a + S16.size a ≤ S8192.size a) (ho : o = ![16 * n]) :
    ((sB : Memref sig .scVector .vmem S8192 .f32).access (Rect.unit (s := S8192) o S16.size h)).write (Elt F) (zeroB B n)
        (k0_pay377 (F := F)) Finset.univ = zeroB B (n + 1) := by
  refine (View.write_whole_slice_unit (Val := Elt F) (cc0_scratch1 : Ref sig .scVector) o S16.size h _ _).trans ?_
  subst ho
  funext i
  unfold updateSlice
  split
  · next hin =>
    have h0 : 16 * n ≤ (i 0).val ∧ (i 0).val < 16 * n + 16 := hin 0
    have hp : ∀ j : S16.Idx, k0_pay377 (F := F) j = zero1 := fun j => by unfold k0_pay377; rw [shapeCast_self]; rfl
    refine (hp _).trans ?_
    unfold zeroB; rw [if_pos (by omega)]
  · next hin =>
    have h0 : ¬ (16 * n ≤ (i 0).val ∧ (i 0).val < 16 * n + 16) := fun hh => hin fun a => by
      obtain rfl : a = (0 : Fin 1) := Subsingleton.elim (α := Fin 1) _ _
      exact hh
    unfold zeroB
    by_cases hv : (i 0).val < 16 * n
    · rw [if_pos hv, if_pos (by omega)]
    · rw [if_neg hv, if_neg (by omega)]

/-! ## The fetches -/

abbrev xV : Memref sig .scVector .hbm S50000x256 .f32 := Memref.whole main_arg0_scv
abbrev bV : Memref sig .scVector .hbm S50000 .i32 := Memref.whole main_arg1_scv
abbrev oS : Memref sig .scVector .hbm S16x2x65536 .f32 := Memref.whole main_v0_0_scv
abbrev oC : Memref sig .scVector .hbm S16x2x8192 .f32 := Memref.whole main_v0_1_scv

theorem read_bV (b : S50000.Idx → BitVec 32) (o : Fin 1 → ℕ) (h : ∀ a, o a + S80.size a ≤ S50000.size a) (k : ℕ) (ho : o = ![80 * k]) :
    ((bV).slice (Rect.unit (s := S50000) o S80.size h) (fun _ => rfl)).view.read (Elt F) b = chunkI b k := by
  subst ho
  funext j
  have h0 := h 0
  have j0 : (j 0).val < 80 := (j 0).isLt
  simp at h0
  show b _ = b _
  congr 1
  funext a; apply Fin.ext
  obtain rfl : a = (0 : Fin 1) := Subsingleton.elim (α := Fin 1) _ _
  show 80 * k + 1 * (j 0).val = (80 * k + (j 0).val) % 50000
  rw [Nat.mod_eq_of_lt (by omega)]; omega

theorem read_xV (x : S50000x256.Idx → F .f32) (o : Fin 2 → ℕ) (h : ∀ a, o a + S80x128.size a ≤ S50000x256.size a) (c k : ℕ)
    (ho : o = ![80 * k, 128 * c]) :
    ((xV).slice (Rect.unit (s := S50000x256) o S80x128.size h) (fun _ => rfl)).view.read (Elt F) x = chunkX x c k := by
  subst ho
  funext j
  have h0 := h 0; have h1 := h 1
  have j0 : (j 0).val < 80 := (j 0).isLt
  have j1 : (j 1).val < 128 := (j 1).isLt
  simp at h0 h1
  show x _ = x _
  congr 1
  funext a; apply Fin.ext
  match a with
  | ⟨0, _⟩ => show 80 * k + 1 * (j 0).val = (80 * k + (j 0).val) % 50000; rw [Nat.mod_eq_of_lt (by omega)]; omega
  | ⟨1, _⟩ => show 128 * c + 1 * (j 1).val = (128 * c + (j 1).val) % 256; rw [Nat.mod_eq_of_lt (by omega)]; omega

end Cert.Proof.Seg

end
-- ==== Proof.Tile.lean ====
/-
  A tile's loops: clearing the two tables, then folding its chunks into them.
-/
module

public import proofs.«01_k».proof.Proof.Group
public import proofs.«01_k».proof.Proof.Table

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

section Clear

variable {X : S80x128.Idx → F .f32} {I : S80.Idx → BitVec 32} {A : S65536.Idx → F .f32} {B : S8192.Idx → F .f32}

/-- One trip of the loop clearing the sums. -/
theorem clear_sums {arg2 harg2 arg3 harg3 arg4 harg4 arg5 harg5} {h6 h7 h8 h9} {r0 r1 r2 r3 r4 r5 : DmaSems sig S_} (k : Fin k0_t1_loop.trips) :
    St d i X I (zeroA A k.val) B ⊢ WP (F := F) d i
      (k0_t1_body (F := F) i arg2 harg2 arg3 harg3 arg4 harg4 arg5 harg5 sA h6 sB h7 sX h8 sI h9 r0 r1 r2 r3 r4 r5 k ())
      (fun _ => St d i X I (zeroA A (k.val + 1)) B) := by
  unfold k0_t1_body
  refine step_loadA ?_
  refine step_storeA (A' := zeroA A (k.val + 1)) (writeZeroA A k.val _ _ (off1_eq k)) ?_
  exact exec_ret _ _ _ _ _ .rfl

/-- One trip of the loop clearing the counts. -/
theorem clear_cnts {arg2 harg2 arg3 harg3 arg4 harg4 arg5 harg5} {h6 h7 h8 h9} {r0 r1 r2 r3 r4 r5 : DmaSems sig S_} (k : Fin k0_t2_loop.trips) :
    St d i X I A (zeroB B k.val) ⊢ WP (F := F) d i
      (k0_t2_body (F := F) i arg2 harg2 arg3 harg3 arg4 harg4 arg5 harg5 sA h6 sB h7 sX h8 sI h9 r0 r1 r2 r3 r4 r5 k ())
      (fun _ => St d i X I A (zeroB B (k.val + 1))) := by
  unfold k0_t2_body
  refine step_loadB ?_
  refine step_storeB (B' := zeroB B (k.val + 1)) (writeZeroB B k.val _ _ (off2_eq k)) ?_
  exact exec_ret _ _ _ _ _ .rfl

end Clear

/-- One group of sixteen rows, its tables named. -/
theorem group_next (arg2 harg2 arg3 harg3 arg4 harg4 arg5 harg5) (h6 h7 h8 h9) (r0 r1 r2 r3 r4 r5 : DmaSems sig S_) (g : Fin k0_t4_loop.trips)
    {X : S80x128.Idx → F .f32} {I : S80.Idx → BitVec 32} {A A' : S65536.Idx → F .f32} {B B' : S8192.Idx → F .f32} (hI : ∀ l, (segOf I l).toNat < 512)
    (hA : lanesA X I A (16 * g.val) 16 = A') (hB : lanesB I B (16 * g.val) 16 = B') :
    St d i X I A B ⊢ wp frame (wpE (defs₀ (F := F)) Variants.none (tileOf d i) none) Set.univ
      (k0_t4_body (F := F) i arg2 harg2 arg3 harg3 arg4 harg4 arg5 harg5 sA h6 sB h7 sX h8 sI h9 r0 r1 r2 r3 r4 r5 g ())
      (fun _ => St d i X I A' B') := by
  subst hA hB
  exact group_wp arg2 harg2 arg3 harg3 arg4 harg4 arg5 harg5 h6 h7 h8 h9 r0 r1 r2 r3 r4 r5 g hI

section Chunk

attribute [local irreducible] lanesA lanesB totA totB chunkX chunkI St k0_t4_body

variable (q : PosShare TreeShare) (x : S50000x256.Idx → F .f32) (b : S50000.Idx → BitVec 32)
variable (O : CellTallies nD τ sig (HIx 1)) (W : Waits sig (HIx 1))

/-- What a chunk's trip keeps besides the four scratch arrays: its shares of the rows and of the segment words, the
    two transfers' counters at zero, and what the tile owes. -/
def Kept : sProp 𝕄 :=
  iprop(Transfers.MayWaits (tileOf d i) (none : HIx 1) O
    ∗ ((xV).view.loc (tileOf d i) ↦{q} x) ∗ ((bV).view.loc (tileOf d i) ↦{q} b)
    ∗ semVal (tileOf d i, SemLoc.dma cc0_scoped0.sem) 0 ∗ semVal (tileOf d i, SemLoc.dma cc0_scoped1.sem) 0
    ∗ ∃ W', ⌜∀ p ∈ W', p ∈ W ∨ p.2 = none⌝ ∗ owes (tileOf d i) O W')

theorem chunk_step {arg4 harg4 arg5 harg5} {h2 h3 h6 h7 h8 h9} {r2 r3 r4 r5 : DmaSems sig S_} (hb : ∀ j, (b j).toNat < 512)
    (k : Fin (k0_t3_loop i).trips) :
    iprop(Kept d i q x b O W ∗ ∃ X I, St d i X I (totA x b (i 0).val (startOf i) k.val) (totB b (startOf i) k.val)) ⊢
      wp frame (wpE (defs₀ (F := F)) Variants.none (tileOf d i) none) Set.univ
      (k0_t3_body (F := F) i xV h2 bV h3 arg4 harg4 arg5 harg5 sA h6 sB h7 sX h8 sI h9 cc0_scoped0 cc0_scoped1 r2 r3 r4 r5 k ())
      (fun _ => iprop(Kept d i q x b O W ∗ ∃ X I, St d i X I (totA x b (i 0).val (startOf i) (k.val + 1)) (totB b (startOf i) (k.val + 1)))) := by
  unfold k0_t3_body Kept
  iintro ⟨⟨Hmw, Hx, Hb, Hs0, Hs1, %W', %hW', HO⟩, %X, %I, H⟩
  unfold St
  icases H with ⟨HA, HB, HX, HI⟩
  sl_exec (disch := first | exact View.amount_pos _ _ (show 0 < S80.numel by decide) | exact View.amount_pos _ _ (show 0 < S80x128.numel by decide))
  have e0 : View.write (Elt F) (sI).view I (chunk_step.sl.dma0 i b k) Finset.univ = chunkI b (startOf i + k.val) :=
    (View.write_whole_univ _ _ _).trans (read_bV b _ _ _ (off3_eq i k))
  have e1 : View.write (Elt F) (sX).view X (chunk_step.sl.dma0_1 i x k) Finset.univ = chunkX x (i 0).val (startOf i + k.val) :=
    (View.write_whole_univ _ _ _).trans (read_xV x _ _ _ _ (off4_eq i k))
  rw [e0, e1]
  sl_for (fun n _ => St d i (chunkX x (i 0).val (startOf i + k.val)) (chunkI b (startOf i + k.val))
      (lanesA (chunkX x (i 0).val (startOf i + k.val)) (chunkI b (startOf i + k.val)) (totA x b (i 0).val (startOf i) k.val) 0 (16 * n))
      (lanesB (chunkI b (startOf i + k.val)) (totB b (startOf i) k.val) 0 (16 * n))) $$ [HA HB HX HI]
  case region =>
    intro g _
    unfold chunk_step.sl.prog.body_1
    rw [show 16 * (g.val + 1) = 16 * g.val + 16 from Nat.mul_succ 16 g.val]
    exact group_next d i xV h2 bV h3 arg4 harg4 arg5 harg5 h6 h7 h8 h9 cc0_scoped0 cc0_scoped1 r2 r3 r4 r5 g (segOf_chunk b hb _)
      (lanesA_next _ _ _ _ 16) (lanesB_next _ _ _ 16)
  · rw [lanesA_none, lanesB_none]
    unfold St
    isplitl [HA]; · iexact HA
    isplitl [HB]; · iexact HB
    isplitl [HX]; · iexact HX
    iexact HI
  rw [show Scf.trips k0_t4_loop.lb k0_t4_loop.ub k0_t4_loop.st = 5 from t4_trips, totA_next, totB_next]
  iintro %_ H
  unfold chunk_step.sl.prog.cont_1
  sl_step
  isplitl [Hmw Hx Hb Hs0 Hs1 HO]
  · isplitl [Hmw]; · iexact Hmw
    isplitl [Hx]; · iexact Hx
    isplitl [Hb]; · iexact Hb
    isplitl [Hs0]; · iexact Hs0
    isplitl [Hs1]; · iexact Hs1
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    · exact hW' p hp
  iexists _, _
  unfold St
  iexact H

end Chunk

end Cert.Proof.Seg

end
-- ==== Proof.Rows.lean ====
/-
  The tiles' rows of the two results: which cells each row is, and what the tile leaves there.
-/
module

public import proofs.«01_k».proof.Proof.Table
public import Idealize.ShloMosaic.Lib.Tactic

@[expose] public section

noncomputable section

namespace Cert.Proof.Seg

open Cert.KernelIdeal Cert.KernelIdeal.Gen
open Idealize.ShloMosaic

variable {F : FTy → Type} [FloatOps F]

/-- The tile's row of the sums and of the counts, as its body slices them. -/
abbrev rowS (i : grid0.Coords) : Memref sig .scVector .hbm S65536 .f32 :=
  ((oS).slice (Rect.unit (s := S16x2x65536) (k0_off329 i) S1x1x65536.size (k0_off329_inb i)) (fun _ => rfl)).squeeze S65536 squeezes_S1x1x65536_S65536
abbrev rowC (i : grid0.Coords) : Memref sig .scVector .hbm S8192 .f32 :=
  ((oC).slice (Rect.unit (s := S16x2x8192) (k0_off330 i) S1x1x8192.size (k0_off330_inb i)) (fun _ => rfl)).squeeze S8192 squeezes_S1x1x8192_S8192

theorem pos65536 : ∀ a, 0 < S65536.size a := by decide
theorem pos8192 : ∀ a, 0 < S8192.size a := by decide

/-- Every tile's sums, by tile column, core and cell. -/
def outS (x : S50000x256.Idx → F .f32) (b : S50000.Idx → BitVec 32) : S16x2x65536.Idx → F .f32 := fun j =>
  totA x b (j 1).val (625 * (j 0).val / 16) (625 * ((j 0).val + 1) / 16 - 625 * (j 0).val / 16) (at' S65536 pos65536 ![(j 2).val])
/-- Every tile's counts. -/
def outC (b : S50000.Idx → BitVec 32) : S16x2x8192.Idx → F .f32 := fun j =>
  totB b (625 * (j 0).val / 16) (625 * ((j 0).val + 1) / 16 - 625 * (j 0).val / 16) (at' S8192 pos8192 ![(j 2).val])

/-- The cells of one tile's row. -/
def cellS (c s : ℕ) : Finset S16x2x65536.Idx := Finset.univ.filter fun j => (j 0).val = s ∧ (j 1).val = c
def cellC (c s : ℕ) : Finset S16x2x8192.Idx := Finset.univ.filter fun j => (j 0).val = s ∧ (j 1).val = c
/-- The cells of one core's half. -/
def coreS (c : ℕ) : Finset S16x2x65536.Idx := Finset.univ.filter fun j => (j 1).val = c
def coreC (c : ℕ) : Finset S16x2x8192.Idx := Finset.univ.filter fun j => (j 1).val = c

theorem squeeze_idx {n : ℕ} (h : (⟨1, ![n]⟩ : Shape).numel = (⟨3, ![1, 1, n]⟩ : Shape).numel) (k : (⟨1, ![n]⟩ : Shape).Idx) :
    (Shape.reshapeEquiv h k : (⟨3, ![1, 1, n]⟩ : Shape).Idx) = Fin.cons ⟨0, Nat.one_pos⟩ (Fin.cons ⟨0, Nat.one_pos⟩ k) := by
  apply Shape.reshapeEquiv_eq_of_rowMajor
  show (Shape.rowMajorPi (Matrix.vecCons 1 (Matrix.vecCons 1 ![n])) (Fin.cons ⟨0, Nat.one_pos⟩ (Fin.cons ⟨0, Nat.one_pos⟩ k))).val
    = (Shape.rowMajorPi ![n] k).val
  rw [Shape.rowMajorPi_succ_val]
  show 0 * _ + (Shape.rowMajorPi (Matrix.vecCons 1 ![n]) (Fin.cons ⟨0, Nat.one_pos⟩ k)).val = _
  rw [Shape.rowMajorPi_succ_val]
  show 0 * _ + (0 * _ + (Shape.rowMajorPi ![n] k).val) = (Shape.rowMajorPi ![n] k).val
  simp

theorem rowS_emb (i : grid0.Coords) (k : S65536.Idx) :
    ((((rowS i).view.emb k : S16x2x65536.Idx) 0).val = (i 1).val ∧ (((rowS i).view.emb k : S16x2x65536.Idx) 1).val = (i 0).val)
      ∧ (((rowS i).view.emb k : S16x2x65536.Idx) 2).val = (k 0).val := by
  have e : ∀ a, (((rowS i).view.emb k : S16x2x65536.Idx) a).val
      = k0_off329 i a + 1 * ((Fin.cons ⟨0, Nat.one_pos⟩ (Fin.cons ⟨0, Nat.one_pos⟩ k) : S1x1x65536.Idx) a).val := by
    intro a
    rw [← squeeze_idx (squeezes_S1x1x65536_S65536.numel_eq) k]
    rfl
  rw [e 0, e 1, e 2, off329_eq]
  refine ⟨⟨?_, ?_⟩, ?_⟩
  · show (i 1).val + 1 * 0 = _; omega
  · show (i 0).val + 1 * 0 = _; omega
  · show 0 + 1 * (k 0).val = _; omega

theorem rowC_emb (i : grid0.Coords) (k : S8192.Idx) :
    ((((rowC i).view.emb k : S16x2x8192.Idx) 0).val = (i 1).val ∧ (((rowC i).view.emb k : S16x2x8192.Idx) 1).val = (i 0).val)
      ∧ (((rowC i).view.emb k : S16x2x8192.Idx) 2).val = (k 0).val := by
  have e : ∀ a, (((rowC i).view.emb k : S16x2x8192.Idx) a).val
      = k0_off330 i a + 1 * ((Fin.cons ⟨0, Nat.one_pos⟩ (Fin.cons ⟨0, Nat.one_pos⟩ k) : S1x1x8192.Idx) a).val := by
    intro a
    rw [← squeeze_idx (squeezes_S1x1x8192_S8192.numel_eq) k]
    rfl
  rw [e 0, e 1, e 2, off330_eq]
  refine ⟨⟨?_, ?_⟩, ?_⟩
  · show (i 1).val + 1 * 0 = _; omega
  · show (i 0).val + 1 * 0 = _; omega
  · show 0 + 1 * (k 0).val = _; omega

theorem set_rowS (i : grid0.Coords) : (rowS i).view.set = cellS (i 0).val (i 1).val := by
  ext j
  constructor
  · intro h
    obtain ⟨k, -, rfl⟩ := Finset.mem_map.mp h
    exact Finset.mem_filter.mpr ⟨Finset.mem_univ _, (rowS_emb i k).1⟩
  · intro h
    have hj := (Finset.mem_filter.mp h).2
    refine Finset.mem_map.mpr ⟨fun a => ⟨((j : S16x2x65536.Idx) 2).val, ?_⟩, Finset.mem_univ _, ?_⟩
    · obtain rfl : a = (0 : Fin 1) := Subsingleton.elim (α := Fin 1) _ _
      exact ((j : S16x2x65536.Idx) 2).isLt
    · funext a; apply Fin.ext
      match a with
      | ⟨0, _⟩ => exact (rowS_emb i _).1.1.trans hj.1.symm
      | ⟨1, _⟩ => exact (rowS_emb i _).1.2.trans hj.2.symm
      | ⟨2, _⟩ => exact (rowS_emb i _).2

theorem set_rowC (i : grid0.Coords) : (rowC i).view.set = cellC (i 0).val (i 1).val := by
  ext j
  constructor
  · intro h
    obtain ⟨k, -, rfl⟩ := Finset.mem_map.mp h
    exact Finset.mem_filter.mpr ⟨Finset.mem_univ _, (rowC_emb i k).1⟩
  · intro h
    have hj := (Finset.mem_filter.mp h).2
    refine Finset.mem_map.mpr ⟨fun a => ⟨((j : S16x2x8192.Idx) 2).val, ?_⟩, Finset.mem_univ _, ?_⟩
    · obtain rfl : a = (0 : Fin 1) := Subsingleton.elim (α := Fin 1) _ _
      exact ((j : S16x2x8192.Idx) 2).isLt
    · funext a; apply Fin.ext
      match a with
      | ⟨0, _⟩ => exact (rowC_emb i _).1.1.trans hj.1.symm
      | ⟨1, _⟩ => exact (rowC_emb i _).1.2.trans hj.2.symm
      | ⟨2, _⟩ => exact (rowC_emb i _).2

attribute [local irreducible] totA totB

/-- A row the tile's sums cover holds them, whatever it held. -/
theorem rowS_holds (i : grid0.Coords) (x : S50000x256.Idx → F .f32) (b : S50000.Idx → BitVec 32) (f : S16x2x65536.Idx → F .f32) :
    ∀ j ∈ (rowS i).view.set, (rowS i).view.writes (Elt F) f [⟨Rect.whole S65536, totA x b (i 0).val (startOf i) (lenOf i)⟩] j = outS x b j := by
  intro j hj
  obtain ⟨k, -, rfl⟩ := Finset.mem_map.mp hj
  have e := View.read_writes_whole (Val := Elt F) (rowS i).view f (totA x b (i 0).val (startOf i) (lenOf i))
  revert e
  generalize (rowS i).view.writes (Elt F) f [⟨Rect.whole _, totA x b (i 0).val (startOf i) (lenOf i)⟩] = g
  intro e
  have e' : g ((rowS i).view.emb k) = (totA x b (i 0).val (startOf i) (lenOf i)) k := congrFun e k
  rw [e']
  obtain ⟨⟨e0, e1⟩, e2⟩ := rowS_emb i k
  unfold outS
  rw [e0, e1, e2]
  congr 1
  funext a; apply Fin.ext
  obtain rfl : a = (0 : Fin 1) := Subsingleton.elim (α := Fin 1) _ _
  exact (Nat.mod_eq_of_lt (k 0).isLt).symm

/-- A row the tile's counts cover holds them. -/
theorem rowC_holds (i : grid0.Coords) (b : S50000.Idx → BitVec 32) (f : S16x2x8192.Idx → F .f32) :
    ∀ j ∈ (rowC i).view.set, (rowC i).view.writes (Elt F) f [⟨Rect.whole S8192, totB b (startOf i) (lenOf i)⟩] j = outC b j := by
  intro j hj
  obtain ⟨k, -, rfl⟩ := Finset.mem_map.mp hj
  have e := View.read_writes_whole (Val := Elt F) (rowC i).view f (totB b (startOf i) (lenOf i))
  revert e
  generalize (rowC i).view.writes (Elt F) f [⟨Rect.whole _, totB b (startOf i) (lenOf i)⟩] = g
  intro e
  have e' : g ((rowC i).view.emb k) = (totB b (startOf i) (lenOf i)) k := congrFun e k
  rw [e']
  obtain ⟨⟨e0, e1⟩, e2⟩ := rowC_emb i k
  unfold outC
  rw [e0, e2]
  congr 1
  funext a; apply Fin.ext
  obtain rfl : a = (0 : Fin 1) := Subsingleton.elim (α := Fin 1) _ _
  exact (Nat.mod_eq_of_lt (k 0).isLt).symm

end Cert.Proof.Seg

end
-- ==== Proof.TileRun.lean ====
/-
  A tile's whole body: the tables cleared, its chunks folded in, both tables written out to its row of the results.
-/
module

public import proofs.«01_k».proof.Proof.Tile
public import proofs.«01_k».proof.Proof.Rows

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

/-- The first part of the body: both tables cleared. -/
theorem part77_run {arg2 harg2 arg3 harg3 arg4 harg4 arg5 harg5} {h6 h7 h8 h9} {r0 r1 r2 r3 r4 r5 : DmaSems sig S_}
    (X : S80x128.Idx → F .f32) (I : S80.Idx → BitVec 32) (A : S65536.Idx → F .f32) (B : S8192.Idx → F .f32) :
    St d i X I A B ⊢ wp frame (wpE (defs₀ (F := F)) Variants.none (tileOf d i) none) Set.univ
      (k0_part77 (F := F) i arg2 harg2 arg3 harg3 arg4 harg4 arg5 harg5 sA h6 sB h7 sX h8 sI h9 r0 r1 r2 r3 r4 r5)
      (fun _ => St d i X I (fun _ => zero1) (fun _ => zero1)) := by
  simp only [k0_part77_eq_skeleton]; unfold k0_part77_skel
  dsimp only
  iintro H
  sl_for (fun n _ => St d i X I (zeroA A n) B) $$ [H]
  case region =>
    intro k _
    unfold part77_run.sl.prog.body_1
    exact clear_sums d i k
  · rw [zeroA_zero]; iexact H
  rw [show Scf.trips k0_t1_loop.lb k0_t1_loop.ub k0_t1_loop.st = 4096 from t1_trips, zeroA_all]
  iintro %_ H
  unfold part77_run.sl.prog.cont_1
  sl_for (fun n _ => St d i X I (fun _ => zero1) (zeroB B n)) $$ [H]
  case region =>
    intro k _
    unfold part77_run.sl.prog.body_2
    exact clear_cnts d i k
  · rw [zeroB_zero]; iexact H
  rw [show Scf.trips k0_t2_loop.lb k0_t2_loop.ub k0_t2_loop.st = 512 from t2_trips, zeroB_all]
  iintro %_ H
  unfold part77_run.sl.prog.cont_2
  sl_step
  iexact H

section Run

variable (q : PosShare TreeShare) (x : S50000x256.Idx → F .f32) (b : S50000.Idx → BitVec 32)
variable (O : CellTallies nD τ sig (HIx 1)) (W : Waits sig (HIx 1))

theorem tile_run (hb : ∀ j, (b j).toNat < 512) (X : S80x128.Idx → F .f32) (I : S80.Idx → BitVec 32) (A : S65536.Idx → F .f32) (B : S8192.Idx → F .f32)
    (fS : S16x2x65536.Idx → F .f32) (fC : S16x2x8192.Idx → F .f32) :
    (iprop(Kept d i q x b O W ∗ St d i X I A B
        ∗ ((rowS i).view.loc (tileOf d i) ↦[(rowS i).view.set]{fullShare} fS)
        ∗ ((rowC i).view.loc (tileOf d i) ↦[(rowC i).view.set]{fullShare} fC)
        ∗ semVal (tileOf d i, SemLoc.dma cc0_scoped4.sem) 0 ∗ semVal (tileOf d i, SemLoc.dma cc0_scoped5.sem) 0) : sProp 𝕄)
      ⊢ wp frame (wpE (defs₀ (F := F)) Variants.none (tileOf d i) none) Set.univ
          (cc0__sc_segment_sum (F := F) i xV (Memref.isWhole_whole _) bV (Memref.isWhole_whole _) oS (Memref.isWhole_whole _) oC (Memref.isWhole_whole _)
            sA (Memref.isWhole_whole _) sB (Memref.isWhole_whole _) sX (Memref.isWhole_whole _) sI (Memref.isWhole_whole _)
            cc0_scoped0 cc0_scoped1 cc0_scoped2 cc0_scoped3 cc0_scoped4 cc0_scoped5)
          fun _ => iprop(Kept d i q x b O W ∗ (∃ X I A B, St d i X I A B)
            ∗ ((rowS i).view.loc (tileOf d i) ↦[(rowS i).view.set]{fullShare} (outS x b : S16x2x65536.Idx → F .f32))
            ∗ ((rowC i).view.loc (tileOf d i) ↦[(rowC i).view.set]{fullShare} (outC b : S16x2x8192.Idx → F .f32))
            ∗ semVal (tileOf d i, SemLoc.dma cc0_scoped4.sem) 0 ∗ semVal (tileOf d i, SemLoc.dma cc0_scoped5.sem) 0) := by
  rw [cc0__sc_segment_sum_eq_skeleton]; unfold cc0__sc_segment_sum_skel
  iintro ⟨HK, H, HS, HC, Hs4, Hs5⟩
  rw [wp_bind]
  iapply (wp_wand_r Idealize.ShloMosaic.frame (wpE (defs₀ (F := F)) Variants.none (tileOf d i) none) Set.univ)
  isplitl [H]; · iapply part77_run; iexact H
  iintro %r H
  obtain ⟨r1, r2, r3, r4, r5, r6⟩ := r
  sl_exec
  sl_for (fun n _ => iprop(Kept d i q x b O W ∗ ∃ X I, St d i X I (totA x b (i 0).val (startOf i) n) (totB b (startOf i) n))) $$ [HK H]
  case region =>
    intro k _
    unfold tile_run.sl.prog.body_1
    exact chunk_step d i q x b O W hb k
  · isplitl [HK]; · iexact HK
    iexists _, _; iexact H
  rw [show Scf.trips (k0_t3_loop i).lb (k0_t3_loop i).ub (k0_t3_loop i).st = lenOf i from t3_trips i]
  iintro %_ ⟨HK, %X', %I', H⟩
  unfold tile_run.sl.prog.cont_1
  sl_for0 (t5_trips i)
  unfold tile_run.sl.prog.cont_2 Kept St
  icases HK with ⟨Hmw, Hx, Hb, Hs0, Hs1, %W', %hW', HO⟩
  icases H with ⟨HA, HB, HX, HI⟩
  sl_exec (disch := first | exact View.amount_pos _ _ (show 0 < S65536.numel by decide) | exact View.amount_pos _ _ (show 0 < S8192.numel by decide))
  sl_step
  have eS := pointsTo_congr (nD := nD) (τ := τ) (sig := sig) (Ix := HIx 1) (Val := Elt F) (Name := ℕ) (U := UU) (Lvl := ℕ)
    (ℓ := (rowS i).view.loc (tileOf d i)) (I := (rowS i).view.set) (q := fullShare)
    (f := (rowS i).view.writes (Elt F) fS [⟨Rect.whole S65536, tile_run.sl.dma0 i x b⟩]) (g := (outS x b : S16x2x65536.Idx → F .f32)) (rowS_holds i x b fS)
  have eC := pointsTo_congr (nD := nD) (τ := τ) (sig := sig) (Ix := HIx 1) (Val := Elt F) (Name := ℕ) (U := UU) (Lvl := ℕ)
    (ℓ := (rowC i).view.loc (tileOf d i)) (I := (rowC i).view.set) (q := fullShare)
    (f := (rowC i).view.writes (Elt F) fC [⟨Rect.whole S8192, tile_run.sl.dma0_1 i b⟩]) (g := (outC b : S16x2x8192.Idx → F .f32)) (rowC_holds i b fC)
  isplitl [Hmw Hx Hb Hs0 Hs1 HO]
  · isplitl [Hmw]; · iexact Hmw
    isplitl [Hx]; · iexact Hx
    isplitl [Hb]; · iexact Hb
    isplitl [Hs0]; · iexact Hs0
    isplitl [Hs1]; · iexact Hs1
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    · exact hW' p hp
  isplitl [HA HB HX HI]
  · iexists _, _, _, _
    isplitl [HA]; · iexact HA
    isplitl [HB]; · iexact HB
    isplitl [HX]; · iexact HX
    iexact HI
  isplitl [HS]; · iapply (Entails.of_eq eS); iexact HS
  isplitl [HC]; · iapply (Entails.of_eq eC); iexact HC
  isplitl [Hs4]; · iexact Hs4
  iexact Hs5

end Run

end Cert.Proof.Seg

end
-- ==== Proof.Launch.lean ====
/-
  The launch of the segment sums: what each SparseCore and each tile is handed and hands back, and the tile's body
  from the storage it owns.
-/
module

public import proofs.«01_k».proof.Proof.TileRun
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL
/-- The finishing kernel's buffers' ghost state: the middle part. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

variable (m : (ℓ : Loc nD τ sig) → Buf (Elt F) ℓ) (ρ : Dev nD → PrngReg)

abbrev xLoc (d : Dev nD) : Loc nD τ sig := (SparseCore.T d).loc main_arg0
abbrev bLoc (d : Dev nD) : Loc nD τ sig := (SparseCore.T d).loc main_arg1
abbrev sLoc (d : Dev nD) : Loc nD τ sig := (SparseCore.T d).loc main_v0_0
abbrev cLoc (d : Dev nD) : Loc nD τ sig := (SparseCore.T d).loc main_v0_1

/-- A core's share of the inputs, and a tile's of that. -/
abbrev qC (c : ℕ) : PosShare TreeShare := Transfers.shareTokN fullShare c
abbrev qT (c s : ℕ) : PosShare TreeShare := Transfers.shareTokN (qC c) s

/-- What core `c` holds: its shares of the inputs, its half of the two results. -/
def coreHas (d : Dev nD) (c : ℕ) (f : Buf (Elt F) (sLoc d)) (g : Buf (Elt F) (cLoc d)) : sProp 𝕄 :=
  iprop((xLoc d ↦{qC c} m (xLoc d)) ∗ (bLoc d ↦{qC c} m (bLoc d)) ∗ (sLoc d ↦[coreS c]{fullShare} f) ∗ (cLoc d ↦[coreC c]{fullShare} g))
/-- What tile `s` of core `c` holds. -/
def tileHas (d : Dev nD) (c s : ℕ) (f : Buf (Elt F) (sLoc d)) (g : Buf (Elt F) (cLoc d)) : sProp 𝕄 :=
  iprop((xLoc d ↦{qT c s} m (xLoc d)) ∗ (bLoc d ↦{qT c s} m (bLoc d)) ∗ (sLoc d ↦[cellS c s]{fullShare} f) ∗ (cLoc d ↦[cellC c s]{fullShare} g))

instance coreHas_storable (d : Dev nD) (c : ℕ) (f g) : BI.Storable (upEmb : UEmb _ 𝕄) (coreHas m d c f g) := by unfold coreHas; infer_instance
instance tileHas_storable (d : Dev nD) (c s : ℕ) (f g) : BI.Storable (upEmb : UEmb _ 𝕄) (tileHas m d c s f g) := by unfold tileHas; infer_instance

/-! ## Splitting the inputs' shares and the results' cells -/

theorem cells_disjoint (c : ℕ) : ∀ s ∈ (Finset.univ : Finset (Fin 16)), ∀ s' ∈ (Finset.univ : Finset (Fin 16)), s ≠ s' → Disjoint (cellS c s.val) (cellS c s'.val) :=
  fun s _ s' _ h => Finset.disjoint_left.mpr fun j hj hj' =>
    h (Fin.ext ((Finset.mem_filter.mp hj).2.1.symm.trans (Finset.mem_filter.mp hj').2.1))
theorem cellsC_disjoint (c : ℕ) : ∀ s ∈ (Finset.univ : Finset (Fin 16)), ∀ s' ∈ (Finset.univ : Finset (Fin 16)), s ≠ s' → Disjoint (cellC c s.val) (cellC c s'.val) :=
  fun s _ s' _ h => Finset.disjoint_left.mpr fun j hj hj' =>
    h (Fin.ext ((Finset.mem_filter.mp hj).2.1.symm.trans (Finset.mem_filter.mp hj').2.1))
theorem cells_cover (c : ℕ) : (Finset.univ : Finset (Fin 16)).biUnion (fun s => cellS c s.val) = coreS c := by
  ext j
  constructor
  · intro h
    obtain ⟨s, -, h⟩ := Finset.mem_biUnion.mp h
    exact Finset.mem_filter.mpr ⟨Finset.mem_univ _, (Finset.mem_filter.mp h).2.2⟩
  · intro h
    exact Finset.mem_biUnion.mpr ⟨⟨(j 0).val, (j 0).isLt⟩, Finset.mem_univ _, Finset.mem_filter.mpr ⟨Finset.mem_univ _, rfl, (Finset.mem_filter.mp h).2⟩⟩
theorem cellsC_cover (c : ℕ) : (Finset.univ : Finset (Fin 16)).biUnion (fun s => cellC c s.val) = coreC c := by
  ext j
  constructor
  · intro h
    obtain ⟨s, -, h⟩ := Finset.mem_biUnion.mp h
    exact Finset.mem_filter.mpr ⟨Finset.mem_univ _, (Finset.mem_filter.mp h).2.2⟩
  · intro h
    exact Finset.mem_biUnion.mpr ⟨⟨(j 0).val, (j 0).isLt⟩, Finset.mem_univ _, Finset.mem_filter.mpr ⟨Finset.mem_univ _, rfl, (Finset.mem_filter.mp h).2⟩⟩

theorem bigSep_range_fin (n : ℕ) (Φ : ℕ → sProp 𝕄) : bigSep (Finset.range n) Φ = bigSep Finset.univ fun i : Fin n => Φ i.val := by
  rw [show Finset.range n = (Finset.univ : Finset (Fin n)).map Fin.valEmbedding from by
    ext a; simp only [Finset.mem_range, Finset.mem_map, Finset.mem_univ, true_and, Fin.valEmbedding_apply]
    exact ⟨fun h => ⟨⟨a, h⟩, rfl⟩, fun ⟨i, e⟩ => e ▸ i.isLt⟩, bigSep_map]
  rfl

theorem share_split {ℓ : Loc nD τ sig} (q : PosShare TreeShare) (n : ℕ) (f : Buf (Elt F) ℓ) :
    (ℓ ↦{q} f : sProp 𝕄) = iprop((ℓ ↦{Transfers.shareDrop q n} f) ∗ bigSep Finset.univ fun i : Fin n => ℓ ↦{Transfers.shareTokN q i.val} f) := by
  rw [← bigSep_range_fin n fun i => (ℓ ↦{Transfers.shareTokN q i} f : sProp 𝕄)]
  exact BI.Entails.antisymm (Transfers.pointsTo_toks_range (ℓ := ℓ) (S := Finset.univ) (f := f) q n).1
    (Transfers.pointsTo_toks_range (ℓ := ℓ) (S := Finset.univ) (f := f) q n).2

theorem cells_split (d : Dev nD) (c : ℕ) (f : Buf (Elt F) (sLoc d)) :
    (sLoc d ↦[coreS c]{fullShare} f : sProp 𝕄) = bigSep Finset.univ fun s : Fin 16 => sLoc d ↦[cellS c s.val]{fullShare} f := by
  rw [← pointsTo_biUnion Finset.univ (ℓ := sLoc d) (fun s : Fin 16 => cellS c s.val) (cells_disjoint c)]
  exact congrArg (fun S => (sLoc d ↦[S]{fullShare} f : sProp 𝕄)) (cells_cover c).symm
theorem cellsC_split (d : Dev nD) (c : ℕ) (f : Buf (Elt F) (cLoc d)) :
    (cLoc d ↦[coreC c]{fullShare} f : sProp 𝕄) = bigSep Finset.univ fun s : Fin 16 => cLoc d ↦[cellC c s.val]{fullShare} f := by
  rw [← pointsTo_biUnion Finset.univ (ℓ := cLoc d) (fun s : Fin 16 => cellC c s.val) (cellsC_disjoint c)]
  exact congrArg (fun S => (cLoc d ↦[S]{fullShare} f : sProp 𝕄)) (cellsC_cover c).symm

/-- What the core sets aside while its tiles run. -/
abbrev aside (d : Dev nD) (c : ℕ) : sProp 𝕄 :=
  iprop((xLoc d ↦{Transfers.shareDrop (qC c) 16} m (xLoc d)) ∗ (bLoc d ↦{Transfers.shareDrop (qC c) 16} m (bLoc d)))

theorem regroup (a a' b b' s t : sProp 𝕄) : iprop((a ∗ a') ∗ (b ∗ b') ∗ s ∗ t) = iprop((a ∗ b) ∗ a' ∗ b' ∗ s ∗ t) :=
  BI.Entails.antisymm
    (show iprop((a ∗ a') ∗ (b ∗ b') ∗ s ∗ t) ⊢ iprop((a ∗ b) ∗ a' ∗ b' ∗ s ∗ t) from by
      iintro ⟨⟨Hx, Hxs⟩, ⟨Hb, Hbs⟩, HS, HC⟩
      isplitl [Hx Hb]
      · isplitl [Hx] <;> iassumption
      isplitl [Hxs]; · iexact Hxs
      isplitl [Hbs]; · iexact Hbs
      isplitl [HS] <;> iassumption)
    (show iprop((a ∗ b) ∗ a' ∗ b' ∗ s ∗ t) ⊢ iprop((a ∗ a') ∗ (b ∗ b') ∗ s ∗ t) from by
      iintro ⟨⟨Hx, Hb⟩, Hxs, Hbs, HS, HC⟩
      isplitl [Hx Hxs]
      · isplitl [Hx] <;> iassumption
      isplitl [Hb Hbs]
      · isplitl [Hb] <;> iassumption
      isplitl [HS] <;> iassumption)

theorem core_split (d : Dev nD) (c : ℕ) (f : Buf (Elt F) (sLoc d)) (g : Buf (Elt F) (cLoc d)) :
    coreHas m d c f g = iprop(aside m d c ∗ bigSep Finset.univ fun s : Fin 16 => tileHas m d c s.val f g) := by
  unfold coreHas tileHas aside
  rw [share_split (qC c) 16 (m (xLoc d)), share_split (qC c) 16 (m (bLoc d)), cells_split, cellsC_split, bigSep_sep', bigSep_sep', bigSep_sep']
  exact regroup _ _ _ _ _ _

variable [FloatOps F]

/-- The two results as the tiles leave them. -/
abbrev sumsAt (d : Dev nD) : Buf (Elt F) (sLoc d) := (outS (F := F) (m (xLoc d)) (m (bLoc d)) : S16x2x65536.Idx → F .f32)
abbrev cntsAt (d : Dev nD) : Buf (Elt F) (cLoc d) := (outC (F := F) (m (bLoc d)) : S16x2x8192.Idx → F .f32)

def P : (K (F := F)).Pay (nD := nD) (Val := Elt F) (Name := ℕ) (U := UU) where
  st := fun _ d c => coreHas m d c.val (m (sLoc d)) (m (cLoc d))
  dn := fun _ d c => coreHas m d c.val (sumsAt m d) (cntsAt m d)
  go := fun _ d c i => tileHas m d c.val i.val (m (sLoc d)) (m (cLoc d))
  td := fun _ d c i => tileHas m d c.val i.val (sumsAt m d) (cntsAt m d)
  x := fun _ _ => iprop(emp)

instance P_storable : (P (F := F) m).IsStorable where
  st _ d c := coreHas_storable m d c.val _ _
  dn _ d c := coreHas_storable m d c.val _ _
  go _ d c i := tileHas_storable m d c.val i.val _ _
  td _ d c i := tileHas_storable m d c.val i.val _ _

/-- What the proof asks of the launch memory: every segment word below 512. -/
def PreOK : Prop := ∀ (d : Dev nD) (j : S50000.Idx), (m (bLoc d) j : BitVec 32).toNat < 512

theorem vecSplit : (K (F := F)).VecSplit' (P m) 0 := by
  intro d c
  show coreHas m d c.val (m (sLoc d)) (m (cLoc d)) ⊢ |={Set.univ}=> iprop(
      (bigSep Finset.univ fun i : Fin 16 => tileHas m d c.val i.val (m (sLoc d)) (m (cLoc d)))
      ∗ ((bigSep Finset.univ fun i : Fin 16 => tileHas m d c.val i.val (sumsAt m d) (cntsAt m d))
          -∗ coreHas m d c.val (sumsAt m d) (cntsAt m d)))
  rw [core_split, core_split]
  iintro ⟨Ha, H⟩; imodintro
  isplitl [H]; · iexact H
  iintro H
  isplitl [Ha] <;> iassumption

/-! ## The tile -/

section Tile

variable (d : Dev nD) (i : grid0.Coords)

/-- The four semaphores the tile names. -/
abbrev cell4 : Fin 4 → DmaSem sig := ![0, 1, 4, 5]
abbrev dcell (d : Dev nD) (c : Fin τ.nSC) (s : Fin τ.nSub) (k : Fin 4) : GSem nD τ sig := (V d c s, .dma (cell4 k))

theorem sem0 : cc0_scoped0.sem = (0 : DmaSem sig) := rfl
theorem sem1 : cc0_scoped1.sem = (1 : DmaSem sig) := rfl
theorem sem4 : cc0_scoped4.sem = (4 : DmaSem sig) := rfl
theorem sem5 : cc0_scoped5.sem = (5 : DmaSem sig) := rfl

theorem dcell_mem (c : Fin τ.nSC) (s : Fin τ.nSub) (k : Fin 4) : dcell d c s k ∈ ownCells (V d c s) :=
  mem_ownCells.mpr ⟨rfl, (show ∀ s : DmaSem sig, (SemLoc.dma s : SemLoc sig).isScoped .scVector = true by decide) _⟩

abbrev cV (i : grid0.Coords) : Fin τ.nSC := (i 0).castLE hcore0
abbrev jV (i : grid0.Coords) : Fin τ.nSub := (i 1).castLE hsub0

theorem cell4_inj : Function.Injective cell4 := by decide

theorem ownSems0_V :
    (ownSems0 (tileOf d i) : sProp 𝕄)
      = iprop((semVal (tileOf d i, SemLoc.dma cc0_scoped0.sem) 0 ∗ semVal (tileOf d i, SemLoc.dma cc0_scoped1.sem) 0
            ∗ semVal (tileOf d i, SemLoc.dma cc0_scoped4.sem) 0 ∗ semVal (tileOf d i, SemLoc.dma cc0_scoped5.sem) 0)
          ∗ bigSep ((ownCells (tileOf d i)) \ Finset.univ.image (dcell d (cV i) (jV i))) fun g => semVal g 0) := by
  unfold SparseCore.Cfg.ownSems0
  rw [SparseCore.bigSep_sdiff_split' (t := Finset.univ.image (dcell d (cV i) (jV i)))
      (Finset.image_subset_iff.mpr fun k _ => dcell_mem d (cV i) (jV i) k),
    SparseCore.bigSep_image_of_injOn (fun a _ b _ h => cell4_inj (by
      have := congrArg (fun g : GSem nD τ sig => g.2) h
      simpa only [SemLoc.dma.injEq] using this))]
  rw [show (Finset.univ : Finset (Fin 4)) = {0, 1, 2, 3} by decide,
    SparseCore.bigSep_insert' (by decide), SparseCore.bigSep_insert' (by decide), SparseCore.bigSep_insert' (by decide), bigSep_singleton]
  rfl

/-- A scratch array as a buffer of the tile. -/
abbrev ownRef (i : grid0.Coords) (r : Ref sig .scVector) : DevRef τ sig := (Proc.scVector (cV i) (jV i)).devRef r

theorem ownRef_ne (i : grid0.Coords) {r r' : Ref sig .scVector} (h : r ≠ r') : ownRef i r ≠ ownRef i r' :=
  fun e => h (Proc.devRef_injective _ e)

theorem ownRef_mem {r : Ref sig .scVector} (h : (ownRef i r).owner = (ownRef i cc0_scratch0).owner) :
    ownRef i r ∈ ownRefs (τ := τ) (sig := sig) (.scVector (cV i) (jV i)) :=
  SparseCore.Cfg.mem_ownRefs_of_owner (p := Proc.scVector (cV i) (jV i)) h

/-- The tile's other buffers. -/
def restBufs (d : Dev nD) (i : grid0.Coords) : sProp 𝕄 :=
  bigSep (((((ownRefs (τ := τ) (.scVector (cV i) (jV i))).erase (ownRef i cc0_scratch0)).erase (ownRef i cc0_scratch1)).erase (ownRef i cc0_scratch2)).erase (ownRef i cc0_scratch3))
    fun b => iprop(∃ f, ((d, b) : Loc nD τ sig) ↦{fullShare} f)

theorem ownBufs_V :
    (ownBufs (tileOf d i) : sProp 𝕄)
      = iprop((∃ f, (tileOf d i).loc cc0_scratch0 ↦{fullShare} f) ∗ (∃ f, (tileOf d i).loc cc0_scratch1 ↦{fullShare} f)
          ∗ (∃ f, (tileOf d i).loc cc0_scratch2 ↦{fullShare} f) ∗ (∃ f, (tileOf d i).loc cc0_scratch3 ↦{fullShare} f) ∗ restBufs d i) := by
  unfold SparseCore.Cfg.ownBufs restBufs
  have h0 := ownRef_mem i (r := cc0_scratch0) rfl
  have h1 := ownRef_mem i (r := cc0_scratch1) rfl
  have h2 := ownRef_mem i (r := cc0_scratch2) rfl
  have h3 := ownRef_mem i (r := cc0_scratch3) rfl
  refine (SparseCore.bigSep_erase' h0).trans ?_
  rw [SparseCore.bigSep_erase' (Finset.mem_erase.mpr ⟨ownRef_ne i (by decide), h1⟩),
    SparseCore.bigSep_erase' (Finset.mem_erase.mpr ⟨ownRef_ne i (by decide), Finset.mem_erase.mpr ⟨ownRef_ne i (by decide), h2⟩⟩),
    SparseCore.bigSep_erase' (Finset.mem_erase.mpr ⟨ownRef_ne i (by decide), Finset.mem_erase.mpr ⟨ownRef_ne i (by decide), Finset.mem_erase.mpr ⟨ownRef_ne i (by decide), h3⟩⟩⟩)]

theorem row_pts (f : Buf (Elt F) (sLoc d)) :
    ((rowS i).view.loc (tileOf d i) ↦[(rowS i).view.set]{fullShare} f : sProp 𝕄) = sLoc d ↦[cellS (i 0).val (i 1).val]{fullShare} f := by
  rw [set_rowS]
theorem rowC_pts (f : Buf (Elt F) (cLoc d)) :
    ((rowC i).view.loc (tileOf d i) ↦[(rowC i).view.set]{fullShare} f : sProp 𝕄) = cLoc d ↦[cellC (i 0).val (i 1).val]{fullShare} f := by
  rw [set_rowC]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileHas m d (i 0).val (i 1).val (m (sLoc d)) (m (cLoc d))
        ∗ scopedBufs (tileOf d i) ∗ scopedSems0 (tileOf d i) ∗ owes (tileOf d i) O W)
      ⊢ wp frame (wpE (defs₀ (F := F)) 𝒱₀ (tileOf d i) none) Set.univ
          (cc0__sc_segment_sum (F := F) i xV (Memref.isWhole_whole _) bV (Memref.isWhole_whole _) oS (Memref.isWhole_whole _) oC (Memref.isWhole_whole _)
            sA (Memref.isWhole_whole _) sB (Memref.isWhole_whole _) sX (Memref.isWhole_whole _) sI (Memref.isWhole_whole _)
            cc0_scoped0 cc0_scoped1 cc0_scoped2 cc0_scoped3 cc0_scoped4 cc0_scoped5)
          fun _ => iprop(tileHas m d (i 0).val (i 1).val (sumsAt m d) (cntsAt m d)
            ∗ scopedBufs (tileOf d i) ∗ scopedSems0 (tileOf d i)
            ∗ ∃ W', ⌜∀ p ∈ W', p ∈ W ∨ p.2 = none ∨ p.2 = some (0 : Fin 1)⌝ ∗ owes (tileOf d i) O W') := by
  rw [(K (F := F)).scopedBufs_V hF d (cV i) (jV i), SparseCore.Cfg.scopedSems0_V (Val := Elt F) d (cV i) (jV i), ownSems0_V, ownBufs_V]
  unfold tileHas
  iintro ⟨#Hlv, -, ⟨Hx, Hb, HS, HC⟩, ⟨⟨%A, HA⟩, ⟨%B, HB⟩, ⟨%X, HX⟩, ⟨%I, HI⟩, Hbufs⟩, ⟨⟨H0, H1, H4, H5⟩, Hsems⟩, HO⟩
  ihave Hmw := (show levAts (K (F := F)).L (K (F := F)).lev ⊢ Transfers.MayWaits (tileOf d i) (none : HIx 1) O from
    (K (F := F)).mayWaits_none (thr := tileOf d i) hO) $$ Hlv
  ihave HS' := (Entails.of_eq (row_pts (F := F) d i _).symm) $$ HS
  ihave HC' := (Entails.of_eq (rowC_pts (F := F) d i _).symm) $$ HC
  iapply (wp_wand_r Idealize.ShloMosaic.frame (wpE (defs₀ (F := F)) 𝒱₀ (tileOf d i) none) Set.univ)
  isplitl [Hx Hb HS' HC' HA HB HX HI H0 H1 H4 H5 HO]
  · iapply (tile_run d i (qT (i 0).val (i 1).val) (m (xLoc d)) (m (bLoc d)) O W (hpre d) X I A B (m (sLoc d)) (m (cLoc d)))
    unfold Kept St
    isplitl [Hx Hb H0 H1 HO]
    · isplitr; · iexact Hmw
      isplitl [Hx]; · iexact Hx
      isplitl [Hb]; · iexact Hb
      isplitl [H0]; · iexact H0
      isplitl [H1]; · iexact H1
      iexists W; isplitr
      · ipureintro; exact fun p hp => .inl hp
      iexact HO
    isplitl [HA HB HX HI]
    · isplitl [HA]; · iexact HA
      isplitl [HB]; · iexact HB
      isplitl [HX]; · iexact HX
      iexact HI
    isplitl [HS']; · iexact HS'
    isplitl [HC']; · iexact HC'
    isplitl [H4] <;> iassumption
  iintro %_ ⟨HK, ⟨%X, %I, %A, %B, H⟩, HS', HC', H4, H5⟩
  unfold Kept St
  icases HK with ⟨-, Hx, Hb, H0, H1, %W', %hW', HO⟩
  icases H with ⟨HA, HB, HX, HI⟩
  isplitl [Hx Hb HS' HC']
  · isplitl [Hx]; · iexact Hx
    isplitl [Hb]; · iexact Hb
    isplitl [HS']; · iapply (Entails.of_eq (row_pts (F := F) d i _)); iexact HS'
    iapply (Entails.of_eq (rowC_pts (F := F) d i _)); iexact HC'
  isplitl [HA HB HX HI Hbufs]
  · isplitl [HA]; · iexists A; iexact HA
    isplitl [HB]; · iexists B; iexact HB
    isplitl [HX]; · iexists X; iexact HX
    isplitl [HI]; · iexists I; iexact HI
    iexact Hbufs
  isplitl [H0 H1 H4 H5 Hsems]
  · isplitl [H0 H1 H4 H5]
    · isplitl [H0]; · iexact H0
      isplitl [H1]; · iexact H1
      isplitl [H4] <;> iassumption
    iexact Hsems
  iexists W'; isplitr
  · ipureintro; intro p hp
    rcases hW' p hp with h | h
    · exact .inl h
    · exact .inr (.inl h)
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_segment_sum (F := F) (coordsV c s) xV (Memref.isWhole_whole _) bV (Memref.isWhole_whole _)
          oS (Memref.isWhole_whole _) oC (Memref.isWhole_whole _)
          sA (Memref.isWhole_whole _) sB (Memref.isWhole_whole _) sX (Memref.isWhole_whole _) sI (Memref.isWhole_whole _)
          cc0_scoped0 cc0_scoped1 cc0_scoped2 cc0_scoped3 cc0_scoped4 cc0_scoped5) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

end Cert.Proof.Seg

end
-- ==== Proof.Region.lean ====
/-
  The finishing kernel on the TensorCore: its body, and the region of the program that runs it.
-/
module

public import proofs.«01_k».proof.Proof.Launch
public import proofs.«01_k».proof.Proof.Gen.KernelIdeal.Points
public import Idealize.ShloMosaic.Lib.VecWindow
public import Idealize.ShloMosaic.Lib.Pipeline.RegionsLoop

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- A staging buffer's contents on core `c`, and it held whole. -/
abbrev Bf (c : Dev nD) {sp : Space} {S : Shape} {e : EltTy} (M : Memref sig .tc sp S e) : Type := Buf (Elt F) (M.view.loc (c : Thread nD τ))
abbrev held1 (c : Dev nD) {sp : Space} {S : Shape} {e : EltTy} (M : Memref sig .tc sp S e) (f : Bf (F := F) c M) : sProp 𝕄 :=
  M.view.loc (c : Thread nD τ) ↦{fullShare} f

section Body

variable (c : Dev nD) (M0 : Memref sig .tc .vmem S16x2x512x128 .f32) (h0 : M0.IsWhole) (M1 : Memref sig .tc .vmem S16x2x512x16 .f32) (h1 : M1.IsWhole)
  (M2 : Memref sig .tc .vmem S128x256 .f32) (h2 : M2.IsWhole) (M3 : Memref sig .tc .vmem S1x128 .f32) (h3 : M3.IsWhole)
  (M4 : Memref sig .tc .vmem S512x128 .f32) (h4 : M4.IsWhole)

/-- What the body computes from its four operands' buffers. -/
def finPay (f0 : Bf (F := F) c M0) (f1 : Bf (F := F) c M1) (f2 : Bf (F := F) c M2) (f3 : Bf (F := F) c M3) : FVec F S512x128 .f32 :=
  k1_pay1 (M0.view.readAt (Elt F) (Rect.unit (s := S16x2x512x128) ![0, 0, 0, 0] S16x2x512x128.size inb_S16x2x512x128_S16x2x512x128_0_0_0_0).toLoadRect f0)
    (M1.view.readAt (Elt F) (Rect.unit (s := S16x2x512x16) ![0, 0, 0, 0] S16x2x512x16.size inb_S16x2x512x16_S16x2x512x16_0_0_0_0).toLoadRect f1)
    (M2.view.readAt (Elt F) (Rect.unit (s := S128x256) ![0, 0] S128x128.size inb_S128x256_S128x128_0_0).toLoadRect f2)
    (M2.view.readAt (Elt F) (Rect.unit (s := S128x256) ![0, 128] S128x128.size inb_S128x256_S128x128_0_128).toLoadRect f2)
    (M3.view.readAt (Elt F) (Rect.unit (s := S1x128) ![0, 0] S1x128.size inb_S1x128_S1x128_0_0).toLoadRect f3)

/-- The result's buffer after the body. -/
def finBuf (f0 : Bf (F := F) c M0) (f1 : Bf (F := F) c M1) (f2 : Bf (F := F) c M2) (f3 : Bf (F := F) c M3) (f4 : Bf (F := F) c M4) : Bf (F := F) c M4 :=
  M4.view.writes (Elt F) f4 [⟨Rect.unit (s := S512x128) ![0, 0] S512x128.size inb_S512x128_S512x128_0_0, finPay c M0 M1 M2 M3 f0 f1 f2 f3⟩]

theorem finish_run (f0 : Bf (F := F) c M0) (f1 : Bf (F := F) c M1) (f2 : Bf (F := F) c M2) (f3 : Bf (F := F) c M3) (f4 : Bf (F := F) c M4)
    (Qf : PUnit → sProp 𝕄) :
    iprop(held1 c M0 f0 ∗ held1 c M1 f1 ∗ held1 c M2 f2 ∗ held1 c M3 f3 ∗ held1 c M4 f4
        ∗ (iprop(held1 c M0 f0 ∗ held1 c M1 f1 ∗ held1 c M2 f2 ∗ held1 c M3 f3 ∗ held1 c M4 (finBuf c M0 M1 M2 M3 M4 f0 f1 f2 f3 f4)) -∗ Qf ⟨⟩))
      ⊢ wp frame (wpE (defs₀ (F := F)) Variants.none c none) Set.univ (cc1__finish_kernel M0 h0 M1 h1 M2 h2 M3 h3 M4 h4) Qf := by
  rw [cc1__finish_kernel_eq_skeleton]; unfold cc1__finish_kernel_skel
  iintro ⟨H0, H1, H2, H3, H4, Hk⟩
  sl_exec
  sl_step
  iapply Hk
  isplitl [H0]; · iexact H0
  isplitl [H1]; · iexact H1
  isplitl [H2]; · iexact H2
  isplitl [H3]; · iexact H3
  iexact H4

end Body

/-! ## The body's value from the staged arrays -/

/-- What the finishing kernel computes of its four operands. -/
def finVal (a : FVec F S16x2x512x128 .f32) (b : FVec F S16x2x512x16 .f32) (w : FVec F S128x256 .f32) (e : FVec F S1x128 .f32) : FVec F S512x128 .f32 :=
  k1_pay1 a b (fun i => w ((Rect.unit (s := S128x256) ![0, 0] S128x128.size inb_S128x256_S128x128_0_0).emb i))
    (fun i => w ((Rect.unit (s := S128x256) ![0, 128] S128x128.size inb_S128x256_S128x128_0_128).emb i)) e

theorem finPay_stage (c : Dev nD) (f0 : FVec F S16x2x512x128 .f32) (f1 : FVec F S16x2x512x16 .f32) (f2 : FVec F S128x256 .f32) (f3 : FVec F S1x128 .f32) :
    finPay c (stage1_0 0) (stage1_1 0) (stage1_2 0) (stage1_3 0) f0 f1 f2 f3 = finVal f0 f1 f2 f3 := by
  unfold finPay finVal
  refine congr (congr (congr (congr (congrArg _ ?_) ?_) ?_) ?_) ?_
  · exact Memref.readAt_unit_zero (Elt F) cc1_stg0_0 (by funext a; fin_cases a <;> rfl) _ f0
  · exact Memref.readAt_unit_zero (Elt F) cc1_stg1_0 (by funext a; fin_cases a <;> rfl) _ f1
  · rfl
  · rfl
  · exact Memref.readAt_unit_zero (Elt F) cc1_stg3_0 (by funext a; fin_cases a <;> rfl) _ f3

theorem finBuf_stage (c : Dev nD) (f0 : FVec F S16x2x512x128 .f32) (f1 : FVec F S16x2x512x16 .f32) (f2 : FVec F S128x256 .f32) (f3 : FVec F S1x128 .f32) (f4 : FVec F S512x128 .f32) :
    finBuf c (stage1_0 0) (stage1_1 0) (stage1_2 0) (stage1_3 0) (stage1_4 0) f0 f1 f2 f3 f4 = finVal f0 f1 f2 f3 := by
  have h : (stage1_4 0).view.read (Elt F) (finBuf c (stage1_0 0) (stage1_1 0) (stage1_2 0) (stage1_3 0) (stage1_4 0) f0 f1 f2 f3 f4)
      = finPay c (stage1_0 0) (stage1_1 0) (stage1_2 0) (stage1_3 0) f0 f1 f2 f3 := View.read_writes_full _ _ _ _ _
  exact (show finBuf c (stage1_0 0) (stage1_1 0) (stage1_2 0) (stage1_3 0) (stage1_4 0) f0 f1 f2 f3 f4 = finPay c (stage1_0 0) (stage1_1 0) (stage1_2 0) (stage1_3 0) f0 f1 f2 f3 from h).trans (finPay_stage c f0 f1 f2 f3)

/-! ## The proof data, at a valuation of the arrays -/

variable (W : (c : Dev nD) → (b : Ref sig .tc) → Buf (Elt F) ((c : Thread nD τ).loc b))

theorem read_v1 (f : Buf (Elt F) (((0 : Dev nD) : Thread nD τ).loc main_v1)) : (win1_0.blk t1_0).view.read (Elt F) f = f :=
  Memref.read_access_unit_zero (Elt F) main_v1
    (show (fun a => (win1_0.index t1_0) a * main_v1.ty.shape.size a) = fun _ => 0 from funext fun a => by fin_cases a <;> decide) (fun a => by fin_cases a <;> decide) f
theorem read_v2 (f : Buf (Elt F) (((0 : Dev nD) : Thread nD τ).loc main_v2)) : (win1_1.blk t1_0).view.read (Elt F) f = f :=
  Memref.read_access_unit_zero (Elt F) main_v2
    (show (fun a => (win1_1.index t1_0) a * main_v2.ty.shape.size a) = fun _ => 0 from funext fun a => by fin_cases a <;> decide) (fun a => by fin_cases a <;> decide) f
theorem read_w (f : Buf (Elt F) (((0 : Dev nD) : Thread nD τ).loc main_arg2)) : (win1_2.blk t1_0).view.read (Elt F) f = f :=
  Memref.read_access_unit_zero (Elt F) main_arg2
    (show (fun a => (win1_2.index t1_0) a * main_arg2.ty.shape.size a) = fun _ => 0 from funext fun a => by fin_cases a <;> decide) (fun a => by fin_cases a <;> decide) f
theorem read_v3 (f : Buf (Elt F) (((0 : Dev nD) : Thread nD τ).loc main_v3)) : (win1_3.blk t1_0).view.read (Elt F) f = f :=
  Memref.read_access_unit_zero (Elt F) main_v3
    (show (fun a => (win1_3.index t1_0) a * main_v3.ty.shape.size a) = fun _ => 0 from funext fun a => by fin_cases a <;> decide) (fun a => by fin_cases a <;> decide) f
theorem read_v4 (f : Buf (Elt F) (((0 : Dev nD) : Thread nD τ).loc main_v4)) : (win1_4.blk t1_0).view.read (Elt F) f = f :=
  Memref.read_access_unit_zero (Elt F) main_v4
    (show (fun a => (win1_4.index t1_0) a * main_v4.ty.shape.size a) = fun _ => 0 from funext fun a => by fin_cases a <;> decide) (fun a => by fin_cases a <;> decide) f

/-- The result of the region at those arrays. -/
abbrev finAt (c : Dev nD) : FVec F S512x128 .f32 := finVal (W c main_v1) (W c main_v2) (W c main_arg2) (W c main_v3)

/-- What the region keeps beside its windows: nothing but the scoped storage it does not stage. -/
abbrev Φc (c : Dev nD) : sProp 𝕄 := Pipeline.scopedRest (Ix := HIx 1) (Name := ℕ) (U := UU) (Lvl := ℕ) (Val := Elt F) spec1 c

def dat (c : Dev nD) : Dat τ (Elt F) (HIx 1) ℕ UU ℕ cfg1 c where
  A w := W c (Pipeline.arrRef spec1 w)
  after w _ := match w with
    | ⟨0, _⟩ => W c main_v1
    | ⟨1, _⟩ => W c main_v2
    | ⟨2, _⟩ => W c main_arg2
    | ⟨3, _⟩ => W c main_v3
    | ⟨4, _⟩ => finAt W c
  Φ _ := Φc c
  q _ := fullShare
  owed _ := 0

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat W c

theorem before_0 (c : Dev nD) (d : (cfg1.win 0).block.Idx → Elt F (cfg1.win 0).elt) : (dat W c).before 0 t1_0 d = W c main_v1 := by
  unfold Dat.before; rw [if_pos (by decide)]; exact read_v1 (F := F) _
theorem before_1 (c : Dev nD) (d : (cfg1.win 1).block.Idx → Elt F (cfg1.win 1).elt) : (dat W c).before 1 t1_0 d = W c main_v2 := by
  unfold Dat.before; rw [if_pos (by decide)]; exact read_v2 (F := F) _
theorem before_2 (c : Dev nD) (d : (cfg1.win 2).block.Idx → Elt F (cfg1.win 2).elt) : (dat W c).before 2 t1_0 d = W c main_arg2 := by
  unfold Dat.before; rw [if_pos (by decide)]; exact read_w (F := F) _
theorem before_3 (c : Dev nD) (d : (cfg1.win 3).block.Idx → Elt F (cfg1.win 3).elt) : (dat W c).before 3 t1_0 d = W c main_v3 := by
  unfold Dat.before; rw [if_pos (by decide)]; exact read_v3 (F := F) _

theorem body_obligation (c : Dev nD) : BodyObligation (dat W c) (defs₀ (F := F)) Variants.none none Set.univ := fun t => by
  obtain rfl := fin_N1 t
  rw [bigSep_W1, bigSep_W1]
  simp only [owns_whole_eq]
  rw [show (dat W c).Φ t1_0.castSucc = Φc c from rfl, show (dat W c).Φ t1_0.succ = Φc c from rfl,
    show (dat W c).owesAt none t1_0.succ = (dat W c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before_0] at hf0
  rw [before_1] at hf1
  rw [before_2] at hf2
  rw [before_3] at hf3
  subst hf0; subst hf1; subst hf2; subst hf3
  iapply (finish_run (F := F) c (stage1_0 0) (hstage1_0 0) (stage1_1 0) (hstage1_1 0) (stage1_2 0) (hstage1_2 0) (stage1_3 0) (hstage1_3 0) (stage1_4 0) (hstage1_4 0)
    (W c main_v1) (W c main_v2) (W c main_arg2) (W c main_v3) f4)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; exact finBuf_stage c _ _ _ _ f4

/-- The result's array after the region. -/
theorem arrAt_out (c : Dev nD) : (dat W c).arrAt 4 cfg1.N = finAt W c := by
  have hw : ((cfg1.win 4).blk t1_0).view.read (Elt F) ((dat W c).arrAt 4 cfg1.N) = (dat W c).flushed 4 t1_0 := by
    rw [show cfg1.N = t1_0.val + 1 from rfl, (dat W c).arrAt_succ (4 : Fin 5) t1_0, flush1_4, if_pos rfl]
    exact View.read_write_univ _ _
  exact (read_v4 (F := F) _).symm.trans hw

/-! ## The region between the thread's states -/

variable (Wp : (c : Dev nD) → (b : Ref sig .tc) → Buf (Elt F) ((c : Thread nD τ).loc b))

set_option backward.isDefEq.respectTransparency.types false in
/-- The region: from every unscoped buffer at `W` to the same at `Wp`, which has the result's array at the body's
    value and agrees with `W` elsewhere. -/
def reg (hWp_out : ∀ c, Wp c main_v4 = finAt W c)
    (hWp_ne : ∀ c (b : Ref sig .tc), b ≠ main_v4 → Wp c b = W c b) :
    Pipeline.RegionSeg (pcfgs (F := F)) adm (pdats W adm) none defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ ∃ X, owes (c : Thread nD τ) (0 : CellTallies nD τ sig (HIx 1)) X)
  post c := iprop(unscopedBufs c (Wp c) ∗ ∃ X, owes (c : Thread nD τ) (0 : CellTallies nD τ sig (HIx 1)) X)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W adm) launch1.win launch1.arr_whole c
      ((pdats W adm 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats W adm 0 c).Φ 0 = Φc c from rfl]
    iintro ⟨-, -, Hr⟩; iexact Hr
  hout c := by
    rw [Pipeline.ownSems0_none, show (pdats W adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats W adm) ((pdats W adm 0 c).share_full fun _ => rfl) (W c) (Wp c) ((pdats W adm 0 c).arrAt · cfg1.N)
      (fun w => by
        fin_cases w
        · exact ((pdats W adm 0 c).arrAt_in 0 rfl _).trans (hWp_ne c main_v1 (by decide)).symm
        · exact ((pdats W adm 0 c).arrAt_in 1 rfl _).trans (hWp_ne c main_v2 (by decide)).symm
        · exact ((pdats W adm 0 c).arrAt_in 2 rfl _).trans (hWp_ne c main_arg2 (by decide)).symm
        · exact ((pdats W adm 0 c).arrAt_in 3 rfl _).trans (hWp_ne c main_v3 (by decide)).symm
        · exact (arrAt_out W c).trans (hWp_out c).symm)
      (fun b hb => hWp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

/-- The staging cells are pairwise distinct. -/
theorem pin_inj : Function.Injective (Pipeline.cellOf (nD := nD) (τ := τ) (Pipeline.pin (pcfgs (F := F)) adm)) := cellOf_inj

/-- The region's operation on the TensorCore. -/
theorem region_wp (hWp_out : ∀ c, Wp c main_v4 = finAt W c)
    (hWp_ne : ∀ c (b : Ref sig .tc), b ≠ main_v4 → Wp c b = W c b) (c : Dev nD) (Qf : PUnit → sProp 𝕄) :
    iprop((iprop(boundary (c.tc : Thread nD τ) ∗ unscopedBufs c (Wp c) ∗ ∃ X, owes (c : Thread nD τ) (0 : CellTallies nD τ sig (HIx 1)) X) -∗ Qf ⟨⟩)
        ∗ boundary (c.tc : Thread nD τ) ∗ (unscopedBufs c (W c) ∗ ∃ X, owes (c : Thread nD τ) (0 : CellTallies nD τ sig (HIx 1)) X)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ())) Qf := by
  have h := Pipeline.RegionSeg.wp (pcfgs (F := F)) adm (pdats W adm) none (pin_inj adm) EP defs₀ Variants.none (K (F := F)).L (K (F := F)).lev
    (reg W adm Wp hWp_out hWp_ne) c none (fun _ h => nomatch h) (fun _ => .ret ⟨⟩) Qf
  refine (BI.Entails.trans ?_ h).trans ((K (F := F)).wp_liftProg (D (F := F)) 𝒱 (SparseCore.T c) Set.univ none _ Qf)
  show iprop((iprop(boundary (c.tc : Thread nD τ) ∗ unscopedBufs c (Wp c) ∗ ∃ X, owes (c : Thread nD τ) (0 : CellTallies nD τ sig (HIx 1)) X) -∗ Qf ⟨⟩)
        ∗ boundary (c.tc : Thread nD τ) ∗ (unscopedBufs c (W c) ∗ ∃ X, owes (c : Thread nD τ) (0 : CellTallies nD τ sig (HIx 1)) X)
        ∗ levAts (K (F := F)).L (K (F := F)).lev
        ∗ Pipeline.cellsGhost (Pipeline.pin (pcfgs (F := F)) adm) EP 0 c ∗ Pipeline.toksInit (Pipeline.pin (pcfgs (F := F)) adm) EP 0 c) ⊢ _
  rw [show (reg W adm Wp hWp_out hWp_ne).pre c = iprop(unscopedBufs c (W c) ∗ ∃ X, owes (c : Thread nD τ) (0 : CellTallies nD τ sig (HIx 1)) X) from rfl,
    show (reg W adm Wp hWp_out hWp_ne).post c = iprop(unscopedBufs c (Wp c) ∗ ∃ X, owes (c : Thread nD τ) (0 : CellTallies nD τ sig (HIx 1)) X) from rfl]
  iintro ⟨Hk, Hb, Hpre, Hl, Hg, Ht⟩
  isplitl [Hk]
  · iintro H
    rw [wp_ret]
    imodintro
    iapply Hk; iexact H
  isplitl [Hb]; · iexact Hb
  isplitl [Hpre]; · iexact Hpre
  isplitl [Hl]; · iexact Hl
  isplitl [Hg]; · iexact Hg
  iexact Ht

end Cert.Proof.Seg

end
-- ==== Proof.Main.lean ====
/-
  The program's run: the segment sums on the SparseCores, three reshapes, the finishing kernel on the TensorCore.
-/
module

public import proofs.«01_k».proof.Proof.Region
public import proofs.«01_k».proof.Proof.Gen.Pre_segments_in_range
public import Idealize.ShloMosaic.Lib.ReduceAll

@[expose] public section

noncomputable section

namespace Cert.Proof.Seg

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev adm : (p : Fin 1) → (pcfgs (F := F) p).Adm := fun p => (cfgs p).toPCfg_adm

/-! ## The ghost state of the launch -/

def u₀ : UU := (initOf (K (F := F)).hsCells (K (F := F)).hsToks,
  (initOf (Pipeline.cells (Pipeline.pin (pcfgs (F := F)) adm) (pin_inj adm)) (Pipeline.launchToks (Pipeline.pin (pcfgs (F := F)) adm) (pin_inj adm)), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the TensorCore of device `d` holds of the finishing kernel's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem emps_eq {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) EP (pin_inj adm)) $$ HP with ⟨Hg, Ht⟩
  imodintro
  isplitl [HH]; · iexact HH
  isplitl [Hg Ht]
  · rw [bigSep_sep',
      show (bigSep Finset.univ fun d : Dev nD => (Pipeline.cellsGhost (Pipeline.pin (pcfgs (F := F)) adm) EP 0 d : sProp 𝕄))
        = bigSep Finset.univ fun d : Dev nD => bigSep Finset.univ fun p => Pipeline.cellsGhost (Pipeline.pin (pcfgs (F := F)) adm) EP p d from
        bigSep_congr fun d _ => (bigSep_univ_of_subsingleton (Φ := fun p : Fin 1 => (Pipeline.cellsGhost (Pipeline.pin (pcfgs (F := F)) adm) EP p d : sProp 𝕄)) (0 : Fin 1)).symm,
      show (bigSep Finset.univ fun d : Dev nD => (Pipeline.toksInit (Pipeline.pin (pcfgs (F := F)) adm) EP 0 d : sProp 𝕄))
        = bigSep Finset.univ fun d : Dev nD => bigSep Finset.univ fun p => Pipeline.toksInit (Pipeline.pin (pcfgs (F := F)) adm) EP p d from
        bigSep_congr fun d _ => (bigSep_univ_of_subsingleton (Φ := fun p : Fin 1 => (Pipeline.toksInit (Pipeline.pin (pcfgs (F := F)) adm) EP p d : sProp 𝕄)) (0 : Fin 1)).symm]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps_eq]
  iempintro

/-! ## The TensorCore's buffers at a valuation -/

def ucRefs : Finset (DevRef τ sig) := (StableHlo.tcRefs τ sig).filter fun b => ¬ b.isScoped

theorem unscoped_held (d : Dev nD) (W : Valuation τ sig (Elt F)) :
    (unscopedBufs d (fun b => W b) : sProp 𝕄) = held (d : Thread nD τ) ucRefs W := by
  unfold unscopedBufs StableHlo.held ucRefs StableHlo.tcRefs
  rw [Finset.filter_map, bigSep_map]
  rfl

abbrev tLoc (d : Dev nD) (b : Ref sig .tc) : Loc nD τ sig := (d.tc : Thread nD τ).loc b

theorem unscopedBufs_eq (d : Dev nD) (W : (b : Ref sig .tc) → Buf (Elt F) (tLoc d b)) :
    (unscopedBufs d W : sProp 𝕄) = iprop((tLoc d main_arg0 ↦{fullShare} W main_arg0) ∗ (tLoc d main_arg1 ↦{fullShare} W main_arg1)
      ∗ (tLoc d main_arg2 ↦{fullShare} W main_arg2) ∗ (tLoc d main_arg3 ↦{fullShare} W main_arg3)
      ∗ (tLoc d main_v0_0 ↦{fullShare} W main_v0_0) ∗ (tLoc d main_v0_1 ↦{fullShare} W main_v0_1)
      ∗ (tLoc d main_v1 ↦{fullShare} W main_v1) ∗ (tLoc d main_v2 ↦{fullShare} W main_v2) ∗ (tLoc d main_v3 ↦{fullShare} W main_v3)
      ∗ tLoc d main_v4 ↦{fullShare} W main_v4) := by
  unfold unscopedBufs
  rw [show (Finset.univ.filter fun b : Ref sig .tc => ¬ b.isScoped)
      = {main_arg0, main_arg1, main_arg2, main_arg3, main_v0_0, main_v0_1, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## What the call takes and hands back -/

theorem halves_split (d : Dev nD) (f : Buf (Elt F) (sLoc d)) :
    (sLoc d ↦{fullShare} f : sProp 𝕄) = bigSep Finset.univ fun c : Fin 2 => sLoc d ↦[coreS c.val]{fullShare} f := by
  rw [← pointsTo_biUnion Finset.univ (ℓ := sLoc d) (fun c : Fin 2 => coreS c.val) (fun s _ s' _ h => Finset.disjoint_left.mpr fun j hj hj' =>
    h (Fin.ext ((Finset.mem_filter.mp hj).2.symm.trans (Finset.mem_filter.mp hj').2)))]
  refine congrArg (fun S => (sLoc d ↦[S]{fullShare} f : sProp 𝕄)) (Finset.ext fun j => ⟨fun _ => ?_, fun _ => Finset.mem_univ _⟩)
  exact Finset.mem_biUnion.mpr ⟨⟨((show S16x2x65536.Idx from j) 1).val, ((show S16x2x65536.Idx from j) 1).isLt⟩, Finset.mem_univ _, Finset.mem_filter.mpr ⟨Finset.mem_univ _, rfl⟩⟩
theorem halvesC_split (d : Dev nD) (f : Buf (Elt F) (cLoc d)) :
    (cLoc d ↦{fullShare} f : sProp 𝕄) = bigSep Finset.univ fun c : Fin 2 => cLoc d ↦[coreC c.val]{fullShare} f := by
  rw [← pointsTo_biUnion Finset.univ (ℓ := cLoc d) (fun c : Fin 2 => coreC c.val) (fun s _ s' _ h => Finset.disjoint_left.mpr fun j hj hj' =>
    h (Fin.ext ((Finset.mem_filter.mp hj).2.symm.trans (Finset.mem_filter.mp hj').2)))]
  refine congrArg (fun S => (cLoc d ↦[S]{fullShare} f : sProp 𝕄)) (Finset.ext fun j => ⟨fun _ => ?_, fun _ => Finset.mem_univ _⟩)
  exact Finset.mem_biUnion.mpr ⟨⟨((show S16x2x8192.Idx from j) 1).val, ((show S16x2x8192.Idx from j) 1).isLt⟩, Finset.mem_univ _, Finset.mem_filter.mpr ⟨Finset.mem_univ _, rfl⟩⟩

/-- What the TensorCore keeps of the inputs while the call runs. -/
abbrev kept (d : Dev nD) : sProp 𝕄 :=
  iprop((xLoc d ↦{Transfers.shareDrop fullShare 2} m (xLoc d)) ∗ (bLoc d ↦{Transfers.shareDrop fullShare 2} m (bLoc d)))

theorem call_split (d : Dev nD) (f : Buf (Elt F) (sLoc d)) (g : Buf (Elt F) (cLoc d)) :
    iprop((xLoc d ↦{fullShare} m (xLoc d)) ∗ (bLoc d ↦{fullShare} m (bLoc d)) ∗ (sLoc d ↦{fullShare} f) ∗ (cLoc d ↦{fullShare} g))
      = (iprop(kept m d ∗ bigSep Finset.univ fun c : Fin 2 => coreHas m d c.val f g) : sProp 𝕄) := by
  unfold coreHas kept
  rw [share_split fullShare 2 (m (xLoc d)), share_split fullShare 2 (m (bLoc d)), halves_split, halvesC_split, bigSep_sep', bigSep_sep', bigSep_sep']
  exact regroup _ _ _ _ _ _

theorem st0_eq (d : Dev nD) : (bigSep Finset.univ fun c : Fin ((K (F := F)).nCore 0) => (P m).st 0 d c)
    = bigSep Finset.univ fun c : Fin 2 => coreHas m d c.val (m (sLoc d)) (m (cLoc d)) := rfl
theorem dn0_eq (d : Dev nD) : (bigSep Finset.univ fun c : Fin ((K (F := F)).nCore 0) => (P m).dn 0 d c)
    = bigSep Finset.univ fun c : Fin 2 => coreHas m d c.val (sumsAt m d) (cntsAt m d) := rfl

/-! ## The valuations between @main's operations -/

def V0 (d : Dev nD) : Valuation τ sig (Elt F) := fun b => m (d, b)
def V1 (d : Dev nD) : Valuation τ sig (Elt F) :=
  Function.update (Function.update (V0 m d) (main_v0_0 : DevRef τ sig) (sumsAt m d)) (main_v0_1 : DevRef τ sig) (cntsAt m d)

abbrev op1 : HloOp τ sig (Elt F) := StableHlo.reshape main_v0_0 main_v1 (rfl : (.f32 : EltTy) = .f32) shapeCasts_S16x2x65536_S16x2x512x128
abbrev op2 : HloOp τ sig (Elt F) := StableHlo.reshape main_v0_1 main_v2 (rfl : (.f32 : EltTy) = .f32) shapeCasts_S16x2x8192_S16x2x512x16
abbrev op3 : HloOp τ sig (Elt F) := StableHlo.reshape main_arg3 main_v3 (rfl : (.f32 : EltTy) = .f32) shapeCasts_S128_S1x128

def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)

/-- The buffers as the region finds them, and as it leaves them. -/
def W4 (d : Dev nD) (b : Ref sig .tc) : Buf (Elt F) (tLoc d b) := V4 m d (b : DevRef τ sig)
def W5 (d : Dev nD) (b : Ref sig .tc) : Buf (Elt F) (tLoc d b) :=
  Function.update (V4 m d) (main_v4 : DevRef τ sig) (finAt (W4 m) d) (b : DevRef τ sig)

theorem W5_out (d : Dev nD) : W5 m d main_v4 = finAt (W4 m) d := Function.update_self _ _ _
theorem W5_ne (d : Dev nD) (b : Ref sig .tc) (h : b ≠ main_v4) : W5 m d b = W4 m d b :=
  Function.update_of_ne (StableHlo.devRef_ne_of_ne h) _ _

theorem V2_ne (d : Dev nD) {r : Ref sig .tc} (h : r ≠ main_v1) : V2 m d (r : DevRef τ sig) = V1 m d (r : DevRef τ sig) := StableHlo.reshape_result_ne _ _ _ _ _ _ _ h
theorem V3_ne (d : Dev nD) {r : Ref sig .tc} (h : r ≠ main_v2) : V3 m d (r : DevRef τ sig) = V2 m d (r : DevRef τ sig) := StableHlo.reshape_result_ne _ _ _ _ _ _ _ h
theorem V4_ne (d : Dev nD) {r : Ref sig .tc} (h : r ≠ main_v3) : V4 m d (r : DevRef τ sig) = V3 m d (r : DevRef τ sig) := StableHlo.reshape_result_ne _ _ _ _ _ _ _ h
theorem V1_ne (d : Dev nD) {r : Ref sig .tc} (h : r ≠ main_v0_0) (h' : r ≠ main_v0_1) : V1 m d (r : DevRef τ sig) = m (tLoc d r) :=
  (Function.update_of_ne (StableHlo.devRef_ne_of_ne h') _ _).trans (Function.update_of_ne (StableHlo.devRef_ne_of_ne h) _ _)
theorem V1_s (d : Dev nD) : V1 m d (main_v0_0 : DevRef τ sig) = sumsAt m d :=
  (Function.update_of_ne (StableHlo.devRef_ne_of_ne (by decide)) _ _).trans (Function.update_self _ _ _)
theorem V1_c (d : Dev nD) : V1 m d (main_v0_1 : DevRef τ sig) = cntsAt m d := Function.update_self _ _ _

theorem W5_arg (d : Dev nD) {r : Ref sig .tc} (h : r ≠ main_v0_0 ∧ r ≠ main_v0_1 ∧ r ≠ main_v1 ∧ r ≠ main_v2 ∧ r ≠ main_v3 ∧ r ≠ main_v4) :
    W5 m d r = m (tLoc d r) :=
  (W5_ne m d r h.2.2.2.2.2).trans ((V4_ne m d h.2.2.2.2.1).trans ((V3_ne m d h.2.2.2.1).trans ((V2_ne m d h.2.2.1).trans (V1_ne m d h.1 h.2.1))))

/-- The program's result. -/
def resAt (d : Dev nD) : FVec F S512x128 .f32 :=
  finVal (shapeCast S16x2x512x128 (sumsAt m d : S16x2x65536.Idx → F .f32) shapeCasts_S16x2x65536_S16x2x512x128)
    (shapeCast S16x2x512x16 (cntsAt m d : S16x2x8192.Idx → F .f32) shapeCasts_S16x2x8192_S16x2x512x16)
    (m (tLoc d main_arg2)) (shapeCast S1x128 (m (tLoc d main_arg3) : S128.Idx → F .f32) shapeCasts_S128_S1x128)

theorem W4_v1 (d : Dev nD) : W4 m d main_v1 = shapeCast S16x2x512x128 (sumsAt m d : S16x2x65536.Idx → F .f32) shapeCasts_S16x2x65536_S16x2x512x128 := by
  refine (V4_ne m d (r := main_v1) (by decide)).trans ((V3_ne m d (r := main_v1) (by decide)).trans ?_)
  refine (StableHlo.reshape_result _ _ _ _ _ _ _).trans ?_
  rw [V1_s]; rfl
theorem W4_v2 (d : Dev nD) : W4 m d main_v2 = shapeCast S16x2x512x16 (cntsAt m d : S16x2x8192.Idx → F .f32) shapeCasts_S16x2x8192_S16x2x512x16 := by
  refine (V4_ne m d (r := main_v2) (by decide)).trans ?_
  refine (StableHlo.reshape_result _ _ _ _ _ _ _).trans ?_
  rw [V2_ne m d (r := main_v0_1) (by decide), V1_c]; rfl
theorem W4_v3 (d : Dev nD) : W4 m d main_v3 = shapeCast S1x128 (m (tLoc d main_arg3) : S128.Idx → F .f32) shapeCasts_S128_S1x128 := by
  refine (show W4 m d main_v3 = (op3 (F := F)).result (V3 m d) (main_v3 : DevRef τ sig) from rfl).trans ?_
  refine (StableHlo.reshape_result _ _ _ _ _ _ _).trans ?_
  rw [V3_ne m d (r := main_arg3) (by decide), V2_ne m d (r := main_arg3) (by decide), V1_ne m d (r := main_arg3) (by decide) (by decide)]; rfl
theorem W4_w (d : Dev nD) : W4 m d main_arg2 = m (tLoc d main_arg2) :=
  (V4_ne m d (by decide)).trans ((V3_ne m d (by decide)).trans ((V2_ne m d (by decide)).trans (V1_ne m d (by decide) (by decide))))

theorem W5_res (d : Dev nD) : W5 m d main_v4 = resAt m d := by
  rw [W5_out]
  unfold finAt resAt
  rw [W4_v1, W4_v2, W4_v3, W4_w]

/-! ## @main on the TensorCore -/

theorem hop1 : (op1 (F := F)).bufs ⊆ ucRefs := show ({(main_v0_0 : DevRef τ sig), (main_v1 : DevRef τ sig)} : Finset (DevRef τ sig)) ⊆ ucRefs by decide
theorem hop2 : (op2 (F := F)).bufs ⊆ ucRefs := show ({(main_v0_1 : DevRef τ sig), (main_v2 : DevRef τ sig)} : Finset (DevRef τ sig)) ⊆ ucRefs by decide
theorem hop3 : (op3 (F := F)).bufs ⊆ ucRefs := show ({(main_arg3 : DevRef τ sig), (main_v3 : DevRef τ sig)} : Finset (DevRef τ sig)) ⊆ ucRefs by decide

/-- The launch's buffers: what the call takes, and the rest. -/
theorem entry_bufs (d : Dev nD) :
    (unscopedBufs d (fun b => m ((SparseCore.T d).loc b)) : sProp 𝕄)
      = iprop((tLoc d main_arg0 ↦{fullShare} m (xLoc d)) ∗ (tLoc d main_arg1 ↦{fullShare} m (bLoc d))
      ∗ (tLoc d main_arg2 ↦{fullShare} m (tLoc d main_arg2)) ∗ (tLoc d main_arg3 ↦{fullShare} m (tLoc d main_arg3))
      ∗ (tLoc d main_v0_0 ↦{fullShare} m (sLoc d)) ∗ (tLoc d main_v0_1 ↦{fullShare} m (cLoc d))
      ∗ (tLoc d main_v1 ↦{fullShare} m (tLoc d main_v1)) ∗ (tLoc d main_v2 ↦{fullShare} m (tLoc d main_v2)) ∗ (tLoc d main_v3 ↦{fullShare} m (tLoc d main_v3))
      ∗ tLoc d main_v4 ↦{fullShare} m (tLoc d main_v4)) := unscopedBufs_eq d _

/-- The buffers after the call. -/
theorem after_bufs (d : Dev nD) :
    (held (SparseCore.T d) ucRefs (V1 m d) : sProp 𝕄)
      = iprop((tLoc d main_arg0 ↦{fullShare} m (xLoc d)) ∗ (tLoc d main_arg1 ↦{fullShare} m (bLoc d))
      ∗ (tLoc d main_arg2 ↦{fullShare} m (tLoc d main_arg2)) ∗ (tLoc d main_arg3 ↦{fullShare} m (tLoc d main_arg3))
      ∗ (tLoc d main_v0_0 ↦{fullShare} sumsAt m d) ∗ (tLoc d main_v0_1 ↦{fullShare} cntsAt m d)
      ∗ (tLoc d main_v1 ↦{fullShare} m (tLoc d main_v1)) ∗ (tLoc d main_v2 ↦{fullShare} m (tLoc d main_v2)) ∗ (tLoc d main_v3 ↦{fullShare} m (tLoc d main_v3))
      ∗ tLoc d main_v4 ↦{fullShare} m (tLoc d main_v4)) := by
  refine ((unscoped_held d (V1 m d)).symm.trans (unscopedBufs_eq d _)).trans ?_
  rw [V1_s, V1_c, V1_ne m d (r := main_arg0) (by decide) (by decide), V1_ne m d (r := main_arg1) (by decide) (by decide),
    V1_ne m d (r := main_arg2) (by decide) (by decide), V1_ne m d (r := main_arg3) (by decide) (by decide), V1_ne m d (r := main_v1) (by decide) (by decide),
    V1_ne m d (r := main_v2) (by decide) (by decide), V1_ne m d (r := main_v3) (by decide) (by decide), V1_ne m d (r := main_v4) (by decide) (by decide)]

/-- What @main leaves the claim: the arguments as launched, the result. -/
abbrev FIN (d : Dev nD) : sProp 𝕄 :=
  iprop((tLoc d main_arg0 ↦{fullShare} m (xLoc d)) ∗ (tLoc d main_arg1 ↦{fullShare} m (bLoc d))
    ∗ (tLoc d main_arg2 ↦{fullShare} m (tLoc d main_arg2)) ∗ (tLoc d main_arg3 ↦{fullShare} m (tLoc d main_arg3))
    ∗ tLoc d main_v4 ↦{fullShare} (resAt m d : Buf (Elt F) (tLoc d main_v4)))

theorem exit_bufs (d : Dev nD) : (unscopedBufs d (W5 m d) : sProp 𝕄) ⊢ FIN m d := by
  rw [unscopedBufs_eq, W5_res, W5_arg m d (r := main_arg0) (by decide), W5_arg m d (r := main_arg1) (by decide), W5_arg m d (r := main_arg2) (by decide),
    W5_arg m d (r := main_arg3) (by decide)]
  iintro ⟨H0, H1, H2, H3, -, -, -, -, -, H4⟩
  isplitl [H0]; · iexact H0
  isplitl [H1]; · iexact H1
  isplitl [H2]; · iexact H2
  isplitl [H3]; · iexact H3
  iexact H4

/-- The TensorCore's state after the last call: what it owes, and the rest. -/
theorem tcSt_last (d : Dev nD) : ∃ Rst : sProp 𝕄, (K (F := F)).tcSt EH d 1
    = iprop((∃ X, ⌜(K (F := F)).WBelow (SparseCore.T d) X (8 * (1 : ℕ))⌝ ∗ owes (SparseCore.T d) (0 : CellTallies nD τ sig (HIx 1)) X) ∗ Rst) := by
  refine ⟨iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1))), ?_⟩
  unfold SparseCore.Cfg.tcSt
  rw [(K (F := F)).Otc_end d (le_refl 1)]
  rfl

theorem WBelow_one (d : Dev nD) (X : Waits sig (HIx 1)) : (K (F := F)).WBelow (SparseCore.T d) X (8 * (1 : ℕ)) := by
  rintro ⟨s, q⟩ -
  cases q with
  | none => exact Nat.zero_le _
  | some q => obtain rfl := Subsingleton.elim (α := Fin 1) q 0; exact ((K (F := F)).lev_some_le _ _).trans (by decide)

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨Rst, hst⟩ := tcSt_last (F := F) d
  unfold SparseCore.Cfg.tcRes SparseCore.Cfg.tcEnd
  rw [entry_bufs, hst]
  simp only [main, wp_bind, wp_pure]
  iintro ⟨#Hctx, Hst, ⟨Hb, ⟨Hx, Hbt, Hw, Hbi, Hs, Hc, Hv1, Hv2, Hv3, Hv4⟩, Hts, -⟩, Hg, Ht⟩
  ihave Hlv := (SparseCore.Cfg.ctx_levAts κ) $$ Hctx
  ihave Hcall := (Entails.of_eq (call_split (F := F) m d (m (sLoc d)) (m (cLoc d)))) $$ [Hx Hbt Hs Hc]
  · isplitl [Hx]; · iexact Hx
    isplitl [Hbt]; · iexact Hbt
    isplitl [Hs]; · iexact Hs
    iexact Hc
  icases Hcall with ⟨Hkept, Hcores⟩
  iapply ((K (F := F)).wp_run (D (F := F)) 𝒱 (EH := EH) (P := P m) κ d 0) $$ [Hst Hcores Hkept Hw Hbi Hv1 Hv2 Hv3 Hv4 Hb Hts Hg Ht Hlv]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hcall := (Entails.of_eq (call_split (F := F) m d (sumsAt m d) (cntsAt m d)).symm) $$ [Hkept Hdn']
  · isplitl [Hkept] <;> iassumption
  icases Hcall with ⟨Hx, Hbt, Hs, Hc⟩
  iapply (wp_hlo_within 𝒱 (SparseCore.T d) none Set.univ (op := op1) (S := ucRefs) hop1 (V := V1 m d)) $$ [Hb Hx Hbt Hw Hbi Hs Hc Hv1 Hv2 Hv3 Hv4]
  · isplitl [Hb]; · iexact Hb
    rw [after_bufs]
    isplitl [Hx]; · iexact Hx
    isplitl [Hbt]; · iexact Hbt
    isplitl [Hw]; · iexact Hw
    isplitl [Hbi]; · iexact Hbi
    isplitl [Hs]; · iexact Hs
    isplitl [Hc]; · iexact Hc
    isplitl [Hv1]; · iexact Hv1
    isplitl [Hv2]; · iexact Hv2
    isplitl [Hv3]; · iexact Hv3
    iexact Hv4
  iintro ⟨Hb, Hheld⟩
  rw [wp_ret]; imodintro
  iapply (wp_hlo_within 𝒱 (SparseCore.T d) none Set.univ (op := op2) (S := ucRefs) hop2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := ucRefs) hop3 (V := V3 m d)) $$ [Hb Hheld]
  · isplitl [Hb]; · iexact Hb
    iexact Hheld
  iintro ⟨Hb, Hheld⟩
  rw [wp_ret]; imodintro
  ihave Hub := (show held (SparseCore.T d) ucRefs ((op3 (F := F)).result (V3 m d)) ⊢ (unscopedBufs d (W4 m d) : sProp 𝕄) from Entails.of_eq (unscoped_held d (V4 m d)).symm) $$ Hheld
  ihave Hst' := (show (K (F := F)).tcSt EH d ((0 : Fin 1).val + 1) ⊢ _ from Entails.of_eq hst) $$ Hst
  icases Hst' with ⟨⟨%X, -, HO⟩, HR⟩
  iapply (region_wp (W4 m) adm (W5 m) (W5_out m) (W5_ne m) d)
  isplitl [HR Hts]
  · iintro ⟨Hb, Hub, %X', HO⟩
    imodintro
    isplitl [HO HR]
    · isplitl [HO]
      · iexists X'; isplitr
        · ipureintro; exact WBelow_one d X'
        iexact HO
      iexact HR
    isplitl [Hub]
    · iapply (exit_bufs m d); iexact Hub
    isplitl [Hb] <;> iassumption
  isplitl [Hb]; · iexact Hb
  isplitl [Hub HO]
  · isplitl [Hub]; · iexact Hub
    iexists X; iexact HO
  isplitl [Hlv]; · iexact Hlv
  isplitl [Hg] <;> iassumption

/-! ## The run -/

def fq (d : Dev nD) (s' : Phys nD τ sig (Elt F)) : Prop :=
  s'.mem.mem (tLoc d main_v4) = (resAt m d : Buf (Elt F) (tLoc d main_v4))
    ∧ s'.mem.mem (tLoc d main_arg0) = m (tLoc d main_arg0) ∧ s'.mem.mem (tLoc d main_arg1) = m (tLoc d main_arg1)
    ∧ s'.mem.mem (tLoc d main_arg2) = m (tLoc d main_arg2) ∧ s'.mem.mem (tLoc d main_arg3) = m (tLoc d main_arg3)

/-- A buffer held whole at `f` is `f` in the memory. -/
theorem read_held (s' : Phys nD τ sig (Elt F)) (ℓ : Loc nD τ sig) (f : Buf (Elt F) ℓ) (R : sProp 𝕄) :
    iprop(((ℓ ↦{fullShare} f) ∗ R) ∗ SI s') ⊢ (iprop(⌜s'.mem.mem ℓ = f⌝ ∗ R ∗ SI s') : sProp 𝕄) := by
  iintro ⟨⟨H, HR⟩, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  isplitl [HR] <;> iassumption

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (read_held s' (tLoc d main_arg0) (m (xLoc d)) iprop((tLoc d main_arg1 ↦{fullShare} m (bLoc d)) ∗ (tLoc d main_arg2 ↦{fullShare} m (tLoc d main_arg2)) ∗ (tLoc d main_arg3 ↦{fullShare} m (tLoc d main_arg3)) ∗ (tLoc d main_v4 ↦{fullShare} (resAt m d : Buf (Elt F) (tLoc d main_v4))))) $$ [H0 H1 H2 H3 H4 HSI]
  · isplitr [HSI]; swap; (· iexact HSI)
    isplitl [H0]; · iexact H0
    isplitl [H1]; · iexact H1
    isplitl [H2]; · iexact H2
    isplitl [H3]; · iexact H3
    iexact H4
  icases H with ⟨%h0, H, HSI⟩
  ihave H := (read_held s' (tLoc d main_arg1) (m (bLoc d)) iprop((tLoc d main_arg2 ↦{fullShare} m (tLoc d main_arg2)) ∗ (tLoc d main_arg3 ↦{fullShare} m (tLoc d main_arg3)) ∗ (tLoc d main_v4 ↦{fullShare} (resAt m d : Buf (Elt F) (tLoc d main_v4))))) $$ [H HSI]
  · isplitl [H]; · iexact H
    iexact HSI
  icases H with ⟨%h1, H, HSI⟩
  ihave H := (read_held s' (tLoc d main_arg2) (m (tLoc d main_arg2)) iprop((tLoc d main_arg3 ↦{fullShare} m (tLoc d main_arg3)) ∗ (tLoc d main_v4 ↦{fullShare} (resAt m d : Buf (Elt F) (tLoc d main_v4))))) $$ [H HSI]
  · isplitl [H]; · iexact H
    iexact HSI
  icases H with ⟨%h2, H, HSI⟩
  ihave H := (read_held s' (tLoc d main_arg3) (m (tLoc d main_arg3)) iprop((tLoc d main_v4 ↦{fullShare} (resAt m d : Buf (Elt F) (tLoc d main_v4))))) $$ [H HSI]
  · isplitl [H]; · iexact H
    iexact HSI
  icases H with ⟨%h3, H4, HSI⟩
  ihave H := (SI_pointsTo_agree (st := s') (ℓ := tLoc d main_v4) (I := Finset.univ) (q := fullShare) (f := (resAt m d : Buf (Elt F) (tLoc d main_v4)))) $$ [HSI H4]
  · isplitl [HSI] <;> iassumption
  icases H with %h4
  ipureintro
  exact ⟨funext fun i => h4 i (Finset.mem_univ i), h0, h1, h2, h3⟩

def QC : PUnit × MemSt nD τ sig (Elt F) → Prop := fun r =>
  (∀ d : Dev nD, r.2.mem (tLoc d main_v4) = (resAt m d : Buf (Elt F) (tLoc d main_v4))
    ∧ r.2.mem (tLoc d main_arg0) = m (tLoc d main_arg0) ∧ r.2.mem (tLoc d main_arg1) = m (tLoc d main_arg1)
    ∧ r.2.mem (tLoc d main_arg2) = m (tLoc d main_arg2) ∧ r.2.mem (tLoc d main_arg3) = m (tLoc d main_arg3)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

/-- Of the arguments alone. -/
theorem run_args [∀ e, Nonempty (Elt F e)] (hpre : PreOK m) :
    θ_run (Cert.KernelIdeal.defs (F := F)) (Cert.KernelIdeal.threads (F := F)) ⟨m, fun _ => 0, ρ⟩ fun r =>
      (∀ d : Dev nD, r.2.mem (tLoc d main_arg0) = m (tLoc d main_arg0) ∧ r.2.mem (tLoc d main_arg1) = m (tLoc d main_arg1)
        ∧ r.2.mem (tLoc d main_arg2) = m (tLoc d main_arg2) ∧ r.2.mem (tLoc d main_arg3) = m (tLoc d main_arg3)) ∧ r.2.sem = fun _ => 0 :=
  (θ_run Cert.KernelIdeal.defs _ _).mono (fun _ h => ⟨fun d => (h.1 d).2, h.2⟩) (run_main m ρ hpre)

/-! ## The precondition -/

/-- Every segment word at least 0 and below 512, as jax computes it, gives what the proof asks of the launch memory. -/
theorem word_ok (v : BitVec 32) (h1 : IntOp.cmpi .sge v 0#32 = 1#1) (h2 : IntOp.cmpi .slt v 512#32 = 1#1) : v.toNat < 512 := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat, Nat.reducePow,
    Nat.reduceMod] at h1 h2
  omega

instance : Subsingleton Cert.Pre_segments_in_range.S_.Idx := ⟨fun _ _ => funext fun a => a.elim0⟩

theorem pre_words [Cert.Pre_segments_in_range.Facts] (x : FVec F Cert.Pre_segments_in_range.S50000x256 .f32) (b : IVec Cert.Pre_segments_in_range.S50000 32)
    (w : FVec F Cert.Pre_segments_in_range.S128x256 .f32) (e : FVec F Cert.Pre_segments_in_range.S128 .f32)
    (h : Cert.Pre_segments_in_range.fn x b w e = fun _ => 1#1) (j : Cert.Pre_segments_in_range.S50000.Idx) : (b j).toNat < 512 := by
  have h0 := congrFun h fun a => a.elim0
  unfold Cert.Pre_segments_in_range.fn at h0
  obtain ⟨h1, h2⟩ := IntOp.andi_eq_one.1 h0
  exact word_ok _ (Host.reduce_andi_all _ _ _ _ _ h1 j) (Host.reduce_andi_all _ _ _ _ _ h2 j)

end Cert.Proof.Seg

end
-- ==== Proof.RefRun.lean ====
/-
  The run of the reference: two scattered sums, a maximum with one, a quotient, a product with the transposed weights and
  an added bias, all on the host. `refVal` is what it leaves in its result, `run_ref` says that it does.
-/
module

public import proofs.«01_k».proof.ReferenceIdeal
public import proofs.«01_k».proof.Proof.Gen.ReferenceIdeal
public import Idealize.ShloMosaic.Lib.StableHlo.Run

@[expose] public section

noncomputable section

namespace Cert.Proof.SegRef

open Cert.ReferenceIdeal Cert.ReferenceIdeal.Gen
open Idealize.ShloMosaic Idealize.ShloMosaic.TcCoe Idealize.ShloMosaic.StableHlo Idealize.SL.Sem

variable {F : FTy → Type} [FloatOps F]

/-- The operations of the reference, in order, its helper's three among them. -/
abbrev steps : List (HloOp τ sig (Elt F)) :=
  [ nullary main_cst (constant S_ .f32 0x00000000#32),
    unary main_cst main_v0 (broadcastInDim S512x256 ![] bcast_S_S512x256),
    unary main_arg1 main_v1 (broadcastInDim S50000x1 ![0] bcast_S50000_S50000x1_0),
    ternary main_v0 main_v1 main_arg0 main_v2 (fun x i u => Host.scatterAdd scatter_S512x256_S50000x1_S50000x256_1_0_0_1 x i u),
    nullary main_cst_0 (constant S_ .f32 0x3F800000#32),
    unary main_cst_0 main_v3 (broadcastInDim S50000 ![] bcast_S_S50000),
    nullary main_cst_1 (constant S_ .f32 0x00000000#32),
    unary main_cst_1 main_v4 (broadcastInDim S512 ![] bcast_S_S512),
    unary main_arg1 main_v5 (broadcastInDim S50000x1 ![0] bcast_S50000_S50000x1_0),
    ternary main_v4 main_v5 main_v3 main_v6 (fun x i u => Host.scatterAdd scatter_S512_S50000x1_S50000_n_0_0_1 x i u),
    nullary main_cst_2 (constant S_ .f32 0x3F800000#32),
    TRef.unary (.of main_cst_2) main_call0.v0 id,
    TRef.unary main_call0.v0 main_call0.v1 (broadcastInDim S512 ![] bcast_S_S512),
    TRef.binary main_call0.v1 (.of main_v6) main_call0.v2 maximumf,
    unary main_v7 main_v8 (broadcastInDim S512x1 ![0] bcast_S512_S512x1_0),
    unary main_v8 main_v9 (broadcastInDim S512x256 ![0, 1] bcast_S512x1_S512x256_0_1),
    binary main_v2 main_v9 main_v10 Host.divf,
    unary main_arg2 main_v11 (transpose S256x128 [1, 0] · transposes_S128x256_S256x128_1_0),
    binary main_v10 main_v11 main_v12 (fun l r => Host.dotGeneral dot_S512x256_S256x128_S512x128_1_0_0_1_n_n none l r),
    unary main_arg3 main_v13 (broadcastInDim S1x128 ![1] bcast_S128_S1x128_1),
    unary main_v13 main_v14 (broadcastInDim S512x128 ![0, 1] bcast_S1x128_S512x128_0_1),
    binary main_v12 main_v14 main_v15 addf ]

theorem main_steps (c : Dev nD) : main (F := F) c = seq steps := rfl

/-- The sums of the rows of each segment. -/
def refSum (x : FVec F S50000x256 .f32) (b : IVec S50000 32) : FVec F S512x256 .f32 :=
  Host.scatterAdd scatter_S512x256_S50000x1_S50000x256_1_0_0_1 (broadcastInDim S512x256 ![] bcast_S_S512x256 (constant S_ .f32 0x00000000#32))
    (broadcastInDim S50000x1 ![0] bcast_S50000_S50000x1_0 b) x

/-- The number of rows of each segment. -/
def refCnt (b : IVec S50000 32) : FVec F S512 .f32 :=
  Host.scatterAdd scatter_S512_S50000x1_S50000_n_0_0_1 (broadcastInDim S512 ![] bcast_S_S512 (constant S_ .f32 0x00000000#32))
    (broadcastInDim S50000x1 ![0] bcast_S50000_S50000x1_0 b) (broadcastInDim S50000 ![] bcast_S_S50000 (constant S_ .f32 0x3F800000#32))

/-- What is left in the result. -/
def refVal (x : FVec F S50000x256 .f32) (b : IVec S50000 32) (w : FVec F S128x256 .f32) (e : FVec F S128 .f32) : FVec F S512x128 .f32 :=
  addf
    (Host.dotGeneral dot_S512x256_S256x128_S512x128_1_0_0_1_n_n none
      (Host.divf (refSum x b) (broadcastInDim S512x256 ![0, 1] bcast_S512x1_S512x256_0_1 (broadcastInDim S512x1 ![0] bcast_S512_S512x1_0
        (maximumf (broadcastInDim S512 ![] bcast_S_S512 (constant S_ .f32 0x3F800000#32)) (refCnt b)))))
      (transpose S256x128 [1, 0] w transposes_S128x256_S256x128_1_0))
    (broadcastInDim S512x128 ![0, 1] bcast_S1x128_S512x128_0_1 (broadcastInDim S1x128 ![1] bcast_S128_S1x128_1 e))

theorem out_val (V : Valuation τ sig (Elt F)) :
    after steps V (main_v15 : DevRef τ sig) = refVal (V (main_arg0 : DevRef τ sig)) (V (main_arg1 : DevRef τ sig)) (V (main_arg2 : DevRef τ sig))
      (V (main_arg3 : DevRef τ sig)) := by
  after_results
  rfl
theorem arg0_kept (V : Valuation τ sig (Elt F)) : after steps V (main_arg0 : DevRef τ sig) = V (main_arg0 : DevRef τ sig) := by after_results
theorem arg1_kept (V : Valuation τ sig (Elt F)) : after steps V (main_arg1 : DevRef τ sig) = V (main_arg1 : DevRef τ sig) := by after_results
theorem arg2_kept (V : Valuation τ sig (Elt F)) : after steps V (main_arg2 : DevRef τ sig) = V (main_arg2 : DevRef τ sig) := by after_results
theorem arg3_kept (V : Valuation τ sig (Elt F)) : after steps V (main_arg3 : DevRef τ sig) = V (main_arg3 : DevRef τ sig) := by after_results

theorem no_scoped_refs : (Finset.univ.filter fun b : Ref sig .tc => b.isScoped) = ∅ := by decide
theorem no_scoped_sems : (Finset.univ.filter fun sm : SemLoc sig => sm.isScoped .tc) = ∅ := by decide

theorem steps_sub : (steps : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., unary_bufs_sub .., binary_bufs_sub ..,
    unary_bufs_sub .., unary_bufs_sub .., binary_bufs_sub .., unary_bufs_sub .., binary_bufs_sub .., unary_bufs_sub .., unary_bufs_sub ..,
    binary_bufs_sub ..⟩

/-- There is no semaphore to count. -/
instance no_sems : IsEmpty (SemLoc sig) :=
  ⟨fun s => match s with | .reg s => s.elim0 | .dma s => s.elim0⟩

/-- From any memory the reference ends with its result computed, its arguments as they were and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v15) = refVal (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun _ h => ⟨fun c => ⟨(h c main_v15).trans (out_val _), (h c main_arg0).trans (arg0_kept _), (h c main_arg1).trans (arg1_kept _),
      (h c main_arg2).trans (arg2_kept _), (h c main_arg3).trans (arg3_kept _)⟩, funext fun g => isEmptyElim g.2⟩)
    (run_seq no_scoped_refs no_scoped_sems defs main (fun _ => steps) main_steps (fun _ => steps_sub) m ρ)

end Cert.Proof.SegRef

end
-- ==== Proof.Same.lean ====
/-
  The kernel read at the words and the kernel read at the extended reals are one text over two vocabularies: here the two
  are shown equal over any float values, so that one run serves both.
-/
module

public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton

@[expose] public section

noncomputable section

namespace Cert.Proof.Same

open Idealize.ShloMosaic Idealize.SL.Sem

variable {F : FTy → Type} [FloatOps F]

set_option maxHeartbeats 4000000 in
theorem tile_shape : @Cert.Kernel.Gen.cc0__sc_segment_sum_skel F _ = @Cert.KernelIdeal.Gen.cc0__sc_segment_sum_skel F _ := rfl

theorem tile_eq : Cert.Kernel.cc0__sc_segment_sum (F := F) = Cert.KernelIdeal.cc0__sc_segment_sum (F := F) :=
  Cert.Kernel.Gen.cc0__sc_segment_sum_eq_skeleton.trans (tile_shape.trans Cert.KernelIdeal.Gen.cc0__sc_segment_sum_eq_skeleton.symm)

theorem finish_eq : Cert.Kernel.cc1__finish_kernel (F := F) = Cert.KernelIdeal.cc1__finish_kernel (F := F) := rfl

theorem row_tile (c s a) : Cert.Kernel.defs₀ (F := F) (.scVector c s) 0 a = Cert.KernelIdeal.defs₀ (F := F) (.scVector c s) 0 a := by
  unfold Cert.Kernel.defs₀ Cert.KernelIdeal.defs₀
  dsimp only
  rw [tile_eq]; rfl

theorem row_finish (t s) : Cert.Kernel.defs₀ (F := F) .tc 1 (t, s) = Cert.KernelIdeal.defs₀ (F := F) .tc 1 (t, s) := by
  unfold Cert.Kernel.defs₀ Cert.KernelIdeal.defs₀
  dsimp only
  rw [finish_eq]; rfl

theorem bodies_eq : Cert.Kernel.defs₀ (F := F) = Cert.KernelIdeal.defs₀ (F := F) := by
  funext c l a
  match c, l, a with
  | .scVector c s, 0, a => exact row_tile c s a
  | .scVector c s, 1, a => rfl
  | .tc, 1, (t, s) => exact row_finish t s
  | .tc, 0, _ => rfl
  | .scScalar c, l, a => rfl

theorem defs_eq : Cert.Kernel.defs (F := F) = Cert.KernelIdeal.defs (F := F) := by
  unfold Cert.Kernel.defs Cert.KernelIdeal.defs
  rw [bodies_eq]; rfl

theorem threads_eq : Cert.Kernel.threads (F := F) = Cert.KernelIdeal.threads (F := F) := rfl

end Cert.Proof.Same

end
-- ==== Proof.ValueTab.lean ====
/-
  The tables over the reals: a cell of a tile's table is the sum of the entries of the tile's rows whose word names the
  cell's segment, and the sixteen tiles' rows together are all the rows.
-/
module

public import proofs.«01_k».proof.Proof.Rows
public import Idealize.ShloMosaic.Lib.Pointwise
public import Mathlib.Algebra.BigOperators.Fin

@[expose] public section

noncomputable section

namespace Cert.Proof.Seg

open Cert.KernelIdeal Cert.KernelIdeal.Gen
open Idealize.ShloMosaic

theorem zero1_real : (zero1 : Ideal .f32) = (0 : EReal) := Ideal.ofBits_zero_f32
theorem one1_real : (one1 : Ideal .f32) = (1 : EReal) := Ideal.ofBits_one_f32

/-- `t` where the word of row `r` names segment `v`, else zero. -/
def hit (b : S50000.Idx → BitVec 32) (v r : ℕ) (t : EReal) : EReal := if (b (at' S50000 pos50000 ![r])).toNat = v then t else 0

theorem lanesA_real (X : S80x128.Idx → EReal) (I : S80.Idx → BitVec 32) (A : S65536.Idx → EReal) (i : S65536.Idx) : ∀ n,
    (lanesA (F := Ideal) X I A 0 n i : EReal)
      = A i + ∑ l ∈ Finset.range n, if (segOf I l).toNat = (i 0).val / 128 then rowOf (F := Ideal) X l ((i 0).val % 128) else (0 : EReal)
  | 0 => by simp [lanesA]
  | n + 1 => by
    rw [Finset.sum_range_succ, ← add_assoc, ← lanesA_real X I A i n]
    show (addRow (F := Ideal) (lanesA X I A 0 n) (segOf I (0 + n)).toNat (rowOf X (0 + n)) i : EReal) = _
    rw [Nat.zero_add]
    unfold addRow
    by_cases h : (i 0).val / 128 = (segOf I n).toNat
    · rw [if_pos h, if_pos h.symm]; rfl
    · rw [if_neg h, if_neg (fun e => h e.symm), add_zero]

theorem lanesB_real (I : S80.Idx → BitVec 32) (B : S8192.Idx → EReal) (i : S8192.Idx) : ∀ n,
    (lanesB (F := Ideal) I B 0 n i : EReal) = B i + ∑ l ∈ Finset.range n, if (segOf I l).toNat = (i 0).val / 16 then (1 : EReal) else 0
  | 0 => by simp [lanesB]
  | n + 1 => by
    rw [Finset.sum_range_succ, ← add_assoc, ← lanesB_real I B i n]
    show (addOne (F := Ideal) (lanesB I B 0 n) (segOf I (0 + n)).toNat one1 i : EReal) = _
    rw [Nat.zero_add, one1_real]
    unfold addOne
    by_cases h : (i 0).val / 16 = (segOf I n).toNat
    · rw [if_pos h, if_pos h.symm]; rfl
    · rw [if_neg h, if_neg (fun e => h e.symm), add_zero]

theorem segOf_chunk_row (b : S50000.Idx → BitVec 32) (k l : ℕ) (hl : l < 80) :
    segOf (chunkI b k) l = b (at' S50000 pos50000 ![80 * k + l]) := by
  have e : ((at' S80 pos80 ![l]) 0).val = l := Nat.mod_eq_of_lt hl
  show b (at' S50000 pos50000 ![80 * k + ((at' S80 pos80 ![l]) 0).val]) = _
  rw [e]

theorem rowOf_chunk_row (x : S50000x256.Idx → EReal) (c k l j : ℕ) (hl : l < 80) (hj : j < 128) :
    (rowOf (F := Ideal) (chunkX (F := Ideal) x c k) l j : EReal) = x (at' S50000x256 pos50000x256 ![80 * k + l, 128 * c + j]) := by
  have e0 : ((at' S80x128 pos80x128 ![l, j]) 0).val = l := Nat.mod_eq_of_lt hl
  have e1 : ((at' S80x128 pos80x128 ![l, j]) 1).val = j := Nat.mod_eq_of_lt hj
  show x (at' S50000x256 pos50000x256 ![80 * k + ((at' S80x128 pos80x128 ![l, j]) 0).val, 128 * c + ((at' S80x128 pos80x128 ![l, j]) 1).val]) = _
  rw [e0, e1]

theorem lanesA_chunk (x : S50000x256.Idx → EReal) (b : S50000.Idx → BitVec 32) (c k : ℕ) (A : S65536.Idx → EReal) (i : S65536.Idx) :
    (lanesA (F := Ideal) (chunkX (F := Ideal) x c k) (chunkI b k) A 0 80 i : EReal)
      = A i + ∑ l ∈ Finset.range 80, hit b ((i 0).val / 128) (80 * k + l) (x (at' S50000x256 pos50000x256 ![80 * k + l, 128 * c + (i 0).val % 128])) := by
  rw [lanesA_real]
  refine congrArg (A i + ·) (Finset.sum_congr rfl fun l hl => ?_)
  have hl' := Finset.mem_range.1 hl
  rw [segOf_chunk_row b k l hl', rowOf_chunk_row x c k l _ hl' (Nat.mod_lt _ (by norm_num))]
  rfl

theorem lanesB_chunk (b : S50000.Idx → BitVec 32) (k : ℕ) (B : S8192.Idx → EReal) (i : S8192.Idx) :
    (lanesB (F := Ideal) (chunkI b k) B 0 80 i : EReal) = B i + ∑ l ∈ Finset.range 80, hit b ((i 0).val / 16) (80 * k + l) 1 := by
  rw [lanesB_real]
  refine congrArg (B i + ·) (Finset.sum_congr rfl fun l hl => ?_)
  rw [segOf_chunk_row b k l (Finset.mem_range.1 hl)]
  rfl

theorem totA_real (x : S50000x256.Idx → EReal) (b : S50000.Idx → BitVec 32) (c k : ℕ) (i : S65536.Idx) : ∀ n,
    (totA (F := Ideal) x b c k n i : EReal)
      = ∑ r ∈ Finset.range (80 * n), hit b ((i 0).val / 128) (80 * k + r) (x (at' S50000x256 pos50000x256 ![80 * k + r, 128 * c + (i 0).val % 128]))
  | 0 => zero1_real
  | n + 1 => by
    refine (lanesA_chunk x b c (k + n) (totA (F := Ideal) x b c k n) i).trans ?_
    rw [totA_real x b c k i n, Nat.mul_succ, Finset.sum_range_add]
    refine congrArg (_ + ·) (Finset.sum_congr rfl fun l _ => ?_)
    rw [show 80 * (k + n) + l = 80 * k + (80 * n + l) by ring]

theorem totB_real (b : S50000.Idx → BitVec 32) (k : ℕ) (i : S8192.Idx) : ∀ n,
    (totB (F := Ideal) b k n i : EReal) = ∑ r ∈ Finset.range (80 * n), hit b ((i 0).val / 16) (80 * k + r) 1
  | 0 => zero1_real
  | n + 1 => by
    refine (lanesB_chunk b (k + n) (totB (F := Ideal) b k n) i).trans ?_
    rw [totB_real b k i n, Nat.mul_succ, Finset.sum_range_add]
    refine congrArg (_ + ·) (Finset.sum_congr rfl fun l _ => ?_)
    rw [show 80 * (k + n) + l = 80 * k + (80 * n + l) by ring]

/-- Intervals that join have the sum of the whole. -/
theorem sum_joined (f : ℕ → EReal) (u : ℕ → ℕ) (h0 : u 0 = 0) (hu : ∀ s, u s ≤ u (s + 1)) : ∀ m,
    ∑ s ∈ Finset.range m, ∑ r ∈ Finset.range (80 * (u (s + 1) - u s)), f (80 * u s + r) = ∑ r ∈ Finset.range (80 * u m), f r
  | 0 => by rw [h0]; simp
  | m + 1 => by
    rw [Finset.sum_range_succ, sum_joined f u h0 hu m, ← Finset.sum_range_add]
    congr 2
    have := hu m
    omega

/-- The sixteen tiles' rows are all the rows. -/
theorem sum_tiles (f : ℕ → EReal) :
    ∑ s : Fin 16, ∑ r ∈ Finset.range (80 * (625 * (s.val + 1) / 16 - 625 * s.val / 16)), f (80 * (625 * s.val / 16) + r)
      = ∑ r : Fin 50000, f r.val := by
  rw [Fin.sum_univ_eq_sum_range (fun s => ∑ r ∈ Finset.range (80 * (625 * (s + 1) / 16 - 625 * s / 16)), f (80 * (625 * s / 16) + r)) 16,
    sum_joined f (fun s => 625 * s / 16) rfl (fun s => Nat.div_le_div_right (by omega)) 16,
    Fin.sum_univ_eq_sum_range f 50000]

/-- A cell of the sums, added over the tiles. -/
theorem outS_sum (x : S50000x256.Idx → EReal) (b : S50000.Idx → BitVec 32) (J : Fin 16 → S16x2x65536.Idx) (c o : ℕ)
    (h0 : ∀ s, (J s 0).val = s.val) (h1 : ∀ s, (J s 1).val = c) (h2 : ∀ s, (J s 2).val = o) :
    (∑ s, (outS (F := Ideal) x b (J s) : EReal))
      = ∑ r : Fin 50000, hit b (o / 128) r.val (x (at' S50000x256 pos50000x256 ![r.val, 128 * c + o % 128])) := by
  refine (Finset.sum_congr rfl fun s _ => ?_).trans (sum_tiles fun r => hit b (o / 128) r (x (at' S50000x256 pos50000x256 ![r, 128 * c + o % 128])))
  have ho : o < 65536 := by rw [← h2 s]; exact (J s 2).isLt
  unfold outS
  rw [totA_real, h0, h1, h2]
  have e : ((at' S65536 pos65536 ![o]) 0).val = o := Nat.mod_eq_of_lt ho
  rw [e]

/-- A cell of the counts, added over the tiles. -/
theorem outC_sum (b : S50000.Idx → BitVec 32) (J : Fin 16 → S16x2x8192.Idx) (o : ℕ)
    (h0 : ∀ s, (J s 0).val = s.val) (h2 : ∀ s, (J s 2).val = o) :
    (∑ s, (outC (F := Ideal) b (J s) : EReal)) = ∑ r : Fin 50000, hit b (o / 16) r.val 1 := by
  refine (Finset.sum_congr rfl fun s _ => ?_).trans (sum_tiles fun r => hit b (o / 16) r 1)
  have ho : o < 8192 := by rw [← h2 s]; exact (J s 2).isLt
  unfold outC
  rw [totB_real, h0, h2]
  have e : ((at' S8192 pos8192 ![o]) 0).val = o := Nat.mod_eq_of_lt ho
  rw [e]

end Cert.Proof.Seg

end
-- ==== Proof.ValueRef.lean ====
/-
  The reference's two scattered sums over the reals, at a cell: the sum of the entries of the rows whose word names the
  cell's segment.
-/
module

public import proofs.«01_k».proof.Proof.ValueTab
public import proofs.«01_k».proof.Proof.RefRun
public import Idealize.ShloMosaic.Lib.Routing.OpsPair

@[expose] public section

noncomputable section

namespace Cert.Proof.SegRef

open Cert.ReferenceIdeal Cert.ReferenceIdeal.Gen
open Idealize.ShloMosaic

abbrev dX : ScatterDims S512x256 S50000x1 S50000x256 := scatter_S512x256_S50000x1_S50000x256_1_0_0_1
abbrev dC : ScatterDims S512 S50000x1 S50000 := scatter_S512_S50000x1_S50000_n_0_0_1

/-- A word below 512 reads as itself. -/
theorem small_toInt (w : BitVec 32) (h : w.toNat < 512) : w.toInt = (w.toNat : ℤ) := by
  rw [BitVec.toInt_eq_toNat_of_lt (by omega)]

/-- The words as a column. -/
abbrev colI (b : IVec S50000 32) : IVec S50000x1 32 := broadcastInDim S50000x1 ![0] bcast_S50000_S50000x1_0 b

theorem colI_apply (b : IVec S50000 32) (i : S50000x1.Idx) (r : Fin 50000) (h : (i 0).val = r.val) : colI b i = b (ix1 r) := by
  show b _ = b _
  congr 1
  funext a; apply Fin.ext
  obtain rfl : a = (0 : Fin 1) := Subsingleton.elim (α := Fin 1) _ _
  exact h

theorem startX0 (b : IVec S50000 32) (r : Fin 50000) (q : Fin 256) : dX.start (ix2 r q) (colI b) 0 = (b (ix1 r)).toInt := by
  unfold ScatterDims.start
  rw [dif_pos (show (0 : Fin 2) ∈ dX.scatterDimsToOperandDims from List.mem_singleton.2 rfl)]
  exact congrArg BitVec.toInt (colI_apply b _ r rfl)
theorem startX1 (b : IVec S50000 32) (r : Fin 50000) (q : Fin 256) : dX.start (ix2 r q) (colI b) 1 = 0 := by
  unfold ScatterDims.start
  rw [dif_neg (show ¬ (1 : Fin 2) ∈ dX.scatterDimsToOperandDims from fun h => absurd (List.mem_singleton.1 h) (by decide))]
theorem windowX0 (r : Fin 50000) (q : Fin 256) : dX.window (ix2 r q) 0 = 0 := rfl
theorem windowX1 (r : Fin 50000) (q : Fin 256) : dX.window (ix2 r q) 1 = q.val := rfl

theorem startC (b : IVec S50000 32) (r : Fin 50000) : dC.start (ix1 r) (colI b) 0 = (b (ix1 r)).toInt := by
  unfold ScatterDims.start
  rw [dif_pos (show (0 : Fin 1) ∈ dC.scatterDimsToOperandDims from List.mem_singleton.2 rfl)]
  exact congrArg BitVec.toInt (colI_apply b _ r rfl)
theorem windowC (r : Fin 50000) : dC.window (ix1 r) 0 = 0 := rfl

theorem landsX (b : IVec S50000 32) (hb : ∀ j, (b j).toNat < 512) (r : Fin 50000) (q k : Fin 256) (v : Fin 512) :
    dX.resultIdx? (ix2 r q) (colI b) = some (ix2 v k) ↔ (b (ix1 r)).toNat = v.val ∧ q = k := by
  rw [Routing.resultIdx?_eq_some]
  have e0 := startX0 b r q
  rw [small_toInt _ (hb _)] at e0
  constructor
  · intro h
    have h0 := h 0
    have h1 := h 1
    rw [e0, windowX0] at h0
    rw [startX1, windowX1] at h1
    have h0' : ((b (ix1 r)).toNat : ℤ) + ((0 : ℕ) : ℤ) = (v.val : ℤ) := h0
    have h1' : (0 : ℤ) + (q.val : ℤ) = (k.val : ℤ) := h1
    exact ⟨by omega, Fin.ext (by omega)⟩
  · rintro ⟨h0, rfl⟩ a
    match a with
    | ⟨0, _⟩ =>
      show dX.start (ix2 r q) (colI b) 0 + (dX.window (ix2 r q) 0 : ℤ) = (v.val : ℤ)
      rw [e0, windowX0, h0]; simp
    | ⟨1, _⟩ =>
      show dX.start (ix2 r q) (colI b) 1 + (dX.window (ix2 r q) 1 : ℤ) = (q.val : ℤ)
      rw [startX1, windowX1]; simp

theorem landsC (b : IVec S50000 32) (hb : ∀ j, (b j).toNat < 512) (r : Fin 50000) (v : Fin 512) :
    dC.resultIdx? (ix1 r) (colI b) = some (ix1 v) ↔ (b (ix1 r)).toNat = v.val := by
  rw [Routing.resultIdx?_eq_some]
  have e0 := startC b r
  rw [small_toInt _ (hb _)] at e0
  constructor
  · intro h
    have h0 := h 0
    rw [e0, windowC] at h0
    have h0' : ((b (ix1 r)).toNat : ℤ) + ((0 : ℕ) : ℤ) = (v.val : ℤ) := h0
    omega
  · intro h0 a
    match a with
    | ⟨0, _⟩ =>
      show dC.start (ix1 r) (colI b) 0 + (dC.window (ix1 r) 0 : ℤ) = (v.val : ℤ)
      rw [e0, windowC, h0]; simp

theorem row_idx (r : Fin 50000) : (Seg.at' Cert.KernelIdeal.S50000 Seg.pos50000 ![r.val] : S50000.Idx) = ix1 r := by
  funext a; apply Fin.ext
  obtain rfl : a = (0 : Fin 1) := Subsingleton.elim (α := Fin 1) _ _
  exact Nat.mod_eq_of_lt r.isLt

theorem cell_idx (r : Fin 50000) (k : Fin 256) :
    (Seg.at' Cert.KernelIdeal.S50000x256 Seg.pos50000x256 ![r.val, k.val] : S50000x256.Idx) = ix2 r k := by
  funext a; apply Fin.ext
  match a with
  | ⟨0, _⟩ => exact Nat.mod_eq_of_lt r.isLt
  | ⟨1, _⟩ => exact Nat.mod_eq_of_lt k.isLt

/-- The reference's sums at a cell. -/
theorem refSum_real (x : S50000x256.Idx → EReal) (b : IVec S50000 32) (hb : ∀ j, (b j).toNat < 512) (v : Fin 512) (k : Fin 256) :
    (refSum (F := Ideal) x b (ix2 v k) : EReal)
      = ∑ r : Fin 50000, Seg.hit b v.val r.val (x (Seg.at' Cert.KernelIdeal.S50000x256 Seg.pos50000x256 ![r.val, k.val])) := by
  refine (show (refSum (F := Ideal) x b (ix2 v k) : EReal)
    = Ideal.ofBits .f32 0x00000000#32 + ∑ j ∈ Finset.univ.filter (fun j => dX.resultIdx? j (colI b) = some (ix2 v k)), x j from rfl).trans ?_
  rw [Ideal.ofBits_zero_f32, zero_add, Finset.sum_filter, sum_idx2]
  refine Finset.sum_congr rfl fun r _ => ?_
  unfold Seg.hit
  rw [row_idx, cell_idx]
  by_cases h : (b (ix1 r)).toNat = v.val
  · rw [if_pos h]
    refine (Finset.sum_congr rfl fun q _ => if_congr ((landsX b hb r q k v).trans (and_iff_right h)) rfl rfl).trans ?_
    rw [Finset.sum_ite_eq' Finset.univ k, if_pos (Finset.mem_univ k)]
  · rw [if_neg h]
    exact Finset.sum_eq_zero fun q _ => if_neg fun e => h ((landsX b hb r q k v).1 e).1

/-- The reference's counts at a segment. -/
theorem refCnt_real (b : IVec S50000 32) (hb : ∀ j, (b j).toNat < 512) (v : Fin 512) :
    (refCnt (F := Ideal) b (ix1 v) : EReal) = ∑ r : Fin 50000, Seg.hit b v.val r.val 1 := by
  refine (show (refCnt (F := Ideal) b (ix1 v) : EReal)
    = Ideal.ofBits .f32 0x00000000#32 + ∑ j ∈ Finset.univ.filter (fun j => dC.resultIdx? j (colI b) = some (ix1 v)), Ideal.ofBits .f32 0x3F800000#32 from rfl).trans ?_
  rw [Ideal.ofBits_zero_f32, Ideal.ofBits_one_f32, zero_add, Finset.sum_filter, sum_idx1]
  refine Finset.sum_congr rfl fun r _ => ?_
  unfold Seg.hit
  rw [row_idx]
  exact if_congr (landsC b hb r v) rfl rfl

end Cert.Proof.SegRef

end
-- ==== Proof.Value.lean ====
/-
  The value: over the reals the kernel's result is the reference's, for words below 512.
-/
module

public import proofs.«01_k».proof.Proof.ValueRef
public import proofs.«01_k».proof.Proof.Main
public import Idealize.ShloMosaic.Lib.IdealHost

@[expose] public section

set_option maxRecDepth 16384

noncomputable section

namespace Cert.Proof.Seg

open Cert.KernelIdeal Cert.KernelIdeal.Gen
open Idealize.ShloMosaic

/-- The finish at a cell: the two half products of the averaged sums with the weights, and the bias. -/
theorem fin_at (A : FVec Ideal S16x2x512x128 .f32) (B : FVec Ideal S16x2x512x16 .f32) (w : FVec Ideal S128x256 .f32) (e : FVec Ideal S1x128 .f32)
    (j : S512x128.Idx) :
    (finVal (F := Ideal) A B w e j : EReal)
      = ∑ k : Fin 128, (∑ s, A (ix4 s 0 (j 0) k)) * Ideal.div 1 (max 1 (∑ s, B (ix4 s 0 (j 0) 0)))
            * w ((Rect.unit (s := S128x256) ![0, 0] S128x128.size inb_S128x256_S128x128_0_0).emb (ix2 (j 1) k))
        + ∑ k : Fin 128, (∑ s, A (ix4 s 1 (j 0) k)) * Ideal.div 1 (max 1 (∑ s, B (ix4 s 0 (j 0) 0)))
            * w ((Rect.unit (s := S128x256) ![0, 128] S128x128.size inb_S128x256_S128x128_0_128).emb (ix2 (j 1) k))
        + e (ix2 0 (j 1)) := by
  pointwise [finVal, k1_pay1]

/-- The reference at a cell. -/
theorem ref_at (x : FVec Ideal S50000x256 .f32) (b : IVec S50000 32) (w : FVec Ideal S128x256 .f32) (e : FVec Ideal S128 .f32)
    (j : S512x128.Idx) :
    (SegRef.refVal (F := Ideal) x b w e j : EReal)
      = ∑ k : Fin 256, Ideal.div (SegRef.refSum (F := Ideal) x b (ix2 (j 0) k)) (max 1 (SegRef.refCnt (F := Ideal) b (ix1 (j 0)))) * w (ix2 (j 1) k) + e (ix1 (j 1)) := by
  pointwise [SegRef.refVal]

theorem castA (A : FVec Ideal S16x2x65536 .f32) (s : Fin 16) (c : Fin 2) (v : Fin 512) (k : Fin 128) :
    shapeCast S16x2x512x128 A shapeCasts_S16x2x65536_S16x2x512x128 (ix4 s c v k) = A (ix3 s c ⟨v.val * 128 + k.val, by omega⟩) := by
  pointwise

theorem castB (A : FVec Ideal S16x2x8192 .f32) (s : Fin 16) (c : Fin 2) (v : Fin 512) (k : Fin 16) :
    shapeCast S16x2x512x16 A shapeCasts_S16x2x8192_S16x2x512x16 (ix4 s c v k) = A (ix3 s c ⟨v.val * 16 + k.val, by omega⟩) := by
  pointwise

theorem castE (A : FVec Ideal S128 .f32) (k : Fin 128) : shapeCast S1x128 A shapeCasts_S128_S1x128 (ix2 0 k) = A (ix1 k) := by
  pointwise

theorem emb_low (i k : Fin 128) : (Rect.unit (s := S128x256) ![0, 0] S128x128.size inb_S128x256_S128x128_0_0).emb (ix2 i k)
    = ix2 i (⟨k.val, by omega⟩ : Fin 256) := by
  funext a; apply Fin.ext
  match a with
  | ⟨0, _⟩ => show 0 + 1 * i.val = i.val; omega
  | ⟨1, _⟩ => show 0 + 1 * k.val = k.val; omega

theorem emb_high (i k : Fin 128) : (Rect.unit (s := S128x256) ![0, 128] S128x128.size inb_S128x256_S128x128_0_128).emb (ix2 i k)
    = ix2 i (⟨128 + k.val, by omega⟩ : Fin 256) := by
  funext a; apply Fin.ext
  match a with
  | ⟨0, _⟩ => show 0 + 1 * i.val = i.val; omega
  | ⟨1, _⟩ => show 128 + 1 * k.val = 128 + k.val; omega

variable (x : FVec Ideal S50000x256 .f32) (b : IVec S50000 32) (hb : ∀ j, (b j).toNat < 512)
include hb

/-- A cell of the sums, added over the tiles, is the reference's. -/
theorem sums_same (v : Fin 512) (c : Fin 2) (k : Fin 128) (q : Fin 256) (hq : q.val = 128 * c.val + k.val) :
    (∑ s, shapeCast S16x2x512x128 (outS (F := Ideal) x b) shapeCasts_S16x2x65536_S16x2x512x128 (ix4 s c v k) : EReal)
      = SegRef.refSum (F := Ideal) x b (ix2 v q) := by
  refine (Finset.sum_congr rfl fun s _ => castA _ s c v k).trans ?_
  rw [SegRef.refSum_real x b hb, hq]
  refine (outS_sum x b (fun s => ix3 s c ⟨v.val * 128 + k.val, by omega⟩) c.val (v.val * 128 + k.val) (fun _ => rfl) (fun _ => rfl) (fun _ => rfl)).trans ?_
  rw [show (v.val * 128 + k.val) / 128 = v.val by omega, show (v.val * 128 + k.val) % 128 = k.val by omega]

/-- A cell of the counts, added over the tiles, is the reference's. -/
theorem cnts_same (v : Fin 512) :
    (∑ s, shapeCast S16x2x512x16 (outC (F := Ideal) b) shapeCasts_S16x2x8192_S16x2x512x16 (ix4 s 0 v 0) : EReal) = SegRef.refCnt (F := Ideal) b (ix1 v) := by
  refine (Finset.sum_congr rfl fun s _ => castB _ s 0 v 0).trans ?_
  rw [SegRef.refCnt_real b hb]
  refine (outC_sum b (fun s => ix3 s 0 ⟨v.val * 16 + (0 : Fin 16).val, by omega⟩) (v.val * 16) (fun _ => rfl) (fun _ => rfl)).trans ?_
  rw [show v.val * 16 / 16 = v.val by omega]

/-- The kernel's function is the reference's. -/
theorem values_same (w : FVec Ideal S128x256 .f32) (e : FVec Ideal S128 .f32) :
    finVal (F := Ideal) (shapeCast S16x2x512x128 (outS (F := Ideal) x b) shapeCasts_S16x2x65536_S16x2x512x128)
      (shapeCast S16x2x512x16 (outC (F := Ideal) b) shapeCasts_S16x2x8192_S16x2x512x16) w (shapeCast S1x128 e shapeCasts_S128_S1x128)
      = SegRef.refVal x b w e := by
  funext j
  refine (fin_at _ _ w _ j).trans (Eq.trans ?_ (ref_at x b w e j).symm)
  have hn : max 1 (SegRef.refCnt (F := Ideal) b (ix1 (j 0)) : EReal) ≠ 0 := by
    intro h0
    have h1 : (1 : EReal) ≤ max 1 (SegRef.refCnt (F := Ideal) b (ix1 (j 0))) := le_max_left _ _
    rw [h0] at h1
    exact absurd h1 (by simp)
  rw [cnts_same b hb (j 0), Fin.sum_univ_two_halves 128 128 rfl]
  refine congr (congrArg (fun a c : EReal => a + c) ?_) (castE e (j 1))
  refine congrArg₂ (fun a c : EReal => a + c) (Finset.sum_congr rfl fun k _ => ?_) (Finset.sum_congr rfl fun k _ => ?_)
  · rw [sums_same x b hb (j 0) 0 k ⟨k.val, by omega⟩ (by show k.val = 128 * 0 + k.val; omega), Ideal.mul_one_div hn]
    exact congr (Eq.refl (HMul.hMul _)) (congrArg w (emb_low (j 1) k))
  · rw [sums_same x b hb (j 0) 1 k ⟨128 + k.val, by omega⟩ (by show 128 + k.val = 128 * 1 + k.val; omega), Ideal.mul_one_div hn]
    exact congr (Eq.refl (HMul.hMul _)) (congrArg w (emb_high (j 1) k))

omit hb in
/-- What the kernel leaves is what the reference leaves. -/
theorem resAt_eq (m : (ℓ : Loc nD τ sig) → Buf (Elt Ideal) ℓ) (c : Dev nD) (h : ∀ j : S50000.Idx, (m (tLoc c main_arg1) j : BitVec 32).toNat < 512) :
    resAt m c = SegRef.refVal (F := Ideal) (m (tLoc c main_arg0)) (m (tLoc c main_arg1)) (m (tLoc c main_arg2)) (m (tLoc c main_arg3)) :=
  values_same (m (tLoc c main_arg0)) (m (tLoc c main_arg1)) h (m (tLoc c main_arg2)) (m (tLoc c main_arg3))

end Cert.Proof.Seg

end
-- ==== Proof.lean ====
/-
  The certificate. The kernel ends with its result at `Seg.resAt` and its arguments as they were (Proof/Main.lean), at the words as printed and
  at the extended reals alike; the reference ends with its result at `SegRef.refVal` (Proof/RefRun.lean), and the two are equal (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_segments_in_range
public import proofs.«01_k».proof.Proof.Main
public import proofs.«01_k».proof.Proof.RefRun
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

theorem kernel_frame : Cert.quiescent_Kernel :=
  fun m g h => by
    have e := Seg.run_args (F := Bits) m g (fun d j => Seg.pre_words _ _ _ _ (h d) j)
    rw [← Same.defs_eq, ← Same.threads_eq] at e
    exact e

theorem ideal_frame : Cert.quiescent_KernelIdeal :=
  fun m g h => Seg.run_args (F := Ideal) m g (fun d j => Seg.pre_words _ _ _ _ (h d) j)

theorem reference_frame : Cert.quiescent_ReferenceIdeal :=
  fun m g _ => (θ_run Cert.ReferenceIdeal.defs _ _).mono (fun _ hr => ⟨fun c => (hr.1 c).2, hr.2⟩) (SegRef.run_ref m g)

theorem reference_frame_pre : Cert.quiescent_ReferenceIdeal_pre_segments_in_range := fun m g _ => reference_frame m g trivial

theorem equal_results : Cert.algebraic_KernelIdeal_ReferenceIdeal :=
  fun m g m' g' h hag => ⟨fun c => Seg.resAt m c,
    (θ_run Cert.KernelIdeal.defs _ _).mono (fun _ hr => hr.1)
      (Seg.run_main (F := Ideal) m g (fun d j => Seg.pre_words _ _ _ _ (h d) j)),
    (θ_run Cert.ReferenceIdeal.defs _ _).mono (fun _ hr c => ⟨(hr.1 c).1.trans (by
        rw [(hag c).1, (hag c).2.1, (hag c).2.2.1, (hag c).2.2.2]
        exact (Seg.resAt_eq m c (fun j => Seg.pre_words _ _ _ _ (h c) j)).symm), (hr.1 c).2⟩) (SegRef.run_ref m' g')⟩

theorem claim : Cert.Claim := ⟨Cert.Kernel.Gen.facts, Cert.KernelIdeal.Gen.facts, Cert.ReferenceIdeal.Gen.facts, Cert.Pre_segments_in_range.Gen.facts,
  kernel_frame, ideal_frame, reference_frame, reference_frame_pre, trivial, equal_results⟩

end Cert.Proof

end
